-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_is_binary [hPre_mask_is_binary : Cert.Pre_mask_is_binary.Facts] (m : (ℓ : Loc Cert.KernelIdeal.nD Cert.KernelIdeal.τ Cert.KernelIdeal.sig) → Buf (Elt Ideal) ℓ) : Prop :=
  ∀ c : Dev Cert.KernelIdeal.nD,
    (Cert.Pre_mask_is_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_is_binary [hPre_mask_is_binary : Cert.Pre_mask_is_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_is_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_mask_is_binary [hKernelIdeal : Cert.KernelIdeal.Facts] [hPre_mask_is_binary : Cert.Pre_mask_is_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_is_binary m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_mask_is_binary [hReferenceIdeal : Cert.ReferenceIdeal.Facts] [hPre_mask_is_binary : Cert.Pre_mask_is_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_is_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "thr1" .f32 0x41992000#32 ((44135276348228554957 / 2305843009213693952 : ℝ) : EReal)
  ∧ IdealRules.named_const.Statement Cert.KernelIdeal.κ "thr2" .f32 0x41E72000#32 ((66617245688062070989 / 2305843009213693952 : ℝ) : EReal)
  ∧ IdealRules.named_const.Statement Cert.KernelIdeal.κ "thr3" .f32 0x42229000#32 ((93710901046322974925 / 2305843009213693952 : ℝ) : EReal)
  ∧ IdealRules.named_const.Statement Cert.KernelIdeal.κ "thr4" .f32 0x42599000#32 ((125416242423011266765 / 2305843009213693952 : ℝ) : EReal)
  ∧ IdealRules.named_const.Statement Cert.KernelIdeal.κ "thr5" .f32 0x428C4800#32 ((161733269818126946509 / 2305843009213693952 : ℝ) : EReal)
  ∧ IdealRules.named_const.Statement Cert.KernelIdeal.κ "thr6" .f32 0x42AFC800#32 ((202661983231670014157 / 2305843009213693952 : ℝ) : EReal)
  ∧ IdealRules.named_const.Statement Cert.KernelIdeal.κ "thr7" .f32 0x42D74800#32 ((248202382663640469709 / 2305843009213693952 : ℝ) : EReal)
  ∧ IdealRules.named_const.Statement Cert.KernelIdeal.κ "thr8" .f32 0x43016400#32 ((298354468114038313165 / 2305843009213693952 : ℝ) : EReal)
  ∧ IdealRules.named_const.Statement Cert.KernelIdeal.κ "thr9" .f32 0x43192400#32 ((353118239582863544525 / 2305843009213693952 : ℝ) : EReal)
  ∧ IdealRules.named_const.Statement Cert.KernelIdeal.κ "thr10" .f32 0x4332E400#32 ((412493697070116163789 / 2305843009213693952 : ℝ) : EReal)
  ∧ IdealRules.named_const.Statement Cert.KernelIdeal.κ "thr11" .f32 0x434EA400#32 ((476480840575796170957 / 2305843009213693952 : ℝ) : EReal)
  ∧ IdealRules.named_const.Statement Cert.KernelIdeal.κ "thr12" .f32 0x436C6400#32 ((545079670099903566029 / 2305843009213693952 : ℝ) : EReal)
  ∧ IdealRules.named_const.Statement Cert.KernelIdeal.κ "thr13" .f32 0x43861200#32 ((618290185642438349005 / 2305843009213693952 : ℝ) : EReal)
  ∧ IdealRules.named_const.Statement Cert.KernelIdeal.κ "thr14" .f32 0x4396F200#32 ((696112387203400519885 / 2305843009213693952 : ℝ) : EReal)
  ∧ IdealRules.named_const.Statement Cert.KernelIdeal.κ "thr15" .f32 0x43A8D200#32 ((778546274782790078669 / 2305843009213693952 : ℝ) : EReal)
  ∧ IdealRules.named_const.Statement Cert.KernelIdeal.κ "thr16" .f32 0x43BBB200#32 ((865591848380607025357 / 2305843009213693952 : ℝ) : EReal)
  ∧ IdealRules.named_const.Statement Cert.KernelIdeal.κ "thr17" .f32 0x43CF9200#32 ((957249107996851359949 / 2305843009213693952 : ℝ) : EReal)

def algebraic_KernelIdeal_ReferenceIdeal_pre_mask_is_binary [hKernelIdeal : Cert.KernelIdeal.Facts] [hReferenceIdeal : Cert.ReferenceIdeal.Facts] [hPre_mask_is_binary : Cert.Pre_mask_is_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_is_binary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_mask_is_binary : Cert.Pre_mask_is_binary.Facts),
    quiescent_Kernel (hKernel := hKernel)
    ∧ quiescent_KernelIdeal (hKernelIdeal := hKernelIdeal)
    ∧ quiescent_KernelIdeal_pre_mask_is_binary (hKernelIdeal := hKernelIdeal) (hPre_mask_is_binary := hPre_mask_is_binary)
    ∧ quiescent_ReferenceIdeal (hReferenceIdeal := hReferenceIdeal)
    ∧ quiescent_ReferenceIdeal_pre_mask_is_binary (hReferenceIdeal := hReferenceIdeal) (hPre_mask_is_binary := hPre_mask_is_binary)
    ∧ preserves_Kernel_KernelIdeal
    ∧ algebraic_KernelIdeal_ReferenceIdeal_pre_mask_is_binary (hKernelIdeal := hKernelIdeal) (hReferenceIdeal := hReferenceIdeal) (hPre_mask_is_binary := hPre_mask_is_binary)
-- ==== Pre_mask_is_binary.lean ====
abbrev S2x512x14x3 : Shape := ⟨4, ![2, 512, 14, 3]⟩
abbrev S2x512x14 : Shape := ⟨3, ![2, 512, 14]⟩
abbrev S18x128 : Shape := ⟨2, ![18, 128]⟩
abbrev S2x512x1 : Shape := ⟨3, ![2, 512, 1]⟩
abbrev S2x512 : Shape := ⟨2, ![2, 512]⟩
abbrev S_ : Shape := ⟨0, ![]⟩

class Facts : Prop where
  slices_S2x512x14_S2x512x1_0_0_1 : S2x512x14.Slices ![0, 0, 1] S2x512x1
  shapeCasts_S2x512x1_S2x512 : S2x512x1.ShapeCasts S2x512
  bcast_S_S2x512 : S_.BroadcastsInDim S2x512 (![] : Fin 0 → Fin S2x512.rank)
  reducesTo_S2x512_S_d0_1 : S2x512.ReducesTo [0, 1] S_
  h_S_ : 0 < S_.numel

variable [Facts]

def fn {F : FTy → Type} [FloatOps F] (main_arg0 : FVec F S2x512x14x3 .f32) (main_arg1 : FVec F S2x512x14 .f32) (main_arg2 : FVec F S18x128 .f32) : IVec S_ 1 :=
  let main_v0 : FVec F S2x512x1 .f32 := (extractStridedSlice S2x512x1 ![0, 0, 1] · slices_S2x512x14_S2x512x1_0_0_1) main_arg1
  let main_v1 : FVec F S2x512 .f32 := shapeCast S2x512 main_v0 shapeCasts_S2x512x1_S2x512
  let main_cst : FVec F S_ .f32 := constant S_ .f32 0x00000000#32
  let main_v2 : FVec F S2x512 .f32 := broadcastInDim S2x512 ![] bcast_S_S2x512 main_cst
  let main_v3 : IVec S2x512 1 := cmpf .oeq main_v1 main_v2
  let main_cst_0 : FVec F S_ .f32 := constant S_ .f32 0x3F800000#32
  let main_v4 : FVec F S2x512 .f32 := broadcastInDim S2x512 ![] bcast_S_S2x512 main_cst_0
  let main_v5 : IVec S2x512 1 := cmpf .oeq main_v1 main_v4
  let main_v6 : IVec S2x512 1 := ori main_v3 main_v5
  let main_c : IVec S_ 1 := constantI S_ 1 1#1
  let main_v7 : IVec S_ 1 := (fun x v => Host.reduce IntOp.andi x v reducesTo_S2x512_S_d0_1 h_S_) main_v6 main_c
  main_v7
-- ==== Kernel.lean ====
abbrev S2x512x14x3 : Shape := ⟨4, ![2, 512, 14, 3]⟩
abbrev S2x512x14 : Shape := ⟨3, ![2, 512, 14]⟩
abbrev S18x128 : Shape := ⟨2, ![18, 128]⟩
abbrev S2x512x1x3 : Shape := ⟨4, ![2, 512, 1, 3]⟩
abbrev S2x512x3 : Shape := ⟨3, ![2, 512, 3]⟩
abbrev S2x512x1 : Shape := ⟨3, ![2, 512, 1]⟩
abbrev S2x512 : Shape := ⟨2, ![2, 512]⟩
abbrev S2x3x512 : Shape := ⟨3, ![2, 3, 512]⟩
abbrev S3072 : Shape := ⟨1, ![3072]⟩
abbrev S1024 : Shape := ⟨1, ![1024]⟩
abbrev S_ : Shape := ⟨0, ![]⟩
abbrev S1x128 : Shape := ⟨2, ![1, 128]⟩
abbrev S19x128 : Shape := ⟨2, ![19, 128]⟩
abbrev S2432 : Shape := ⟨1, ![2432]⟩
abbrev S524288x128 : Shape := ⟨2, ![524288, 128]⟩
abbrev S256x128 : Shape := ⟨2, ![256, 128]⟩
abbrev S16 : Shape := ⟨1, ![16]⟩
abbrev S1 : Shape := ⟨1, ![1]⟩
abbrev S1x16 : Shape := ⟨2, ![1, 16]⟩
abbrev S2x512x512x128 : Shape := ⟨4, ![2, 512, 512, 128]⟩

abbrev nBuf : Table → Nat
  | .hbm => 16
  | .local .scVector .vmem => 5
  | _ => 0

abbrev bufTy : (tb : Table) → Fin (nBuf tb) → BufTy
  | .hbm, ⟨0, _⟩ => ⟨S2x512x14x3, .f32⟩
  | .hbm, ⟨1, _⟩ => ⟨S2x512x14, .f32⟩
  | .hbm, ⟨2, _⟩ => ⟨S18x128, .f32⟩
  | .hbm, ⟨3, _⟩ => ⟨S2x512x1x3, .f32⟩
  | .hbm, ⟨4, _⟩ => ⟨S2x512x3, .f32⟩
  | .hbm, ⟨5, _⟩ => ⟨S2x512x1, .f32⟩
  | .hbm, ⟨6, _⟩ => ⟨S2x512, .f32⟩
  | .hbm, ⟨7, _⟩ => ⟨S2x3x512, .f32⟩
  | .hbm, ⟨8, _⟩ => ⟨S3072, .f32⟩
  | .hbm, ⟨9, _⟩ => ⟨S1024, .f32⟩
  | .hbm, ⟨10, _⟩ => ⟨S_, .f32⟩
  | .hbm, ⟨11, _⟩ => ⟨S1x128, .f32⟩
  | .hbm, ⟨12, _⟩ => ⟨S19x128, .f32⟩
  | .hbm, ⟨13, _⟩ => ⟨S2432, .f32⟩
  | .hbm, ⟨14, _⟩ => ⟨S524288x128, .f32⟩
  | .hbm, ⟨15, _⟩ => ⟨S2x512x512x128, .f32⟩
  | .local .scVector .vmem, ⟨0, _⟩ => ⟨S3072, .f32⟩
  | .local .scVector .vmem, ⟨1, _⟩ => ⟨S1024, .f32⟩
  | .local .scVector .vmem, ⟨2, _⟩ => ⟨S2432, .f32⟩
  | .local .scVector .vmem, ⟨3, _⟩ => ⟨S256x128, .f32⟩
  | .local .scVector .vmem, ⟨4, _⟩ => ⟨S256x128, .f32⟩
  | _, _ => ⟨S2x512x14x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v5_scv : Ref sig .scVector := ⟨.hbm, 8, rfl⟩
abbrev main_v6_scv : Ref sig .scVector := ⟨.hbm, 9, rfl⟩
abbrev main_v9_scv : Ref sig .scVector := ⟨.hbm, 13, rfl⟩
abbrev main_v10_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c32_i32_3 : BitVec 32 := 32#32
  let v23 : BitVec 32 := Scalar.addi c0_i32_2 c32_i32_3
  let c1_i32_4 : BitVec 32 := 1#32
  ⟨c0_i32_2, v23, c1_i32_4⟩

def k0_chk1 (v97 : IVec S16 32) : Prop :=
  (∀ a x, ((![v97] : Fin 1 → IVec S16 32) a x).toNat < S3072.size a)
theorem k0_idx1_inb : ∀ (v97 : IVec S16 32) (k0_hw1 : k0_chk1 v97), ∀ a x, ((![v97] : Fin 1 → IVec S16 32) a x).toNat < S3072.size a := fun v97 k0_hw1 => k0_hw1

def k0_chk2 (v100 : IVec S16 32) : Prop :=
  (∀ a x, ((![v100] : Fin 1 → IVec S16 32) a x).toNat < S3072.size a)
theorem k0_idx2_inb : ∀ (v100 : IVec S16 32) (k0_hw2 : k0_chk2 v100), ∀ a x, ((![v100] : Fin 1 → IVec S16 32) a x).toNat < S3072.size a := fun v100 k0_hw2 => k0_hw2

def k0_chk3 (v103 : IVec S16 32) : Prop :=
  (∀ a x, ((![v103] : Fin 1 → IVec S16 32) a x).toNat < S3072.size a)
theorem k0_idx3_inb : ∀ (v103 : IVec S16 32) (k0_hw3 : k0_chk3 v103), ∀ a x, ((![v103] : Fin 1 → IVec S16 32) a x).toNat < S3072.size a := fun v103 k0_hw3 => k0_hw3

def k0_chk4 (v106 : IVec S16 32) : Prop :=
  (∀ a x, ((![v106] : Fin 1 → IVec S16 32) a x).toNat < S1024.size a)
theorem k0_idx4_inb : ∀ (v106 : IVec S16 32) (k0_hw4 : k0_chk4 v106), ∀ a x, ((![v106] : Fin 1 → IVec S16 32) a x).toNat < S1024.size a := fun v106 k0_hw4 => k0_hw4
@[reducible] def k0_t2_loop : Scf.Loop 32 :=
  let c0_i32_49 : BitVec 32 := 0#32
  let c16_i32_50 : BitVec 32 := 16#32
  let v108 : BitVec 32 := Scalar.addi c0_i32_49 c16_i32_50
  let c1_i32_51 : BitVec 32 := 1#32
  ⟨c0_i32_49, v108, c1_i32_51⟩
def k0_off1 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_15 : BitVec 32 := 0#32
  let c0_i32_2 : BitVec 32 := 0#32
  let c1_i32_4 : BitVec 32 := 1#32
  let arg13 : BitVec 32 := Scf.iv c0_i32_2 c1_i32_4 k0_t1
  let c1_i32_14 : BitVec 32 := 1#32
  let v28 : BitVec 32 := Scalar.muli arg13 c1_i32_14
  let v29 : BitVec 32 := Scalar.addi c0_i32_15 v28
  let c2_i32_18 : BitVec 32 := 2#32
  let v33 : BitVec 32 := Scalar.muli v29 c2_i32_18
  let c0_i32_19 : BitVec 32 := 0#32
  let v34 : BitVec 32 := Scalar.addi v33 c0_i32_19
  let c0_i32_21 : BitVec 32 := 0#32
  let v36 : BitVec 1 := Scalar.cmpi .sgt v34 c0_i32_21
  let v37 : BitVec 32 := Scalar.extui v36
  let c0_i32_22 : BitVec 32 := 0#32
  let v38 : BitVec 1 := Scalar.cmpi .slt v34 c0_i32_22
  let v39 : BitVec 32 := Scalar.extui v38
  let v40 : BitVec 32 := Scalar.subi v37 v39
  let c2_i32_20 : BitVec 32 := 2#32
  let c0_i32_23 : BitVec 32 := 0#32
  let v41 : BitVec 1 := Scalar.cmpi .sgt c2_i32_20 c0_i32_23
  let v42 : BitVec 32 := Scalar.extui v41
  let c0_i32_24 : BitVec 32 := 0#32
  let v43 : BitVec 1 := Scalar.cmpi .slt c2_i32_20 c0_i32_24
  let v44 : BitVec 32 := Scalar.extui v43
  let v45 : BitVec 32 := Scalar.subi v42 v44
  let v46 : BitVec 1 := Scalar.cmpi .ne v40 v45
  let v47 : BitVec 32 := Scalar.remsi v34 c2_i32_20
  let c0_i32_25 : BitVec 32 := 0#32
  let v48 : BitVec 1 := Scalar.cmpi .ne v47 c0_i32_25
  let v49 : BitVec 1 := Scalar.andi v46 v48
  let v35 : BitVec 32 := Scalar.divsi v34 c2_i32_20
  let c1_i32_26 : BitVec 32 := 1#32
  let v50 : BitVec 32 := Scalar.subi v35 c1_i32_26
  let v51 : BitVec 32 := Scalar.select v49 v50 v35
  let v52 : BitVec 32 := Scalar.addi v2 v51
  let c0_i32_27 : BitVec 32 := 0#32
  let v54 : BitVec 1 := Scalar.cmpi .sgt v52 c0_i32_27
  let v55 : BitVec 32 := Scalar.extui v54
  let c0_i32_28 : BitVec 32 := 0#32
  let v56 : BitVec 1 := Scalar.cmpi .slt v52 c0_i32_28
  let v57 : BitVec 32 := Scalar.extui v56
  let v58 : BitVec 32 := Scalar.subi v55 v57
  let c512_i32 : BitVec 32 := 512#32
  let c0_i32_29 : BitVec 32 := 0#32
  let v59 : BitVec 1 := Scalar.cmpi .sgt c512_i32 c0_i32_29
  let v60 : BitVec 32 := Scalar.extui v59
  let c0_i32_30 : BitVec 32 := 0#32
  let v61 : BitVec 1 := Scalar.cmpi .slt c512_i32 c0_i32_30
  let v62 : BitVec 32 := Scalar.extui v61
  let v63 : BitVec 32 := Scalar.subi v60 v62
  let v64 : BitVec 1 := Scalar.cmpi .ne v58 v63
  let v65 : BitVec 32 := Scalar.remsi v52 c512_i32
  let c0_i32_31 : BitVec 32 := 0#32
  let v66 : BitVec 1 := Scalar.cmpi .ne v65 c0_i32_31
  let v67 : BitVec 1 := Scalar.andi v64 v66
  let v53 : BitVec 32 := Scalar.divsi v52 c512_i32
  let c1_i32_32 : BitVec 32 := 1#32
  let v68 : BitVec 32 := Scalar.subi v53 c1_i32_32
  let v69 : BitVec 32 := Scalar.select v67 v68 v53
  let c3_i32 : BitVec 32 := 3#32
  let v91 : BitVec 32 := Scalar.muli v69 c3_i32
  let c512_i32_45 : BitVec 32 := 512#32
  let v92 : BitVec 32 := Scalar.muli v91 c512_i32_45
  let c2_i32_39 : BitVec 32 := 2#32
  let c0_i32_40 : BitVec 32 := 0#32
  let v80 : BitVec 1 := Scalar.cmpi .eq c2_i32_39 c0_i32_40
  let c1_i32_41 : BitVec 32 := 1#32
  let v81 : BitVec 32 := Scalar.select v80 c1_i32_41 c2_i32_39
  let v82 : BitVec 32 := Scalar.remsi v34 v81
  let c0_i32_43 : BitVec 32 := 0#32
  let v84 : BitVec 1 := Scalar.cmpi .slt v82 c0_i32_43
  let c0_i32_44 : BitVec 32 := 0#32
  let v85 : BitVec 1 := Scalar.cmpi .slt v81 c0_i32_44
  let v86 : BitVec 1 := Scalar.xori v84 v85
  let c0_i32_42 : BitVec 32 := 0#32
  let v83 : BitVec 1 := Scalar.cmpi .ne v82 c0_i32_42
  let v87 : BitVec 1 := Scalar.andi v86 v83
  let v88 : BitVec 32 := Scalar.addi v82 v81
  let v89 : BitVec 32 := Scalar.select v87 v88 v82
  let c256_i32 : BitVec 32 := 256#32
  let v90 : BitVec 32 := Scalar.muli v89 c256_i32
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_101 : BitVec 32 := 16#32
  let v198 : BitVec 32 := Scalar.muli v197 c16_i32_101
  let v199 : BitVec 32 := Scalar.addi v90 v198
  let v200 : BitVec 32 := Scalar.addi v92 v199
  let v201 : Index := Scalar.indexCast v200
  ![v201.toNat]
def k0_off2 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_15 : BitVec 32 := 0#32
  let c0_i32_2 : BitVec 32 := 0#32
  let c1_i32_4 : BitVec 32 := 1#32
  let arg13 : BitVec 32 := Scf.iv c0_i32_2 c1_i32_4 k0_t1
  let c1_i32_14 : BitVec 32 := 1#32
  let v28 : BitVec 32 := Scalar.muli arg13 c1_i32_14
  let v29 : BitVec 32 := Scalar.addi c0_i32_15 v28
  let c2_i32_18 : BitVec 32 := 2#32
  let v33 : BitVec 32 := Scalar.muli v29 c2_i32_18
  let c0_i32_19 : BitVec 32 := 0#32
  let v34 : BitVec 32 := Scalar.addi v33 c0_i32_19
  let c0_i32_21 : BitVec 32 := 0#32
  let v36 : BitVec 1 := Scalar.cmpi .sgt v34 c0_i32_21
  let v37 : BitVec 32 := Scalar.extui v36
  let c0_i32_22 : BitVec 32 := 0#32
  let v38 : BitVec 1 := Scalar.cmpi .slt v34 c0_i32_22
  let v39 : BitVec 32 := Scalar.extui v38
  let v40 : BitVec 32 := Scalar.subi v37 v39
  let c2_i32_20 : BitVec 32 := 2#32
  let c0_i32_23 : BitVec 32 := 0#32
  let v41 : BitVec 1 := Scalar.cmpi .sgt c2_i32_20 c0_i32_23
  let v42 : BitVec 32 := Scalar.extui v41
  let c0_i32_24 : BitVec 32 := 0#32
  let v43 : BitVec 1 := Scalar.cmpi .slt c2_i32_20 c0_i32_24
  let v44 : BitVec 32 := Scalar.extui v43
  let v45 : BitVec 32 := Scalar.subi v42 v44
  let v46 : BitVec 1 := Scalar.cmpi .ne v40 v45
  let v47 : BitVec 32 := Scalar.remsi v34 c2_i32_20
  let c0_i32_25 : BitVec 32 := 0#32
  let v48 : BitVec 1 := Scalar.cmpi .ne v47 c0_i32_25
  let v49 : BitVec 1 := Scalar.andi v46 v48
  let v35 : BitVec 32 := Scalar.divsi v34 c2_i32_20
  let c1_i32_26 : BitVec 32 := 1#32
  let v50 : BitVec 32 := Scalar.subi v35 c1_i32_26
  let v51 : BitVec 32 := Scalar.select v49 v50 v35
  let v52 : BitVec 32 := Scalar.addi v2 v51
  let c0_i32_27 : BitVec 32 := 0#32
  let v54 : BitVec 1 := Scalar.cmpi .sgt v52 c0_i32_27
  let v55 : BitVec 32 := Scalar.extui v54
  let c0_i32_28 : BitVec 32 := 0#32
  let v56 : BitVec 1 := Scalar.cmpi .slt v52 c0_i32_28
  let v57 : BitVec 32 := Scalar.extui v56
  let v58 : BitVec 32 := Scalar.subi v55 v57
  let c512_i32 : BitVec 32 := 512#32
  let c0_i32_29 : BitVec 32 := 0#32
  let v59 : BitVec 1 := Scalar.cmpi .sgt c512_i32 c0_i32_29
  let v60 : BitVec 32 := Scalar.extui v59
  let c0_i32_30 : BitVec 32 := 0#32
  let v61 : BitVec 1 := Scalar.cmpi .slt c512_i32 c0_i32_30
  let v62 : BitVec 32 := Scalar.extui v61
  let v63 : BitVec 32 := Scalar.subi v60 v62
  let v64 : BitVec 1 := Scalar.cmpi .ne v58 v63
  let v65 : BitVec 32 := Scalar.remsi v52 c512_i32
  let c0_i32_31 : BitVec 32 := 0#32
  let v66 : BitVec 1 := Scalar.cmpi .ne v65 c0_i32_31
  let v67 : BitVec 1 := Scalar.andi v64 v66
  let v53 : BitVec 32 := Scalar.divsi v52 c512_i32
  let c1_i32_32 : BitVec 32 := 1#32
  let v68 : BitVec 32 := Scalar.subi v53 c1_i32_32
  let v69 : BitVec 32 := Scalar.select v67 v68 v53
  let c3_i32 : BitVec 32 := 3#32
  let v91 : BitVec 32 := Scalar.muli v69 c3_i32
  let c512_i32_45 : BitVec 32 := 512#32
  let v92 : BitVec 32 := Scalar.muli v91 c512_i32_45
  let c512_i32_46 : BitVec 32 := 512#32
  let v93 : BitVec 32 := Scalar.addi v92 c512_i32_46
  let c2_i32_39 : BitVec 32 := 2#32
  let c0_i32_40 : BitVec 32 := 0#32
  let v80 : BitVec 1 := Scalar.cmpi .eq c2_i32_39 c0_i32_40
  let c1_i32_41 : BitVec 32 := 1#32
  let v81 : BitVec 32 := Scalar.select v80 c1_i32_41 c2_i32_39
  let v82 : BitVec 32 := Scalar.remsi v34 v81
  let c0_i32_43 : BitVec 32 := 0#32
  let v84 : BitVec 1 := Scalar.cmpi .slt v82 c0_i32_43
  let c0_i32_44 : BitVec 32 := 0#32
  let v85 : BitVec 1 := Scalar.cmpi .slt v81 c0_i32_44
  let v86 : BitVec 1 := Scalar.xori v84 v85
  let c0_i32_42 : BitVec 32 := 0#32
  let v83 : BitVec 1 := Scalar.cmpi .ne v82 c0_i32_42
  let v87 : BitVec 1 := Scalar.andi v86 v83
  let v88 : BitVec 32 := Scalar.addi v82 v81
  let v89 : BitVec 32 := Scalar.select v87 v88 v82
  let c256_i32 : BitVec 32 := 256#32
  let v90 : BitVec 32 := Scalar.muli v89 c256_i32
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_101 : BitVec 32 := 16#32
  let v198 : BitVec 32 := Scalar.muli v197 c16_i32_101
  let v199 : BitVec 32 := Scalar.addi v90 v198
  let v204 : BitVec 32 := Scalar.addi v93 v199
  let v205 : Index := Scalar.indexCast v204
  ![v205.toNat]
def k0_off3 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_15 : BitVec 32 := 0#32
  let c0_i32_2 : BitVec 32 := 0#32
  let c1_i32_4 : BitVec 32 := 1#32
  let arg13 : BitVec 32 := Scf.iv c0_i32_2 c1_i32_4 k0_t1
  let c1_i32_14 : BitVec 32 := 1#32
  let v28 : BitVec 32 := Scalar.muli arg13 c1_i32_14
  let v29 : BitVec 32 := Scalar.addi c0_i32_15 v28
  let c2_i32_18 : BitVec 32 := 2#32
  let v33 : BitVec 32 := Scalar.muli v29 c2_i32_18
  let c0_i32_19 : BitVec 32 := 0#32
  let v34 : BitVec 32 := Scalar.addi v33 c0_i32_19
  let c0_i32_21 : BitVec 32 := 0#32
  let v36 : BitVec 1 := Scalar.cmpi .sgt v34 c0_i32_21
  let v37 : BitVec 32 := Scalar.extui v36
  let c0_i32_22 : BitVec 32 := 0#32
  let v38 : BitVec 1 := Scalar.cmpi .slt v34 c0_i32_22
  let v39 : BitVec 32 := Scalar.extui v38
  let v40 : BitVec 32 := Scalar.subi v37 v39
  let c2_i32_20 : BitVec 32 := 2#32
  let c0_i32_23 : BitVec 32 := 0#32
  let v41 : BitVec 1 := Scalar.cmpi .sgt c2_i32_20 c0_i32_23
  let v42 : BitVec 32 := Scalar.extui v41
  let c0_i32_24 : BitVec 32 := 0#32
  let v43 : BitVec 1 := Scalar.cmpi .slt c2_i32_20 c0_i32_24
  let v44 : BitVec 32 := Scalar.extui v43
  let v45 : BitVec 32 := Scalar.subi v42 v44
  let v46 : BitVec 1 := Scalar.cmpi .ne v40 v45
  let v47 : BitVec 32 := Scalar.remsi v34 c2_i32_20
  let c0_i32_25 : BitVec 32 := 0#32
  let v48 : BitVec 1 := Scalar.cmpi .ne v47 c0_i32_25
  let v49 : BitVec 1 := Scalar.andi v46 v48
  let v35 : BitVec 32 := Scalar.divsi v34 c2_i32_20
  let c1_i32_26 : BitVec 32 := 1#32
  let v50 : BitVec 32 := Scalar.subi v35 c1_i32_26
  let v51 : BitVec 32 := Scalar.select v49 v50 v35
  let v52 : BitVec 32 := Scalar.addi v2 v51
  let c0_i32_27 : BitVec 32 := 0#32
  let v54 : BitVec 1 := Scalar.cmpi .sgt v52 c0_i32_27
  let v55 : BitVec 32 := Scalar.extui v54
  let c0_i32_28 : BitVec 32 := 0#32
  let v56 : BitVec 1 := Scalar.cmpi .slt v52 c0_i32_28
  let v57 : BitVec 32 := Scalar.extui v56
  let v58 : BitVec 32 := Scalar.subi v55 v57
  let c512_i32 : BitVec 32 := 512#32
  let c0_i32_29 : BitVec 32 := 0#32
  let v59 : BitVec 1 := Scalar.cmpi .sgt c512_i32 c0_i32_29
  let v60 : BitVec 32 := Scalar.extui v59
  let c0_i32_30 : BitVec 32 := 0#32
  let v61 : BitVec 1 := Scalar.cmpi .slt c512_i32 c0_i32_30
  let v62 : BitVec 32 := Scalar.extui v61
  let v63 : BitVec 32 := Scalar.subi v60 v62
  let v64 : BitVec 1 := Scalar.cmpi .ne v58 v63
  let v65 : BitVec 32 := Scalar.remsi v52 c512_i32
  let c0_i32_31 : BitVec 32 := 0#32
  let v66 : BitVec 1 := Scalar.cmpi .ne v65 c0_i32_31
  let v67 : BitVec 1 := Scalar.andi v64 v66
  let v53 : BitVec 32 := Scalar.divsi v52 c512_i32
  let c1_i32_32 : BitVec 32 := 1#32
  let v68 : BitVec 32 := Scalar.subi v53 c1_i32_32
  let v69 : BitVec 32 := Scalar.select v67 v68 v53
  let c3_i32 : BitVec 32 := 3#32
  let v91 : BitVec 32 := Scalar.muli v69 c3_i32
  let c512_i32_45 : BitVec 32 := 512#32
  let v92 : BitVec 32 := Scalar.muli v91 c512_i32_45
  let c512_i32_46 : BitVec 32 := 512#32
  let v93 : BitVec 32 := Scalar.addi v92 c512_i32_46
  let c512_i32_47 : BitVec 32 := 512#32
  let v94 : BitVec 32 := Scalar.addi v93 c512_i32_47
  let c2_i32_39 : BitVec 32 := 2#32
  let c0_i32_40 : BitVec 32 := 0#32
  let v80 : BitVec 1 := Scalar.cmpi .eq c2_i32_39 c0_i32_40
  let c1_i32_41 : BitVec 32 := 1#32
  let v81 : BitVec 32 := Scalar.select v80 c1_i32_41 c2_i32_39
  let v82 : BitVec 32 := Scalar.remsi v34 v81
  let c0_i32_43 : BitVec 32 := 0#32
  let v84 : BitVec 1 := Scalar.cmpi .slt v82 c0_i32_43
  let c0_i32_44 : BitVec 32 := 0#32
  let v85 : BitVec 1 := Scalar.cmpi .slt v81 c0_i32_44
  let v86 : BitVec 1 := Scalar.xori v84 v85
  let c0_i32_42 : BitVec 32 := 0#32
  let v83 : BitVec 1 := Scalar.cmpi .ne v82 c0_i32_42
  let v87 : BitVec 1 := Scalar.andi v86 v83
  let v88 : BitVec 32 := Scalar.addi v82 v81
  let v89 : BitVec 32 := Scalar.select v87 v88 v82
  let c256_i32 : BitVec 32 := 256#32
  let v90 : BitVec 32 := Scalar.muli v89 c256_i32
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_101 : BitVec 32 := 16#32
  let v198 : BitVec 32 := Scalar.muli v197 c16_i32_101
  let v199 : BitVec 32 := Scalar.addi v90 v198
  let v208 : BitVec 32 := Scalar.addi v94 v199
  let v209 : Index := Scalar.indexCast v208
  ![v209.toNat]
def k0_off4 (i : grid0.Coords) (k0_t1 : Fin k0_t1_loop.trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_15 : BitVec 32 := 0#32
  let c0_i32_2 : BitVec 32 := 0#32
  let c1_i32_4 : BitVec 32 := 1#32
  let arg13 : BitVec 32 := Scf.iv c0_i32_2 c1_i32_4 k0_t1
  let c1_i32_14 : BitVec 32 := 1#32
  let v28 : BitVec 32 := Scalar.muli arg13 c1_i32_14
  let v29 : BitVec 32 := Scalar.addi c0_i32_15 v28
  let c2_i32_18 : BitVec 32 := 2#32
  let v33 : BitVec 32 := Scalar.muli v29 c2_i32_18
  let c0_i32_19 : BitVec 32 := 0#32
  let v34 : BitVec 32 := Scalar.addi v33 c0_i32_19
  let c0_i32_21 : BitVec 32 := 0#32
  let v36 : BitVec 1 := Scalar.cmpi .sgt v34 c0_i32_21
  let v37 : BitVec 32 := Scalar.extui v36
  let c0_i32_22 : BitVec 32 := 0#32
  let v38 : BitVec 1 := Scalar.cmpi .slt v34 c0_i32_22
  let v39 : BitVec 32 := Scalar.extui v38
  let v40 : BitVec 32 := Scalar.subi v37 v39
  let c2_i32_20 : BitVec 32 := 2#32
  let c0_i32_23 : BitVec 32 := 0#32
  let v41 : BitVec 1 := Scalar.cmpi .sgt c2_i32_20 c0_i32_23
  let v42 : BitVec 32 := Scalar.extui v41
  let c0_i32_24 : BitVec 32 := 0#32
  let v43 : BitVec 1 := Scalar.cmpi .slt c2_i32_20 c0_i32_24
  let v44 : BitVec 32 := Scalar.extui v43
  let v45 : BitVec 32 := Scalar.subi v42 v44
  let v46 : BitVec 1 := Scalar.cmpi .ne v40 v45
  let v47 : BitVec 32 := Scalar.remsi v34 c2_i32_20
  let c0_i32_25 : BitVec 32 := 0#32
  let v48 : BitVec 1 := Scalar.cmpi .ne v47 c0_i32_25
  let v49 : BitVec 1 := Scalar.andi v46 v48
  let v35 : BitVec 32 := Scalar.divsi v34 c2_i32_20
  let c1_i32_26 : BitVec 32 := 1#32
  let v50 : BitVec 32 := Scalar.subi v35 c1_i32_26
  let v51 : BitVec 32 := Scalar.select v49 v50 v35
  let v52 : BitVec 32 := Scalar.addi v2 v51
  let c0_i32_27 : BitVec 32 := 0#32
  let v54 : BitVec 1 := Scalar.cmpi .sgt v52 c0_i32_27
  let v55 : BitVec 32 := Scalar.extui v54
  let c0_i32_28 : BitVec 32 := 0#32
  let v56 : BitVec 1 := Scalar.cmpi .slt v52 c0_i32_28
  let v57 : BitVec 32 := Scalar.extui v56
  let v58 : BitVec 32 := Scalar.subi v55 v57
  let c512_i32 : BitVec 32 := 512#32
  let c0_i32_29 : BitVec 32 := 0#32
  let v59 : BitVec 1 := Scalar.cmpi .sgt c512_i32 c0_i32_29
  let v60 : BitVec 32 := Scalar.extui v59
  let c0_i32_30 : BitVec 32 := 0#32
  let v61 : BitVec 1 := Scalar.cmpi .slt c512_i32 c0_i32_30
  let v62 : BitVec 32 := Scalar.extui v61
  let v63 : BitVec 32 := Scalar.subi v60 v62
  let v64 : BitVec 1 := Scalar.cmpi .ne v58 v63
  let v65 : BitVec 32 := Scalar.remsi v52 c512_i32
  let c0_i32_31 : BitVec 32 := 0#32
  let v66 : BitVec 1 := Scalar.cmpi .ne v65 c0_i32_31
  let v67 : BitVec 1 := Scalar.andi v64 v66
  let v53 : BitVec 32 := Scalar.divsi v52 c512_i32
  let c1_i32_32 : BitVec 32 := 1#32
  let v68 : BitVec 32 := Scalar.subi v53 c1_i32_32
  let v69 : BitVec 32 := Scalar.select v67 v68 v53
  let c512_i32_48 : BitVec 32 := 512#32
  let v95 : BitVec 32 := Scalar.muli v69 c512_i32_48
  let c2_i32_39 : BitVec 32 := 2#32
  let c0_i32_40 : BitVec 32 := 0#32
  let v80 : BitVec 1 := Scalar.cmpi .eq c2_i32_39 c0_i32_40
  let c1_i32_41 : BitVec 32 := 1#32
  let v81 : BitVec 32 := Scalar.select v80 c1_i32_41 c2_i32_39
  let v82 : BitVec 32 := Scalar.remsi v34 v81
  let c0_i32_43 : BitVec 32 := 0#32
  let v84 : BitVec 1 := Scalar.cmpi .slt v82 c0_i32_43
  let c0_i32_44 : BitVec 32 := 0#32
  let v85 : BitVec 1 := Scalar.cmpi .slt v81 c0_i32_44
  let v86 : BitVec 1 := Scalar.xori v84 v85
  let c0_i32_42 : BitVec 32 := 0#32
  let v83 : BitVec 1 := Scalar.cmpi .ne v82 c0_i32_42
  let v87 : BitVec 1 := Scalar.andi v86 v83
  let v88 : BitVec 32 := Scalar.addi v82 v81
  let v89 : BitVec 32 := Scalar.select v87 v88 v82
  let c256_i32 : BitVec 32 := 256#32
  let v90 : BitVec 32 := Scalar.muli v89 c256_i32
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_101 : BitVec 32 := 16#32
  let v198 : BitVec 32 := Scalar.muli v197 c16_i32_101
  let v199 : BitVec 32 := Scalar.addi v90 v198
  let v285 : BitVec 32 := Scalar.addi v95 v199
  let v286 : Index := Scalar.indexCast v285
  ![v286.toNat]

def k0_chk5 (v299 : IVec S16 32) : Prop :=
  (∀ a x, ((![v299] : Fin 1 → IVec S16 32) a x).toNat < S2432.size a)
theorem k0_idx5_inb : ∀ (v299 : IVec S16 32) (k0_hw5 : k0_chk5 v299), ∀ a x, ((![v299] : Fin 1 → IVec S16 32) a x).toNat < S2432.size a := fun v299 k0_hw5 => k0_hw5

def k0_chk6 (v301 : IVec S16 32) : Prop :=
  (∀ a x, ((![v301] : Fin 1 → IVec S16 32) a x).toNat < S2432.size a)
theorem k0_idx6_inb : ∀ (v301 : IVec S16 32) (k0_hw6 : k0_chk6 v301), ∀ a x, ((![v301] : Fin 1 → IVec S16 32) a x).toNat < S2432.size a := fun v301 k0_hw6 => k0_hw6

def k0_chk7 (v303 : IVec S16 32) : Prop :=
  (∀ a x, ((![v303] : Fin 1 → IVec S16 32) a x).toNat < S2432.size a)
theorem k0_idx7_inb : ∀ (v303 : IVec S16 32) (k0_hw7 : k0_chk7 v303), ∀ a x, ((![v303] : Fin 1 → IVec S16 32) a x).toNat < S2432.size a := fun v303 k0_hw7 => k0_hw7

def k0_chk8 (v305 : IVec S16 32) : Prop :=
  (∀ a x, ((![v305] : Fin 1 → IVec S16 32) a x).toNat < S2432.size a)
theorem k0_idx8_inb : ∀ (v305 : IVec S16 32) (k0_hw8 : k0_chk8 v305), ∀ a x, ((![v305] : Fin 1 → IVec S16 32) a x).toNat < S2432.size a := fun v305 k0_hw8 => k0_hw8

def k0_chk9 (v307 : IVec S16 32) : Prop :=
  (∀ a x, ((![v307] : Fin 1 → IVec S16 32) a x).toNat < S2432.size a)
theorem k0_idx9_inb : ∀ (v307 : IVec S16 32) (k0_hw9 : k0_chk9 v307), ∀ a x, ((![v307] : Fin 1 → IVec S16 32) a x).toNat < S2432.size a := fun v307 k0_hw9 => k0_hw9

def k0_chk10 (v309 : IVec S16 32) : Prop :=
  (∀ a x, ((![v309] : Fin 1 → IVec S16 32) a x).toNat < S2432.size a)
theorem k0_idx10_inb : ∀ (v309 : IVec S16 32) (k0_hw10 : k0_chk10 v309), ∀ a x, ((![v309] : Fin 1 → IVec S16 32) a x).toNat < S2432.size a := fun v309 k0_hw10 => k0_hw10

def k0_chk11 (v311 : IVec S16 32) : Prop :=
  (∀ a x, ((![v311] : Fin 1 → IVec S16 32) a x).toNat < S2432.size a)
theorem k0_idx11_inb : ∀ (v311 : IVec S16 32) (k0_hw11 : k0_chk11 v311), ∀ a x, ((![v311] : Fin 1 → IVec S16 32) a x).toNat < S2432.size a := fun v311 k0_hw11 => k0_hw11

def k0_chk12 (v313 : IVec S16 32) : Prop :=
  (∀ a x, ((![v313] : Fin 1 → IVec S16 32) a x).toNat < S2432.size a)
theorem k0_idx12_inb : ∀ (v313 : IVec S16 32) (k0_hw12 : k0_chk12 v313), ∀ a x, ((![v313] : Fin 1 → IVec S16 32) a x).toNat < S2432.size a := fun v313 k0_hw12 => k0_hw12
def k0_off5 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v315 : Index := Scalar.indexCast v298
  let c0 : Index := 0#32
  ![v315.toNat, 0]
def k0_off6 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v317 : Index := Scalar.indexCast v298
  let c16 : Index := 16#32
  ![v317.toNat, 16]
def k0_off7 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v319 : Index := Scalar.indexCast v298
  let c32 : Index := 32#32
  ![v319.toNat, 32]
def k0_off8 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v321 : Index := Scalar.indexCast v298
  let c48 : Index := 48#32
  ![v321.toNat, 48]
def k0_off9 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v323 : Index := Scalar.indexCast v298
  let c64 : Index := 64#32
  ![v323.toNat, 64]
def k0_off10 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v325 : Index := Scalar.indexCast v298
  let c80 : Index := 80#32
  ![v325.toNat, 80]
def k0_off11 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v327 : Index := Scalar.indexCast v298
  let c96 : Index := 96#32
  ![v327.toNat, 96]
def k0_off12 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v329 : Index := Scalar.indexCast v298
  let c112 : Index := 112#32
  ![v329.toNat, 112]

def k0_chk13 (v336 : IVec S16 32) : Prop :=
  (∀ a x, ((![v336] : Fin 1 → IVec S16 32) a x).toNat < S2432.size a)
theorem k0_idx13_inb : ∀ (v336 : IVec S16 32) (k0_hw13 : k0_chk13 v336), ∀ a x, ((![v336] : Fin 1 → IVec S16 32) a x).toNat < S2432.size a := fun v336 k0_hw13 => k0_hw13

def k0_chk14 (v338 : IVec S16 32) : Prop :=
  (∀ a x, ((![v338] : Fin 1 → IVec S16 32) a x).toNat < S2432.size a)
theorem k0_idx14_inb : ∀ (v338 : IVec S16 32) (k0_hw14 : k0_chk14 v338), ∀ a x, ((![v338] : Fin 1 → IVec S16 32) a x).toNat < S2432.size a := fun v338 k0_hw14 => k0_hw14

def k0_chk15 (v340 : IVec S16 32) : Prop :=
  (∀ a x, ((![v340] : Fin 1 → IVec S16 32) a x).toNat < S2432.size a)
theorem k0_idx15_inb : ∀ (v340 : IVec S16 32) (k0_hw15 : k0_chk15 v340), ∀ a x, ((![v340] : Fin 1 → IVec S16 32) a x).toNat < S2432.size a := fun v340 k0_hw15 => k0_hw15

def k0_chk16 (v342 : IVec S16 32) : Prop :=
  (∀ a x, ((![v342] : Fin 1 → IVec S16 32) a x).toNat < S2432.size a)
theorem k0_idx16_inb : ∀ (v342 : IVec S16 32) (k0_hw16 : k0_chk16 v342), ∀ a x, ((![v342] : Fin 1 → IVec S16 32) a x).toNat < S2432.size a := fun v342 k0_hw16 => k0_hw16

def k0_chk17 (v344 : IVec S16 32) : Prop :=
  (∀ a x, ((![v344] : Fin 1 → IVec S16 32) a x).toNat < S2432.size a)
theorem k0_idx17_inb : ∀ (v344 : IVec S16 32) (k0_hw17 : k0_chk17 v344), ∀ a x, ((![v344] : Fin 1 → IVec S16 32) a x).toNat < S2432.size a := fun v344 k0_hw17 => k0_hw17

def k0_chk18 (v346 : IVec S16 32) : Prop :=
  (∀ a x, ((![v346] : Fin 1 → IVec S16 32) a x).toNat < S2432.size a)
theorem k0_idx18_inb : ∀ (v346 : IVec S16 32) (k0_hw18 : k0_chk18 v346), ∀ a x, ((![v346] : Fin 1 → IVec S16 32) a x).toNat < S2432.size a := fun v346 k0_hw18 => k0_hw18

def k0_chk19 (v348 : IVec S16 32) : Prop :=
  (∀ a x, ((![v348] : Fin 1 → IVec S16 32) a x).toNat < S2432.size a)
theorem k0_idx19_inb : ∀ (v348 : IVec S16 32) (k0_hw19 : k0_chk19 v348), ∀ a x, ((![v348] : Fin 1 → IVec S16 32) a x).toNat < S2432.size a := fun v348 k0_hw19 => k0_hw19

def k0_chk20 (v350 : IVec S16 32) : Prop :=
  (∀ a x, ((![v350] : Fin 1 → IVec S16 32) a x).toNat < S2432.size a)
theorem k0_idx20_inb : ∀ (v350 : IVec S16 32) (k0_hw20 : k0_chk20 v350), ∀ a x, ((![v350] : Fin 1 → IVec S16 32) a x).toNat < S2432.size a := fun v350 k0_hw20 => k0_hw20
def k0_off13 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v352 : Index := Scalar.indexCast v335
  let c0_123 : Index := 0#32
  ![v352.toNat, 0]
def k0_off14 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v354 : Index := Scalar.indexCast v335
  let c16_124 : Index := 16#32
  ![v354.toNat, 16]
def k0_off15 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v356 : Index := Scalar.indexCast v335
  let c32_125 : Index := 32#32
  ![v356.toNat, 32]
def k0_off16 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v358 : Index := Scalar.indexCast v335
  let c48_126 : Index := 48#32
  ![v358.toNat, 48]
def k0_off17 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v360 : Index := Scalar.indexCast v335
  let c64_127 : Index := 64#32
  ![v360.toNat, 64]
def k0_off18 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v362 : Index := Scalar.indexCast v335
  let c80_128 : Index := 80#32
  ![v362.toNat, 80]
def k0_off19 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v364 : Index := Scalar.indexCast v335
  let c96_129 : Index := 96#32
  ![v364.toNat, 96]
def k0_off20 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v366 : Index := Scalar.indexCast v335
  let c112_130 : Index := 112#32
  ![v366.toNat, 112]

def k0_chk21 (v373 : IVec S16 32) : Prop :=
  (∀ a x, ((![v373] : Fin 1 → IVec S16 32) a x).toNat < S2432.size a)
theorem k0_idx21_inb : ∀ (v373 : IVec S16 32) (k0_hw21 : k0_chk21 v373), ∀ a x, ((![v373] : Fin 1 → IVec S16 32) a x).toNat < S2432.size a := fun v373 k0_hw21 => k0_hw21

def k0_chk22 (v375 : IVec S16 32) : Prop :=
  (∀ a x, ((![v375] : Fin 1 → IVec S16 32) a x).toNat < S2432.size a)
theorem k0_idx22_inb : ∀ (v375 : IVec S16 32) (k0_hw22 : k0_chk22 v375), ∀ a x, ((![v375] : Fin 1 → IVec S16 32) a x).toNat < S2432.size a := fun v375 k0_hw22 => k0_hw22

def k0_chk23 (v377 : IVec S16 32) : Prop :=
  (∀ a x, ((![v377] : Fin 1 → IVec S16 32) a x).toNat < S2432.size a)
theorem k0_idx23_inb : ∀ (v377 : IVec S16 32) (k0_hw23 : k0_chk23 v377), ∀ a x, ((![v377] : Fin 1 → IVec S16 32) a x).toNat < S2432.size a := fun v377 k0_hw23 => k0_hw23

def k0_chk24 (v379 : IVec S16 32) : Prop :=
  (∀ a x, ((![v379] : Fin 1 → IVec S16 32) a x).toNat < S2432.size a)
theorem k0_idx24_inb : ∀ (v379 : IVec S16 32) (k0_hw24 : k0_chk24 v379), ∀ a x, ((![v379] : Fin 1 → IVec S16 32) a x).toNat < S2432.size a := fun v379 k0_hw24 => k0_hw24

def k0_chk25 (v381 : IVec S16 32) : Prop :=
  (∀ a x, ((![v381] : Fin 1 → IVec S16 32) a x).toNat < S2432.size a)
theorem k0_idx25_inb : ∀ (v381 : IVec S16 32) (k0_hw25 : k0_chk25 v381), ∀ a x, ((![v381] : Fin 1 → IVec S16 32) a x).toNat < S2432.size a := fun v381 k0_hw25 => k0_hw25

def k0_chk26 (v383 : IVec S16 32) : Prop :=
  (∀ a x, ((![v383] : Fin 1 → IVec S16 32) a x).toNat < S2432.size a)
theorem k0_idx26_inb : ∀ (v383 : IVec S16 32) (k0_hw26 : k0_chk26 v383), ∀ a x, ((![v383] : Fin 1 → IVec S16 32) a x).toNat < S2432.size a := fun v383 k0_hw26 => k0_hw26

def k0_chk27 (v385 : IVec S16 32) : Prop :=
  (∀ a x, ((![v385] : Fin 1 → IVec S16 32) a x).toNat < S2432.size a)
theorem k0_idx27_inb : ∀ (v385 : IVec S16 32) (k0_hw27 : k0_chk27 v385), ∀ a x, ((![v385] : Fin 1 → IVec S16 32) a x).toNat < S2432.size a := fun v385 k0_hw27 => k0_hw27

def k0_chk28 (v387 : IVec S16 32) : Prop :=
  (∀ a x, ((![v387] : Fin 1 → IVec S16 32) a x).toNat < S2432.size a)
theorem k0_idx28_inb : ∀ (v387 : IVec S16 32) (k0_hw28 : k0_chk28 v387), ∀ a x, ((![v387] : Fin 1 → IVec S16 32) a x).toNat < S2432.size a := fun v387 k0_hw28 => k0_hw28
def k0_off21 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v389 : Index := Scalar.indexCast v372
  let c0_133 : Index := 0#32
  ![v389.toNat, 0]
def k0_off22 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v391 : Index := Scalar.indexCast v372
  let c16_134 : Index := 16#32
  ![v391.toNat, 16]
def k0_off23 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v393 : Index := Scalar.indexCast v372
  let c32_135 : Index := 32#32
  ![v393.toNat, 32]
def k0_off24 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v395 : Index := Scalar.indexCast v372
  let c48_136 : Index := 48#32
  ![v395.toNat, 48]
def k0_off25 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v397 : Index := Scalar.indexCast v372
  let c64_137 : Index := 64#32
  ![v397.toNat, 64]
def k0_off26 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v399 : Index := Scalar.indexCast v372
  let c80_138 : Index := 80#32
  ![v399.toNat, 80]
def k0_off27 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v401 : Index := Scalar.indexCast v372
  let c96_139 : Index := 96#32
  ![v401.toNat, 96]
def k0_off28 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v403 : Index := Scalar.indexCast v372
  let c112_140 : Index := 112#32
  ![v403.toNat, 112]

def k0_chk29 (v410 : IVec S16 32) : Prop :=
  (∀ a x, ((![v410] : Fin 1 → IVec S16 32) a x).toNat < S2432.size a)
theorem k0_idx29_inb : ∀ (v410 : IVec S16 32) (k0_hw29 : k0_chk29 v410), ∀ a x, ((![v410] : Fin 1 → IVec S16 32) a x).toNat < S2432.size a := fun v410 k0_hw29 => k0_hw29

def k0_chk30 (v412 : IVec S16 32) : Prop :=
  (∀ a x, ((![v412] : Fin 1 → IVec S16 32) a x).toNat < S2432.size a)
theorem k0_idx30_inb : ∀ (v412 : IVec S16 32) (k0_hw30 : k0_chk30 v412), ∀ a x, ((![v412] : Fin 1 → IVec S16 32) a x).toNat < S2432.size a := fun v412 k0_hw30 => k0_hw30

def k0_chk31 (v414 : IVec S16 32) : Prop :=
  (∀ a x, ((![v414] : Fin 1 → IVec S16 32) a x).toNat < S2432.size a)
theorem k0_idx31_inb : ∀ (v414 : IVec S16 32) (k0_hw31 : k0_chk31 v414), ∀ a x, ((![v414] : Fin 1 → IVec S16 32) a x).toNat < S2432.size a := fun v414 k0_hw31 => k0_hw31

def k0_chk32 (v416 : IVec S16 32) : Prop :=
  (∀ a x, ((![v416] : Fin 1 → IVec S16 32) a x).toNat < S2432.size a)
theorem k0_idx32_inb : ∀ (v416 : IVec S16 32) (k0_hw32 : k0_chk32 v416), ∀ a x, ((![v416] : Fin 1 → IVec S16 32) a x).toNat < S2432.size a := fun v416 k0_hw32 => k0_hw32

def k0_chk33 (v418 : IVec S16 32) : Prop :=
  (∀ a x, ((![v418] : Fin 1 → IVec S16 32) a x).toNat < S2432.size a)
theorem k0_idx33_inb : ∀ (v418 : IVec S16 32) (k0_hw33 : k0_chk33 v418), ∀ a x, ((![v418] : Fin 1 → IVec S16 32) a x).toNat < S2432.size a := fun v418 k0_hw33 => k0_hw33

def k0_chk34 (v420 : IVec S16 32) : Prop :=
  (∀ a x, ((![v420] : Fin 1 → IVec S16 32) a x).toNat < S2432.size a)
theorem k0_idx34_inb : ∀ (v420 : IVec S16 32) (k0_hw34 : k0_chk34 v420), ∀ a x, ((![v420] : Fin 1 → IVec S16 32) a x).toNat < S2432.size a := fun v420 k0_hw34 => k0_hw34

def k0_chk35 (v422 : IVec S16 32) : Prop :=
  (∀ a x, ((![v422] : Fin 1 → IVec S16 32) a x).toNat < S2432.size a)
theorem k0_idx35_inb : ∀ (v422 : IVec S16 32) (k0_hw35 : k0_chk35 v422), ∀ a x, ((![v422] : Fin 1 → IVec S16 32) a x).toNat < S2432.size a := fun v422 k0_hw35 => k0_hw35

def k0_chk36 (v424 : IVec S16 32) : Prop :=
  (∀ a x, ((![v424] : Fin 1 → IVec S16 32) a x).toNat < S2432.size a)
theorem k0_idx36_inb : ∀ (v424 : IVec S16 32) (k0_hw36 : k0_chk36 v424), ∀ a x, ((![v424] : Fin 1 → IVec S16 32) a x).toNat < S2432.size a := fun v424 k0_hw36 => k0_hw36
def k0_off29 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v426 : Index := Scalar.indexCast v409
  let c0_143 : Index := 0#32
  ![v426.toNat, 0]
def k0_off30 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v428 : Index := Scalar.indexCast v409
  let c16_144 : Index := 16#32
  ![v428.toNat, 16]
def k0_off31 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v430 : Index := Scalar.indexCast v409
  let c32_145 : Index := 32#32
  ![v430.toNat, 32]
def k0_off32 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v432 : Index := Scalar.indexCast v409
  let c48_146 : Index := 48#32
  ![v432.toNat, 48]
def k0_off33 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v434 : Index := Scalar.indexCast v409
  let c64_147 : Index := 64#32
  ![v434.toNat, 64]
def k0_off34 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v436 : Index := Scalar.indexCast v409
  let c80_148 : Index := 80#32
  ![v436.toNat, 80]
def k0_off35 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v438 : Index := Scalar.indexCast v409
  let c96_149 : Index := 96#32
  ![v438.toNat, 96]
def k0_off36 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v440 : Index := Scalar.indexCast v409
  let c112_150 : Index := 112#32
  ![v440.toNat, 112]

def k0_chk37 (v447 : IVec S16 32) : Prop :=
  (∀ a x, ((![v447] : Fin 1 → IVec S16 32) a x).toNat < S2432.size a)
theorem k0_idx37_inb : ∀ (v447 : IVec S16 32) (k0_hw37 : k0_chk37 v447), ∀ a x, ((![v447] : Fin 1 → IVec S16 32) a x).toNat < S2432.size a := fun v447 k0_hw37 => k0_hw37

def k0_chk38 (v449 : IVec S16 32) : Prop :=
  (∀ a x, ((![v449] : Fin 1 → IVec S16 32) a x).toNat < S2432.size a)
theorem k0_idx38_inb : ∀ (v449 : IVec S16 32) (k0_hw38 : k0_chk38 v449), ∀ a x, ((![v449] : Fin 1 → IVec S16 32) a x).toNat < S2432.size a := fun v449 k0_hw38 => k0_hw38

def k0_chk39 (v451 : IVec S16 32) : Prop :=
  (∀ a x, ((![v451] : Fin 1 → IVec S16 32) a x).toNat < S2432.size a)
theorem k0_idx39_inb : ∀ (v451 : IVec S16 32) (k0_hw39 : k0_chk39 v451), ∀ a x, ((![v451] : Fin 1 → IVec S16 32) a x).toNat < S2432.size a := fun v451 k0_hw39 => k0_hw39

def k0_chk40 (v453 : IVec S16 32) : Prop :=
  (∀ a x, ((![v453] : Fin 1 → IVec S16 32) a x).toNat < S2432.size a)
theorem k0_idx40_inb : ∀ (v453 : IVec S16 32) (k0_hw40 : k0_chk40 v453), ∀ a x, ((![v453] : Fin 1 → IVec S16 32) a x).toNat < S2432.size a := fun v453 k0_hw40 => k0_hw40

def k0_chk41 (v455 : IVec S16 32) : Prop :=
  (∀ a x, ((![v455] : Fin 1 → IVec S16 32) a x).toNat < S2432.size a)
theorem k0_idx41_inb : ∀ (v455 : IVec S16 32) (k0_hw41 : k0_chk41 v455), ∀ a x, ((![v455] : Fin 1 → IVec S16 32) a x).toNat < S2432.size a := fun v455 k0_hw41 => k0_hw41

def k0_chk42 (v457 : IVec S16 32) : Prop :=
  (∀ a x, ((![v457] : Fin 1 → IVec S16 32) a x).toNat < S2432.size a)
theorem k0_idx42_inb : ∀ (v457 : IVec S16 32) (k0_hw42 : k0_chk42 v457), ∀ a x, ((![v457] : Fin 1 → IVec S16 32) a x).toNat < S2432.size a := fun v457 k0_hw42 => k0_hw42

def k0_chk43 (v459 : IVec S16 32) : Prop :=
  (∀ a x, ((![v459] : Fin 1 → IVec S16 32) a x).toNat < S2432.size a)
theorem k0_idx43_inb : ∀ (v459 : IVec S16 32) (k0_hw43 : k0_chk43 v459), ∀ a x, ((![v459] : Fin 1 → IVec S16 32) a x).toNat < S2432.size a := fun v459 k0_hw43 => k0_hw43

def k0_chk44 (v461 : IVec S16 32) : Prop :=
  (∀ a x, ((![v461] : Fin 1 → IVec S16 32) a x).toNat < S2432.size a)
theorem k0_idx44_inb : ∀ (v461 : IVec S16 32) (k0_hw44 : k0_chk44 v461), ∀ a x, ((![v461] : Fin 1 → IVec S16 32) a x).toNat < S2432.size a := fun v461 k0_hw44 => k0_hw44
def k0_off37 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v463 : Index := Scalar.indexCast v446
  let c0_152 : Index := 0#32
  ![v463.toNat, 0]
def k0_off38 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v465 : Index := Scalar.indexCast v446
  let c16_153 : Index := 16#32
  ![v465.toNat, 16]
def k0_off39 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v467 : Index := Scalar.indexCast v446
  let c32_154 : Index := 32#32
  ![v467.toNat, 32]
def k0_off40 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v469 : Index := Scalar.indexCast v446
  let c48_155 : Index := 48#32
  ![v469.toNat, 48]
def k0_off41 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v471 : Index := Scalar.indexCast v446
  let c64_156 : Index := 64#32
  ![v471.toNat, 64]
def k0_off42 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v473 : Index := Scalar.indexCast v446
  let c80_157 : Index := 80#32
  ![v473.toNat, 80]
def k0_off43 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v475 : Index := Scalar.indexCast v446
  let c96_158 : Index := 96#32
  ![v475.toNat, 96]
def k0_off44 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v477 : Index := Scalar.indexCast v446
  let c112_159 : Index := 112#32
  ![v477.toNat, 112]

def k0_chk45 (v484 : IVec S16 32) : Prop :=
  (∀ a x, ((![v484] : Fin 1 → IVec S16 32) a x).toNat < S2432.size a)
theorem k0_idx45_inb : ∀ (v484 : IVec S16 32) (k0_hw45 : k0_chk45 v484), ∀ a x, ((![v484] : Fin 1 → IVec S16 32) a x).toNat < S2432.size a := fun v484 k0_hw45 => k0_hw45

def k0_chk46 (v486 : IVec S16 32) : Prop :=
  (∀ a x, ((![v486] : Fin 1 → IVec S16 32) a x).toNat < S2432.size a)
theorem k0_idx46_inb : ∀ (v486 : IVec S16 32) (k0_hw46 : k0_chk46 v486), ∀ a x, ((![v486] : Fin 1 → IVec S16 32) a x).toNat < S2432.size a := fun v486 k0_hw46 => k0_hw46

def k0_chk47 (v488 : IVec S16 32) : Prop :=
  (∀ a x, ((![v488] : Fin 1 → IVec S16 32) a x).toNat < S2432.size a)
theorem k0_idx47_inb : ∀ (v488 : IVec S16 32) (k0_hw47 : k0_chk47 v488), ∀ a x, ((![v488] : Fin 1 → IVec S16 32) a x).toNat < S2432.size a := fun v488 k0_hw47 => k0_hw47

def k0_chk48 (v490 : IVec S16 32) : Prop :=
  (∀ a x, ((![v490] : Fin 1 → IVec S16 32) a x).toNat < S2432.size a)
theorem k0_idx48_inb : ∀ (v490 : IVec S16 32) (k0_hw48 : k0_chk48 v490), ∀ a x, ((![v490] : Fin 1 → IVec S16 32) a x).toNat < S2432.size a := fun v490 k0_hw48 => k0_hw48

def k0_chk49 (v492 : IVec S16 32) : Prop :=
  (∀ a x, ((![v492] : Fin 1 → IVec S16 32) a x).toNat < S2432.size a)
theorem k0_idx49_inb : ∀ (v492 : IVec S16 32) (k0_hw49 : k0_chk49 v492), ∀ a x, ((![v492] : Fin 1 → IVec S16 32) a x).toNat < S2432.size a := fun v492 k0_hw49 => k0_hw49

def k0_chk50 (v494 : IVec S16 32) : Prop :=
  (∀ a x, ((![v494] : Fin 1 → IVec S16 32) a x).toNat < S2432.size a)
theorem k0_idx50_inb : ∀ (v494 : IVec S16 32) (k0_hw50 : k0_chk50 v494), ∀ a x, ((![v494] : Fin 1 → IVec S16 32) a x).toNat < S2432.size a := fun v494 k0_hw50 => k0_hw50

def k0_chk51 (v496 : IVec S16 32) : Prop :=
  (∀ a x, ((![v496] : Fin 1 → IVec S16 32) a x).toNat < S2432.size a)
theorem k0_idx51_inb : ∀ (v496 : IVec S16 32) (k0_hw51 : k0_chk51 v496), ∀ a x, ((![v496] : Fin 1 → IVec S16 32) a x).toNat < S2432.size a := fun v496 k0_hw51 => k0_hw51

def k0_chk52 (v498 : IVec S16 32) : Prop :=
  (∀ a x, ((![v498] : Fin 1 → IVec S16 32) a x).toNat < S2432.size a)
theorem k0_idx52_inb : ∀ (v498 : IVec S16 32) (k0_hw52 : k0_chk52 v498), ∀ a x, ((![v498] : Fin 1 → IVec S16 32) a x).toNat < S2432.size a := fun v498 k0_hw52 => k0_hw52
def k0_off45 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v500 : Index := Scalar.indexCast v483
  let c0_161 : Index := 0#32
  ![v500.toNat, 0]
def k0_off46 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v502 : Index := Scalar.indexCast v483
  let c16_162 : Index := 16#32
  ![v502.toNat, 16]
def k0_off47 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v504 : Index := Scalar.indexCast v483
  let c32_163 : Index := 32#32
  ![v504.toNat, 32]
def k0_off48 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v506 : Index := Scalar.indexCast v483
  let c48_164 : Index := 48#32
  ![v506.toNat, 48]
def k0_off49 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v508 : Index := Scalar.indexCast v483
  let c64_165 : Index := 64#32
  ![v508.toNat, 64]
def k0_off50 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v510 : Index := Scalar.indexCast v483
  let c80_166 : Index := 80#32
  ![v510.toNat, 80]
def k0_off51 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v512 : Index := Scalar.indexCast v483
  let c96_167 : Index := 96#32
  ![v512.toNat, 96]
def k0_off52 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v514 : Index := Scalar.indexCast v483
  let c112_168 : Index := 112#32
  ![v514.toNat, 112]

def k0_chk53 (v521 : IVec S16 32) : Prop :=
  (∀ a x, ((![v521] : Fin 1 → IVec S16 32) a x).toNat < S2432.size a)
theorem k0_idx53_inb : ∀ (v521 : IVec S16 32) (k0_hw53 : k0_chk53 v521), ∀ a x, ((![v521] : Fin 1 → IVec S16 32) a x).toNat < S2432.size a := fun v521 k0_hw53 => k0_hw53

def k0_chk54 (v523 : IVec S16 32) : Prop :=
  (∀ a x, ((![v523] : Fin 1 → IVec S16 32) a x).toNat < S2432.size a)
theorem k0_idx54_inb : ∀ (v523 : IVec S16 32) (k0_hw54 : k0_chk54 v523), ∀ a x, ((![v523] : Fin 1 → IVec S16 32) a x).toNat < S2432.size a := fun v523 k0_hw54 => k0_hw54

def k0_chk55 (v525 : IVec S16 32) : Prop :=
  (∀ a x, ((![v525] : Fin 1 → IVec S16 32) a x).toNat < S2432.size a)
theorem k0_idx55_inb : ∀ (v525 : IVec S16 32) (k0_hw55 : k0_chk55 v525), ∀ a x, ((![v525] : Fin 1 → IVec S16 32) a x).toNat < S2432.size a := fun v525 k0_hw55 => k0_hw55

def k0_chk56 (v527 : IVec S16 32) : Prop :=
  (∀ a x, ((![v527] : Fin 1 → IVec S16 32) a x).toNat < S2432.size a)
theorem k0_idx56_inb : ∀ (v527 : IVec S16 32) (k0_hw56 : k0_chk56 v527), ∀ a x, ((![v527] : Fin 1 → IVec S16 32) a x).toNat < S2432.size a := fun v527 k0_hw56 => k0_hw56

def k0_chk57 (v529 : IVec S16 32) : Prop :=
  (∀ a x, ((![v529] : Fin 1 → IVec S16 32) a x).toNat < S2432.size a)
theorem k0_idx57_inb : ∀ (v529 : IVec S16 32) (k0_hw57 : k0_chk57 v529), ∀ a x, ((![v529] : Fin 1 → IVec S16 32) a x).toNat < S2432.size a := fun v529 k0_hw57 => k0_hw57

def k0_chk58 (v531 : IVec S16 32) : Prop :=
  (∀ a x, ((![v531] : Fin 1 → IVec S16 32) a x).toNat < S2432.size a)
theorem k0_idx58_inb : ∀ (v531 : IVec S16 32) (k0_hw58 : k0_chk58 v531), ∀ a x, ((![v531] : Fin 1 → IVec S16 32) a x).toNat < S2432.size a := fun v531 k0_hw58 => k0_hw58

def k0_chk59 (v533 : IVec S16 32) : Prop :=
  (∀ a x, ((![v533] : Fin 1 → IVec S16 32) a x).toNat < S2432.size a)
theorem k0_idx59_inb : ∀ (v533 : IVec S16 32) (k0_hw59 : k0_chk59 v533), ∀ a x, ((![v533] : Fin 1 → IVec S16 32) a x).toNat < S2432.size a := fun v533 k0_hw59 => k0_hw59

def k0_chk60 (v535 : IVec S16 32) : Prop :=
  (∀ a x, ((![v535] : Fin 1 → IVec S16 32) a x).toNat < S2432.size a)
theorem k0_idx60_inb : ∀ (v535 : IVec S16 32) (k0_hw60 : k0_chk60 v535), ∀ a x, ((![v535] : Fin 1 → IVec S16 32) a x).toNat < S2432.size a := fun v535 k0_hw60 => k0_hw60
def k0_off53 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v537 : Index := Scalar.indexCast v520
  let c0_170 : Index := 0#32
  ![v537.toNat, 0]
def k0_off54 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v539 : Index := Scalar.indexCast v520
  let c16_171 : Index := 16#32
  ![v539.toNat, 16]
def k0_off55 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v541 : Index := Scalar.indexCast v520
  let c32_172 : Index := 32#32
  ![v541.toNat, 32]
def k0_off56 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v543 : Index := Scalar.indexCast v520
  let c48_173 : Index := 48#32
  ![v543.toNat, 48]
def k0_off57 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v545 : Index := Scalar.indexCast v520
  let c64_174 : Index := 64#32
  ![v545.toNat, 64]
def k0_off58 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v547 : Index := Scalar.indexCast v520
  let c80_175 : Index := 80#32
  ![v547.toNat, 80]
def k0_off59 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v549 : Index := Scalar.indexCast v520
  let c96_176 : Index := 96#32
  ![v549.toNat, 96]
def k0_off60 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v551 : Index := Scalar.indexCast v520
  let c112_177 : Index := 112#32
  ![v551.toNat, 112]

def k0_chk61 (v558 : IVec S16 32) : Prop :=
  (∀ a x, ((![v558] : Fin 1 → IVec S16 32) a x).toNat < S2432.size a)
theorem k0_idx61_inb : ∀ (v558 : IVec S16 32) (k0_hw61 : k0_chk61 v558), ∀ a x, ((![v558] : Fin 1 → IVec S16 32) a x).toNat < S2432.size a := fun v558 k0_hw61 => k0_hw61

def k0_chk62 (v560 : IVec S16 32) : Prop :=
  (∀ a x, ((![v560] : Fin 1 → IVec S16 32) a x).toNat < S2432.size a)
theorem k0_idx62_inb : ∀ (v560 : IVec S16 32) (k0_hw62 : k0_chk62 v560), ∀ a x, ((![v560] : Fin 1 → IVec S16 32) a x).toNat < S2432.size a := fun v560 k0_hw62 => k0_hw62

def k0_chk63 (v562 : IVec S16 32) : Prop :=
  (∀ a x, ((![v562] : Fin 1 → IVec S16 32) a x).toNat < S2432.size a)
theorem k0_idx63_inb : ∀ (v562 : IVec S16 32) (k0_hw63 : k0_chk63 v562), ∀ a x, ((![v562] : Fin 1 → IVec S16 32) a x).toNat < S2432.size a := fun v562 k0_hw63 => k0_hw63

def k0_chk64 (v564 : IVec S16 32) : Prop :=
  (∀ a x, ((![v564] : Fin 1 → IVec S16 32) a x).toNat < S2432.size a)
theorem k0_idx64_inb : ∀ (v564 : IVec S16 32) (k0_hw64 : k0_chk64 v564), ∀ a x, ((![v564] : Fin 1 → IVec S16 32) a x).toNat < S2432.size a := fun v564 k0_hw64 => k0_hw64

def k0_chk65 (v566 : IVec S16 32) : Prop :=
  (∀ a x, ((![v566] : Fin 1 → IVec S16 32) a x).toNat < S2432.size a)
theorem k0_idx65_inb : ∀ (v566 : IVec S16 32) (k0_hw65 : k0_chk65 v566), ∀ a x, ((![v566] : Fin 1 → IVec S16 32) a x).toNat < S2432.size a := fun v566 k0_hw65 => k0_hw65

def k0_chk66 (v568 : IVec S16 32) : Prop :=
  (∀ a x, ((![v568] : Fin 1 → IVec S16 32) a x).toNat < S2432.size a)
theorem k0_idx66_inb : ∀ (v568 : IVec S16 32) (k0_hw66 : k0_chk66 v568), ∀ a x, ((![v568] : Fin 1 → IVec S16 32) a x).toNat < S2432.size a := fun v568 k0_hw66 => k0_hw66

def k0_chk67 (v570 : IVec S16 32) : Prop :=
  (∀ a x, ((![v570] : Fin 1 → IVec S16 32) a x).toNat < S2432.size a)
theorem k0_idx67_inb : ∀ (v570 : IVec S16 32) (k0_hw67 : k0_chk67 v570), ∀ a x, ((![v570] : Fin 1 → IVec S16 32) a x).toNat < S2432.size a := fun v570 k0_hw67 => k0_hw67

def k0_chk68 (v572 : IVec S16 32) : Prop :=
  (∀ a x, ((![v572] : Fin 1 → IVec S16 32) a x).toNat < S2432.size a)
theorem k0_idx68_inb : ∀ (v572 : IVec S16 32) (k0_hw68 : k0_chk68 v572), ∀ a x, ((![v572] : Fin 1 → IVec S16 32) a x).toNat < S2432.size a := fun v572 k0_hw68 => k0_hw68
def k0_off61 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v574 : Index := Scalar.indexCast v557
  let c0_179 : Index := 0#32
  ![v574.toNat, 0]
def k0_off62 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v576 : Index := Scalar.indexCast v557
  let c16_180 : Index := 16#32
  ![v576.toNat, 16]
def k0_off63 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v578 : Index := Scalar.indexCast v557
  let c32_181 : Index := 32#32
  ![v578.toNat, 32]
def k0_off64 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v580 : Index := Scalar.indexCast v557
  let c48_182 : Index := 48#32
  ![v580.toNat, 48]
def k0_off65 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v582 : Index := Scalar.indexCast v557
  let c64_183 : Index := 64#32
  ![v582.toNat, 64]
def k0_off66 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v584 : Index := Scalar.indexCast v557
  let c80_184 : Index := 80#32
  ![v584.toNat, 80]
def k0_off67 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v586 : Index := Scalar.indexCast v557
  let c96_185 : Index := 96#32
  ![v586.toNat, 96]
def k0_off68 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v588 : Index := Scalar.indexCast v557
  let c112_186 : Index := 112#32
  ![v588.toNat, 112]

def k0_chk69 (v595 : IVec S16 32) : Prop :=
  (∀ a x, ((![v595] : Fin 1 → IVec S16 32) a x).toNat < S2432.size a)
theorem k0_idx69_inb : ∀ (v595 : IVec S16 32) (k0_hw69 : k0_chk69 v595), ∀ a x, ((![v595] : Fin 1 → IVec S16 32) a x).toNat < S2432.size a := fun v595 k0_hw69 => k0_hw69

def k0_chk70 (v597 : IVec S16 32) : Prop :=
  (∀ a x, ((![v597] : Fin 1 → IVec S16 32) a x).toNat < S2432.size a)
theorem k0_idx70_inb : ∀ (v597 : IVec S16 32) (k0_hw70 : k0_chk70 v597), ∀ a x, ((![v597] : Fin 1 → IVec S16 32) a x).toNat < S2432.size a := fun v597 k0_hw70 => k0_hw70

def k0_chk71 (v599 : IVec S16 32) : Prop :=
  (∀ a x, ((![v599] : Fin 1 → IVec S16 32) a x).toNat < S2432.size a)
theorem k0_idx71_inb : ∀ (v599 : IVec S16 32) (k0_hw71 : k0_chk71 v599), ∀ a x, ((![v599] : Fin 1 → IVec S16 32) a x).toNat < S2432.size a := fun v599 k0_hw71 => k0_hw71

def k0_chk72 (v601 : IVec S16 32) : Prop :=
  (∀ a x, ((![v601] : Fin 1 → IVec S16 32) a x).toNat < S2432.size a)
theorem k0_idx72_inb : ∀ (v601 : IVec S16 32) (k0_hw72 : k0_chk72 v601), ∀ a x, ((![v601] : Fin 1 → IVec S16 32) a x).toNat < S2432.size a := fun v601 k0_hw72 => k0_hw72

def k0_chk73 (v603 : IVec S16 32) : Prop :=
  (∀ a x, ((![v603] : Fin 1 → IVec S16 32) a x).toNat < S2432.size a)
theorem k0_idx73_inb : ∀ (v603 : IVec S16 32) (k0_hw73 : k0_chk73 v603), ∀ a x, ((![v603] : Fin 1 → IVec S16 32) a x).toNat < S2432.size a := fun v603 k0_hw73 => k0_hw73

def k0_chk74 (v605 : IVec S16 32) : Prop :=
  (∀ a x, ((![v605] : Fin 1 → IVec S16 32) a x).toNat < S2432.size a)
theorem k0_idx74_inb : ∀ (v605 : IVec S16 32) (k0_hw74 : k0_chk74 v605), ∀ a x, ((![v605] : Fin 1 → IVec S16 32) a x).toNat < S2432.size a := fun v605 k0_hw74 => k0_hw74

def k0_chk75 (v607 : IVec S16 32) : Prop :=
  (∀ a x, ((![v607] : Fin 1 → IVec S16 32) a x).toNat < S2432.size a)
theorem k0_idx75_inb : ∀ (v607 : IVec S16 32) (k0_hw75 : k0_chk75 v607), ∀ a x, ((![v607] : Fin 1 → IVec S16 32) a x).toNat < S2432.size a := fun v607 k0_hw75 => k0_hw75

def k0_chk76 (v609 : IVec S16 32) : Prop :=
  (∀ a x, ((![v609] : Fin 1 → IVec S16 32) a x).toNat < S2432.size a)
theorem k0_idx76_inb : ∀ (v609 : IVec S16 32) (k0_hw76 : k0_chk76 v609), ∀ a x, ((![v609] : Fin 1 → IVec S16 32) a x).toNat < S2432.size a := fun v609 k0_hw76 => k0_hw76
def k0_off69 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v611 : Index := Scalar.indexCast v594
  let c0_188 : Index := 0#32
  ![v611.toNat, 0]
def k0_off70 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v613 : Index := Scalar.indexCast v594
  let c16_189 : Index := 16#32
  ![v613.toNat, 16]
def k0_off71 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v615 : Index := Scalar.indexCast v594
  let c32_190 : Index := 32#32
  ![v615.toNat, 32]
def k0_off72 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v617 : Index := Scalar.indexCast v594
  let c48_191 : Index := 48#32
  ![v617.toNat, 48]
def k0_off73 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v619 : Index := Scalar.indexCast v594
  let c64_192 : Index := 64#32
  ![v619.toNat, 64]
def k0_off74 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v621 : Index := Scalar.indexCast v594
  let c80_193 : Index := 80#32
  ![v621.toNat, 80]
def k0_off75 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v623 : Index := Scalar.indexCast v594
  let c96_194 : Index := 96#32
  ![v623.toNat, 96]
def k0_off76 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v625 : Index := Scalar.indexCast v594
  let c112_195 : Index := 112#32
  ![v625.toNat, 112]

def k0_chk77 (v632 : IVec S16 32) : Prop :=
  (∀ a x, ((![v632] : Fin 1 → IVec S16 32) a x).toNat < S2432.size a)
theorem k0_idx77_inb : ∀ (v632 : IVec S16 32) (k0_hw77 : k0_chk77 v632), ∀ a x, ((![v632] : Fin 1 → IVec S16 32) a x).toNat < S2432.size a := fun v632 k0_hw77 => k0_hw77

def k0_chk78 (v634 : IVec S16 32) : Prop :=
  (∀ a x, ((![v634] : Fin 1 → IVec S16 32) a x).toNat < S2432.size a)
theorem k0_idx78_inb : ∀ (v634 : IVec S16 32) (k0_hw78 : k0_chk78 v634), ∀ a x, ((![v634] : Fin 1 → IVec S16 32) a x).toNat < S2432.size a := fun v634 k0_hw78 => k0_hw78

def k0_chk79 (v636 : IVec S16 32) : Prop :=
  (∀ a x, ((![v636] : Fin 1 → IVec S16 32) a x).toNat < S2432.size a)
theorem k0_idx79_inb : ∀ (v636 : IVec S16 32) (k0_hw79 : k0_chk79 v636), ∀ a x, ((![v636] : Fin 1 → IVec S16 32) a x).toNat < S2432.size a := fun v636 k0_hw79 => k0_hw79

def k0_chk80 (v638 : IVec S16 32) : Prop :=
  (∀ a x, ((![v638] : Fin 1 → IVec S16 32) a x).toNat < S2432.size a)
theorem k0_idx80_inb : ∀ (v638 : IVec S16 32) (k0_hw80 : k0_chk80 v638), ∀ a x, ((![v638] : Fin 1 → IVec S16 32) a x).toNat < S2432.size a := fun v638 k0_hw80 => k0_hw80

def k0_chk81 (v640 : IVec S16 32) : Prop :=
  (∀ a x, ((![v640] : Fin 1 → IVec S16 32) a x).toNat < S2432.size a)
theorem k0_idx81_inb : ∀ (v640 : IVec S16 32) (k0_hw81 : k0_chk81 v640), ∀ a x, ((![v640] : Fin 1 → IVec S16 32) a x).toNat < S2432.size a := fun v640 k0_hw81 => k0_hw81

def k0_chk82 (v642 : IVec S16 32) : Prop :=
  (∀ a x, ((![v642] : Fin 1 → IVec S16 32) a x).toNat < S2432.size a)
theorem k0_idx82_inb : ∀ (v642 : IVec S16 32) (k0_hw82 : k0_chk82 v642), ∀ a x, ((![v642] : Fin 1 → IVec S16 32) a x).toNat < S2432.size a := fun v642 k0_hw82 => k0_hw82

def k0_chk83 (v644 : IVec S16 32) : Prop :=
  (∀ a x, ((![v644] : Fin 1 → IVec S16 32) a x).toNat < S2432.size a)
theorem k0_idx83_inb : ∀ (v644 : IVec S16 32) (k0_hw83 : k0_chk83 v644), ∀ a x, ((![v644] : Fin 1 → IVec S16 32) a x).toNat < S2432.size a := fun v644 k0_hw83 => k0_hw83

def k0_chk84 (v646 : IVec S16 32) : Prop :=
  (∀ a x, ((![v646] : Fin 1 → IVec S16 32) a x).toNat < S2432.size a)
theorem k0_idx84_inb : ∀ (v646 : IVec S16 32) (k0_hw84 : k0_chk84 v646), ∀ a x, ((![v646] : Fin 1 → IVec S16 32) a x).toNat < S2432.size a := fun v646 k0_hw84 => k0_hw84
def k0_off77 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v648 : Index := Scalar.indexCast v631
  let c0_197 : Index := 0#32
  ![v648.toNat, 0]
def k0_off78 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v650 : Index := Scalar.indexCast v631
  let c16_198 : Index := 16#32
  ![v650.toNat, 16]
def k0_off79 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v652 : Index := Scalar.indexCast v631
  let c32_199 : Index := 32#32
  ![v652.toNat, 32]
def k0_off80 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v654 : Index := Scalar.indexCast v631
  let c48_200 : Index := 48#32
  ![v654.toNat, 48]
def k0_off81 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v656 : Index := Scalar.indexCast v631
  let c64_201 : Index := 64#32
  ![v656.toNat, 64]
def k0_off82 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v658 : Index := Scalar.indexCast v631
  let c80_202 : Index := 80#32
  ![v658.toNat, 80]
def k0_off83 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v660 : Index := Scalar.indexCast v631
  let c96_203 : Index := 96#32
  ![v660.toNat, 96]
def k0_off84 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v662 : Index := Scalar.indexCast v631
  let c112_204 : Index := 112#32
  ![v662.toNat, 112]

def k0_chk85 (v669 : IVec S16 32) : Prop :=
  (∀ a x, ((![v669] : Fin 1 → IVec S16 32) a x).toNat < S2432.size a)
theorem k0_idx85_inb : ∀ (v669 : IVec S16 32) (k0_hw85 : k0_chk85 v669), ∀ a x, ((![v669] : Fin 1 → IVec S16 32) a x).toNat < S2432.size a := fun v669 k0_hw85 => k0_hw85

def k0_chk86 (v671 : IVec S16 32) : Prop :=
  (∀ a x, ((![v671] : Fin 1 → IVec S16 32) a x).toNat < S2432.size a)
theorem k0_idx86_inb : ∀ (v671 : IVec S16 32) (k0_hw86 : k0_chk86 v671), ∀ a x, ((![v671] : Fin 1 → IVec S16 32) a x).toNat < S2432.size a := fun v671 k0_hw86 => k0_hw86

def k0_chk87 (v673 : IVec S16 32) : Prop :=
  (∀ a x, ((![v673] : Fin 1 → IVec S16 32) a x).toNat < S2432.size a)
theorem k0_idx87_inb : ∀ (v673 : IVec S16 32) (k0_hw87 : k0_chk87 v673), ∀ a x, ((![v673] : Fin 1 → IVec S16 32) a x).toNat < S2432.size a := fun v673 k0_hw87 => k0_hw87

def k0_chk88 (v675 : IVec S16 32) : Prop :=
  (∀ a x, ((![v675] : Fin 1 → IVec S16 32) a x).toNat < S2432.size a)
theorem k0_idx88_inb : ∀ (v675 : IVec S16 32) (k0_hw88 : k0_chk88 v675), ∀ a x, ((![v675] : Fin 1 → IVec S16 32) a x).toNat < S2432.size a := fun v675 k0_hw88 => k0_hw88

def k0_chk89 (v677 : IVec S16 32) : Prop :=
  (∀ a x, ((![v677] : Fin 1 → IVec S16 32) a x).toNat < S2432.size a)
theorem k0_idx89_inb : ∀ (v677 : IVec S16 32) (k0_hw89 : k0_chk89 v677), ∀ a x, ((![v677] : Fin 1 → IVec S16 32) a x).toNat < S2432.size a := fun v677 k0_hw89 => k0_hw89

def k0_chk90 (v679 : IVec S16 32) : Prop :=
  (∀ a x, ((![v679] : Fin 1 → IVec S16 32) a x).toNat < S2432.size a)
theorem k0_idx90_inb : ∀ (v679 : IVec S16 32) (k0_hw90 : k0_chk90 v679), ∀ a x, ((![v679] : Fin 1 → IVec S16 32) a x).toNat < S2432.size a := fun v679 k0_hw90 => k0_hw90

def k0_chk91 (v681 : IVec S16 32) : Prop :=
  (∀ a x, ((![v681] : Fin 1 → IVec S16 32) a x).toNat < S2432.size a)
theorem k0_idx91_inb : ∀ (v681 : IVec S16 32) (k0_hw91 : k0_chk91 v681), ∀ a x, ((![v681] : Fin 1 → IVec S16 32) a x).toNat < S2432.size a := fun v681 k0_hw91 => k0_hw91

def k0_chk92 (v683 : IVec S16 32) : Prop :=
  (∀ a x, ((![v683] : Fin 1 → IVec S16 32) a x).toNat < S2432.size a)
theorem k0_idx92_inb : ∀ (v683 : IVec S16 32) (k0_hw92 : k0_chk92 v683), ∀ a x, ((![v683] : Fin 1 → IVec S16 32) a x).toNat < S2432.size a := fun v683 k0_hw92 => k0_hw92
def k0_off85 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v685 : Index := Scalar.indexCast v668
  let c0_206 : Index := 0#32
  ![v685.toNat, 0]
def k0_off86 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v687 : Index := Scalar.indexCast v668
  let c16_207 : Index := 16#32
  ![v687.toNat, 16]
def k0_off87 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v689 : Index := Scalar.indexCast v668
  let c32_208 : Index := 32#32
  ![v689.toNat, 32]
def k0_off88 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v691 : Index := Scalar.indexCast v668
  let c48_209 : Index := 48#32
  ![v691.toNat, 48]
def k0_off89 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v693 : Index := Scalar.indexCast v668
  let c64_210 : Index := 64#32
  ![v693.toNat, 64]
def k0_off90 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v695 : Index := Scalar.indexCast v668
  let c80_211 : Index := 80#32
  ![v695.toNat, 80]
def k0_off91 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v697 : Index := Scalar.indexCast v668
  let c96_212 : Index := 96#32
  ![v697.toNat, 96]
def k0_off92 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v699 : Index := Scalar.indexCast v668
  let c112_213 : Index := 112#32
  ![v699.toNat, 112]

def k0_chk93 (v706 : IVec S16 32) : Prop :=
  (∀ a x, ((![v706] : Fin 1 → IVec S16 32) a x).toNat < S2432.size a)
theorem k0_idx93_inb : ∀ (v706 : IVec S16 32) (k0_hw93 : k0_chk93 v706), ∀ a x, ((![v706] : Fin 1 → IVec S16 32) a x).toNat < S2432.size a := fun v706 k0_hw93 => k0_hw93

def k0_chk94 (v708 : IVec S16 32) : Prop :=
  (∀ a x, ((![v708] : Fin 1 → IVec S16 32) a x).toNat < S2432.size a)
theorem k0_idx94_inb : ∀ (v708 : IVec S16 32) (k0_hw94 : k0_chk94 v708), ∀ a x, ((![v708] : Fin 1 → IVec S16 32) a x).toNat < S2432.size a := fun v708 k0_hw94 => k0_hw94

def k0_chk95 (v710 : IVec S16 32) : Prop :=
  (∀ a x, ((![v710] : Fin 1 → IVec S16 32) a x).toNat < S2432.size a)
theorem k0_idx95_inb : ∀ (v710 : IVec S16 32) (k0_hw95 : k0_chk95 v710), ∀ a x, ((![v710] : Fin 1 → IVec S16 32) a x).toNat < S2432.size a := fun v710 k0_hw95 => k0_hw95

def k0_chk96 (v712 : IVec S16 32) : Prop :=
  (∀ a x, ((![v712] : Fin 1 → IVec S16 32) a x).toNat < S2432.size a)
theorem k0_idx96_inb : ∀ (v712 : IVec S16 32) (k0_hw96 : k0_chk96 v712), ∀ a x, ((![v712] : Fin 1 → IVec S16 32) a x).toNat < S2432.size a := fun v712 k0_hw96 => k0_hw96

def k0_chk97 (v714 : IVec S16 32) : Prop :=
  (∀ a x, ((![v714] : Fin 1 → IVec S16 32) a x).toNat < S2432.size a)
theorem k0_idx97_inb : ∀ (v714 : IVec S16 32) (k0_hw97 : k0_chk97 v714), ∀ a x, ((![v714] : Fin 1 → IVec S16 32) a x).toNat < S2432.size a := fun v714 k0_hw97 => k0_hw97

def k0_chk98 (v716 : IVec S16 32) : Prop :=
  (∀ a x, ((![v716] : Fin 1 → IVec S16 32) a x).toNat < S2432.size a)
theorem k0_idx98_inb : ∀ (v716 : IVec S16 32) (k0_hw98 : k0_chk98 v716), ∀ a x, ((![v716] : Fin 1 → IVec S16 32) a x).toNat < S2432.size a := fun v716 k0_hw98 => k0_hw98

def k0_chk99 (v718 : IVec S16 32) : Prop :=
  (∀ a x, ((![v718] : Fin 1 → IVec S16 32) a x).toNat < S2432.size a)
theorem k0_idx99_inb : ∀ (v718 : IVec S16 32) (k0_hw99 : k0_chk99 v718), ∀ a x, ((![v718] : Fin 1 → IVec S16 32) a x).toNat < S2432.size a := fun v718 k0_hw99 => k0_hw99

def k0_chk100 (v720 : IVec S16 32) : Prop :=
  (∀ a x, ((![v720] : Fin 1 → IVec S16 32) a x).toNat < S2432.size a)
theorem k0_idx100_inb : ∀ (v720 : IVec S16 32) (k0_hw100 : k0_chk100 v720), ∀ a x, ((![v720] : Fin 1 → IVec S16 32) a x).toNat < S2432.size a := fun v720 k0_hw100 => k0_hw100
def k0_off93 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v722 : Index := Scalar.indexCast v705
  let c0_215 : Index := 0#32
  ![v722.toNat, 0]
def k0_off94 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v724 : Index := Scalar.indexCast v705
  let c16_216 : Index := 16#32
  ![v724.toNat, 16]
def k0_off95 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v726 : Index := Scalar.indexCast v705
  let c32_217 : Index := 32#32
  ![v726.toNat, 32]
def k0_off96 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v728 : Index := Scalar.indexCast v705
  let c48_218 : Index := 48#32
  ![v728.toNat, 48]
def k0_off97 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v730 : Index := Scalar.indexCast v705
  let c64_219 : Index := 64#32
  ![v730.toNat, 64]
def k0_off98 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v732 : Index := Scalar.indexCast v705
  let c80_220 : Index := 80#32
  ![v732.toNat, 80]
def k0_off99 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v734 : Index := Scalar.indexCast v705
  let c96_221 : Index := 96#32
  ![v734.toNat, 96]
def k0_off100 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v736 : Index := Scalar.indexCast v705
  let c112_222 : Index := 112#32
  ![v736.toNat, 112]

def k0_chk101 (v743 : IVec S16 32) : Prop :=
  (∀ a x, ((![v743] : Fin 1 → IVec S16 32) a x).toNat < S2432.size a)
theorem k0_idx101_inb : ∀ (v743 : IVec S16 32) (k0_hw101 : k0_chk101 v743), ∀ a x, ((![v743] : Fin 1 → IVec S16 32) a x).toNat < S2432.size a := fun v743 k0_hw101 => k0_hw101

def k0_chk102 (v745 : IVec S16 32) : Prop :=
  (∀ a x, ((![v745] : Fin 1 → IVec S16 32) a x).toNat < S2432.size a)
theorem k0_idx102_inb : ∀ (v745 : IVec S16 32) (k0_hw102 : k0_chk102 v745), ∀ a x, ((![v745] : Fin 1 → IVec S16 32) a x).toNat < S2432.size a := fun v745 k0_hw102 => k0_hw102

def k0_chk103 (v747 : IVec S16 32) : Prop :=
  (∀ a x, ((![v747] : Fin 1 → IVec S16 32) a x).toNat < S2432.size a)
theorem k0_idx103_inb : ∀ (v747 : IVec S16 32) (k0_hw103 : k0_chk103 v747), ∀ a x, ((![v747] : Fin 1 → IVec S16 32) a x).toNat < S2432.size a := fun v747 k0_hw103 => k0_hw103

def k0_chk104 (v749 : IVec S16 32) : Prop :=
  (∀ a x, ((![v749] : Fin 1 → IVec S16 32) a x).toNat < S2432.size a)
theorem k0_idx104_inb : ∀ (v749 : IVec S16 32) (k0_hw104 : k0_chk104 v749), ∀ a x, ((![v749] : Fin 1 → IVec S16 32) a x).toNat < S2432.size a := fun v749 k0_hw104 => k0_hw104

def k0_chk105 (v751 : IVec S16 32) : Prop :=
  (∀ a x, ((![v751] : Fin 1 → IVec S16 32) a x).toNat < S2432.size a)
theorem k0_idx105_inb : ∀ (v751 : IVec S16 32) (k0_hw105 : k0_chk105 v751), ∀ a x, ((![v751] : Fin 1 → IVec S16 32) a x).toNat < S2432.size a := fun v751 k0_hw105 => k0_hw105

def k0_chk106 (v753 : IVec S16 32) : Prop :=
  (∀ a x, ((![v753] : Fin 1 → IVec S16 32) a x).toNat < S2432.size a)
theorem k0_idx106_inb : ∀ (v753 : IVec S16 32) (k0_hw106 : k0_chk106 v753), ∀ a x, ((![v753] : Fin 1 → IVec S16 32) a x).toNat < S2432.size a := fun v753 k0_hw106 => k0_hw106

def k0_chk107 (v755 : IVec S16 32) : Prop :=
  (∀ a x, ((![v755] : Fin 1 → IVec S16 32) a x).toNat < S2432.size a)
theorem k0_idx107_inb : ∀ (v755 : IVec S16 32) (k0_hw107 : k0_chk107 v755), ∀ a x, ((![v755] : Fin 1 → IVec S16 32) a x).toNat < S2432.size a := fun v755 k0_hw107 => k0_hw107

def k0_chk108 (v757 : IVec S16 32) : Prop :=
  (∀ a x, ((![v757] : Fin 1 → IVec S16 32) a x).toNat < S2432.size a)
theorem k0_idx108_inb : ∀ (v757 : IVec S16 32) (k0_hw108 : k0_chk108 v757), ∀ a x, ((![v757] : Fin 1 → IVec S16 32) a x).toNat < S2432.size a := fun v757 k0_hw108 => k0_hw108
def k0_off101 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v759 : Index := Scalar.indexCast v742
  let c0_224 : Index := 0#32
  ![v759.toNat, 0]
def k0_off102 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v761 : Index := Scalar.indexCast v742
  let c16_225 : Index := 16#32
  ![v761.toNat, 16]
def k0_off103 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v763 : Index := Scalar.indexCast v742
  let c32_226 : Index := 32#32
  ![v763.toNat, 32]
def k0_off104 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v765 : Index := Scalar.indexCast v742
  let c48_227 : Index := 48#32
  ![v765.toNat, 48]
def k0_off105 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v767 : Index := Scalar.indexCast v742
  let c64_228 : Index := 64#32
  ![v767.toNat, 64]
def k0_off106 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v769 : Index := Scalar.indexCast v742
  let c80_229 : Index := 80#32
  ![v769.toNat, 80]
def k0_off107 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v771 : Index := Scalar.indexCast v742
  let c96_230 : Index := 96#32
  ![v771.toNat, 96]
def k0_off108 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v773 : Index := Scalar.indexCast v742
  let c112_231 : Index := 112#32
  ![v773.toNat, 112]

def k0_chk109 (v780 : IVec S16 32) : Prop :=
  (∀ a x, ((![v780] : Fin 1 → IVec S16 32) a x).toNat < S2432.size a)
theorem k0_idx109_inb : ∀ (v780 : IVec S16 32) (k0_hw109 : k0_chk109 v780), ∀ a x, ((![v780] : Fin 1 → IVec S16 32) a x).toNat < S2432.size a := fun v780 k0_hw109 => k0_hw109

def k0_chk110 (v782 : IVec S16 32) : Prop :=
  (∀ a x, ((![v782] : Fin 1 → IVec S16 32) a x).toNat < S2432.size a)
theorem k0_idx110_inb : ∀ (v782 : IVec S16 32) (k0_hw110 : k0_chk110 v782), ∀ a x, ((![v782] : Fin 1 → IVec S16 32) a x).toNat < S2432.size a := fun v782 k0_hw110 => k0_hw110

def k0_chk111 (v784 : IVec S16 32) : Prop :=
  (∀ a x, ((![v784] : Fin 1 → IVec S16 32) a x).toNat < S2432.size a)
theorem k0_idx111_inb : ∀ (v784 : IVec S16 32) (k0_hw111 : k0_chk111 v784), ∀ a x, ((![v784] : Fin 1 → IVec S16 32) a x).toNat < S2432.size a := fun v784 k0_hw111 => k0_hw111

def k0_chk112 (v786 : IVec S16 32) : Prop :=
  (∀ a x, ((![v786] : Fin 1 → IVec S16 32) a x).toNat < S2432.size a)
theorem k0_idx112_inb : ∀ (v786 : IVec S16 32) (k0_hw112 : k0_chk112 v786), ∀ a x, ((![v786] : Fin 1 → IVec S16 32) a x).toNat < S2432.size a := fun v786 k0_hw112 => k0_hw112

def k0_chk113 (v788 : IVec S16 32) : Prop :=
  (∀ a x, ((![v788] : Fin 1 → IVec S16 32) a x).toNat < S2432.size a)
theorem k0_idx113_inb : ∀ (v788 : IVec S16 32) (k0_hw113 : k0_chk113 v788), ∀ a x, ((![v788] : Fin 1 → IVec S16 32) a x).toNat < S2432.size a := fun v788 k0_hw113 => k0_hw113

def k0_chk114 (v790 : IVec S16 32) : Prop :=
  (∀ a x, ((![v790] : Fin 1 → IVec S16 32) a x).toNat < S2432.size a)
theorem k0_idx114_inb : ∀ (v790 : IVec S16 32) (k0_hw114 : k0_chk114 v790), ∀ a x, ((![v790] : Fin 1 → IVec S16 32) a x).toNat < S2432.size a := fun v790 k0_hw114 => k0_hw114

def k0_chk115 (v792 : IVec S16 32) : Prop :=
  (∀ a x, ((![v792] : Fin 1 → IVec S16 32) a x).toNat < S2432.size a)
theorem k0_idx115_inb : ∀ (v792 : IVec S16 32) (k0_hw115 : k0_chk115 v792), ∀ a x, ((![v792] : Fin 1 → IVec S16 32) a x).toNat < S2432.size a := fun v792 k0_hw115 => k0_hw115

def k0_chk116 (v794 : IVec S16 32) : Prop :=
  (∀ a x, ((![v794] : Fin 1 → IVec S16 32) a x).toNat < S2432.size a)
theorem k0_idx116_inb : ∀ (v794 : IVec S16 32) (k0_hw116 : k0_chk116 v794), ∀ a x, ((![v794] : Fin 1 → IVec S16 32) a x).toNat < S2432.size a := fun v794 k0_hw116 => k0_hw116
def k0_off109 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v796 : Index := Scalar.indexCast v779
  let c0_233 : Index := 0#32
  ![v796.toNat, 0]
def k0_off110 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v798 : Index := Scalar.indexCast v779
  let c16_234 : Index := 16#32
  ![v798.toNat, 16]
def k0_off111 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v800 : Index := Scalar.indexCast v779
  let c32_235 : Index := 32#32
  ![v800.toNat, 32]
def k0_off112 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v802 : Index := Scalar.indexCast v779
  let c48_236 : Index := 48#32
  ![v802.toNat, 48]
def k0_off113 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v804 : Index := Scalar.indexCast v779
  let c64_237 : Index := 64#32
  ![v804.toNat, 64]
def k0_off114 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v806 : Index := Scalar.indexCast v779
  let c80_238 : Index := 80#32
  ![v806.toNat, 80]
def k0_off115 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v808 : Index := Scalar.indexCast v779
  let c96_239 : Index := 96#32
  ![v808.toNat, 96]
def k0_off116 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v810 : Index := Scalar.indexCast v779
  let c112_240 : Index := 112#32
  ![v810.toNat, 112]

def k0_chk117 (v817 : IVec S16 32) : Prop :=
  (∀ a x, ((![v817] : Fin 1 → IVec S16 32) a x).toNat < S2432.size a)
theorem k0_idx117_inb : ∀ (v817 : IVec S16 32) (k0_hw117 : k0_chk117 v817), ∀ a x, ((![v817] : Fin 1 → IVec S16 32) a x).toNat < S2432.size a := fun v817 k0_hw117 => k0_hw117

def k0_chk118 (v819 : IVec S16 32) : Prop :=
  (∀ a x, ((![v819] : Fin 1 → IVec S16 32) a x).toNat < S2432.size a)
theorem k0_idx118_inb : ∀ (v819 : IVec S16 32) (k0_hw118 : k0_chk118 v819), ∀ a x, ((![v819] : Fin 1 → IVec S16 32) a x).toNat < S2432.size a := fun v819 k0_hw118 => k0_hw118

def k0_chk119 (v821 : IVec S16 32) : Prop :=
  (∀ a x, ((![v821] : Fin 1 → IVec S16 32) a x).toNat < S2432.size a)
theorem k0_idx119_inb : ∀ (v821 : IVec S16 32) (k0_hw119 : k0_chk119 v821), ∀ a x, ((![v821] : Fin 1 → IVec S16 32) a x).toNat < S2432.size a := fun v821 k0_hw119 => k0_hw119

def k0_chk120 (v823 : IVec S16 32) : Prop :=
  (∀ a x, ((![v823] : Fin 1 → IVec S16 32) a x).toNat < S2432.size a)
theorem k0_idx120_inb : ∀ (v823 : IVec S16 32) (k0_hw120 : k0_chk120 v823), ∀ a x, ((![v823] : Fin 1 → IVec S16 32) a x).toNat < S2432.size a := fun v823 k0_hw120 => k0_hw120

def k0_chk121 (v825 : IVec S16 32) : Prop :=
  (∀ a x, ((![v825] : Fin 1 → IVec S16 32) a x).toNat < S2432.size a)
theorem k0_idx121_inb : ∀ (v825 : IVec S16 32) (k0_hw121 : k0_chk121 v825), ∀ a x, ((![v825] : Fin 1 → IVec S16 32) a x).toNat < S2432.size a := fun v825 k0_hw121 => k0_hw121

def k0_chk122 (v827 : IVec S16 32) : Prop :=
  (∀ a x, ((![v827] : Fin 1 → IVec S16 32) a x).toNat < S2432.size a)
theorem k0_idx122_inb : ∀ (v827 : IVec S16 32) (k0_hw122 : k0_chk122 v827), ∀ a x, ((![v827] : Fin 1 → IVec S16 32) a x).toNat < S2432.size a := fun v827 k0_hw122 => k0_hw122

def k0_chk123 (v829 : IVec S16 32) : Prop :=
  (∀ a x, ((![v829] : Fin 1 → IVec S16 32) a x).toNat < S2432.size a)
theorem k0_idx123_inb : ∀ (v829 : IVec S16 32) (k0_hw123 : k0_chk123 v829), ∀ a x, ((![v829] : Fin 1 → IVec S16 32) a x).toNat < S2432.size a := fun v829 k0_hw123 => k0_hw123

def k0_chk124 (v831 : IVec S16 32) : Prop :=
  (∀ a x, ((![v831] : Fin 1 → IVec S16 32) a x).toNat < S2432.size a)
theorem k0_idx124_inb : ∀ (v831 : IVec S16 32) (k0_hw124 : k0_chk124 v831), ∀ a x, ((![v831] : Fin 1 → IVec S16 32) a x).toNat < S2432.size a := fun v831 k0_hw124 => k0_hw124
def k0_off117 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v833 : Index := Scalar.indexCast v816
  let c0_242 : Index := 0#32
  ![v833.toNat, 0]
def k0_off118 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v835 : Index := Scalar.indexCast v816
  let c16_243 : Index := 16#32
  ![v835.toNat, 16]
def k0_off119 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v837 : Index := Scalar.indexCast v816
  let c32_244 : Index := 32#32
  ![v837.toNat, 32]
def k0_off120 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v839 : Index := Scalar.indexCast v816
  let c48_245 : Index := 48#32
  ![v839.toNat, 48]
def k0_off121 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v841 : Index := Scalar.indexCast v816
  let c64_246 : Index := 64#32
  ![v841.toNat, 64]
def k0_off122 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v843 : Index := Scalar.indexCast v816
  let c80_247 : Index := 80#32
  ![v843.toNat, 80]
def k0_off123 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v845 : Index := Scalar.indexCast v816
  let c96_248 : Index := 96#32
  ![v845.toNat, 96]
def k0_off124 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v847 : Index := Scalar.indexCast v816
  let c112_249 : Index := 112#32
  ![v847.toNat, 112]

def k0_chk125 (v854 : IVec S16 32) : Prop :=
  (∀ a x, ((![v854] : Fin 1 → IVec S16 32) a x).toNat < S2432.size a)
theorem k0_idx125_inb : ∀ (v854 : IVec S16 32) (k0_hw125 : k0_chk125 v854), ∀ a x, ((![v854] : Fin 1 → IVec S16 32) a x).toNat < S2432.size a := fun v854 k0_hw125 => k0_hw125

def k0_chk126 (v856 : IVec S16 32) : Prop :=
  (∀ a x, ((![v856] : Fin 1 → IVec S16 32) a x).toNat < S2432.size a)
theorem k0_idx126_inb : ∀ (v856 : IVec S16 32) (k0_hw126 : k0_chk126 v856), ∀ a x, ((![v856] : Fin 1 → IVec S16 32) a x).toNat < S2432.size a := fun v856 k0_hw126 => k0_hw126

def k0_chk127 (v858 : IVec S16 32) : Prop :=
  (∀ a x, ((![v858] : Fin 1 → IVec S16 32) a x).toNat < S2432.size a)
theorem k0_idx127_inb : ∀ (v858 : IVec S16 32) (k0_hw127 : k0_chk127 v858), ∀ a x, ((![v858] : Fin 1 → IVec S16 32) a x).toNat < S2432.size a := fun v858 k0_hw127 => k0_hw127

def k0_chk128 (v860 : IVec S16 32) : Prop :=
  (∀ a x, ((![v860] : Fin 1 → IVec S16 32) a x).toNat < S2432.size a)
theorem k0_idx128_inb : ∀ (v860 : IVec S16 32) (k0_hw128 : k0_chk128 v860), ∀ a x, ((![v860] : Fin 1 → IVec S16 32) a x).toNat < S2432.size a := fun v860 k0_hw128 => k0_hw128

def k0_chk129 (v862 : IVec S16 32) : Prop :=
  (∀ a x, ((![v862] : Fin 1 → IVec S16 32) a x).toNat < S2432.size a)
theorem k0_idx129_inb : ∀ (v862 : IVec S16 32) (k0_hw129 : k0_chk129 v862), ∀ a x, ((![v862] : Fin 1 → IVec S16 32) a x).toNat < S2432.size a := fun v862 k0_hw129 => k0_hw129

def k0_chk130 (v864 : IVec S16 32) : Prop :=
  (∀ a x, ((![v864] : Fin 1 → IVec S16 32) a x).toNat < S2432.size a)
theorem k0_idx130_inb : ∀ (v864 : IVec S16 32) (k0_hw130 : k0_chk130 v864), ∀ a x, ((![v864] : Fin 1 → IVec S16 32) a x).toNat < S2432.size a := fun v864 k0_hw130 => k0_hw130

def k0_chk131 (v866 : IVec S16 32) : Prop :=
  (∀ a x, ((![v866] : Fin 1 → IVec S16 32) a x).toNat < S2432.size a)
theorem k0_idx131_inb : ∀ (v866 : IVec S16 32) (k0_hw131 : k0_chk131 v866), ∀ a x, ((![v866] : Fin 1 → IVec S16 32) a x).toNat < S2432.size a := fun v866 k0_hw131 => k0_hw131

def k0_chk132 (v868 : IVec S16 32) : Prop :=
  (∀ a x, ((![v868] : Fin 1 → IVec S16 32) a x).toNat < S2432.size a)
theorem k0_idx132_inb : ∀ (v868 : IVec S16 32) (k0_hw132 : k0_chk132 v868), ∀ a x, ((![v868] : Fin 1 → IVec S16 32) a x).toNat < S2432.size a := fun v868 k0_hw132 => k0_hw132
def k0_off125 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v870 : Index := Scalar.indexCast v853
  let c0_251 : Index := 0#32
  ![v870.toNat, 0]
def k0_off126 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v872 : Index := Scalar.indexCast v853
  let c16_252 : Index := 16#32
  ![v872.toNat, 16]
def k0_off127 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v874 : Index := Scalar.indexCast v853
  let c32_253 : Index := 32#32
  ![v874.toNat, 32]
def k0_off128 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v876 : Index := Scalar.indexCast v853
  let c48_254 : Index := 48#32
  ![v876.toNat, 48]
def k0_off129 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v878 : Index := Scalar.indexCast v853
  let c64_255 : Index := 64#32
  ![v878.toNat, 64]
def k0_off130 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v880 : Index := Scalar.indexCast v853
  let c80_256 : Index := 80#32
  ![v880.toNat, 80]
def k0_off131 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v882 : Index := Scalar.indexCast v853
  let c96_257 : Index := 96#32
  ![v882.toNat, 96]
def k0_off132 (k0_t2 : Fin k0_t2_loop.trips) : Fin 2 → Nat :=
  let c0_i32_100 : BitVec 32 := 0#32
  let c0_i32_49 : BitVec 32 := 0#32
  let c1_i32_51 : BitVec 32 := 1#32
  let arg14 : BitVec 32 := Scf.iv c0_i32_49 c1_i32_51 k0_t2
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v884 : Index := Scalar.indexCast v853
  let c112_258 : Index := 112#32
  ![v884.toNat, 112]
def k0_off133 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_15 : BitVec 32 := 0#32
  let c0_i32_2 : BitVec 32 := 0#32
  let c1_i32_4 : BitVec 32 := 1#32
  let arg13 : BitVec 32 := Scf.iv c0_i32_2 c1_i32_4 k0_t1
  let c1_i32_14 : BitVec 32 := 1#32
  let v28 : BitVec 32 := Scalar.muli arg13 c1_i32_14
  let v29 : BitVec 32 := Scalar.addi c0_i32_15 v28
  let c2_i32_18 : BitVec 32 := 2#32
  let v33 : BitVec 32 := Scalar.muli v29 c2_i32_18
  let c0_i32_19 : BitVec 32 := 0#32
  let v34 : BitVec 32 := Scalar.addi v33 c0_i32_19
  let c0_i32_21 : BitVec 32 := 0#32
  let v36 : BitVec 1 := Scalar.cmpi .sgt v34 c0_i32_21
  let v37 : BitVec 32 := Scalar.extui v36
  let c0_i32_22 : BitVec 32 := 0#32
  let v38 : BitVec 1 := Scalar.cmpi .slt v34 c0_i32_22
  let v39 : BitVec 32 := Scalar.extui v38
  let v40 : BitVec 32 := Scalar.subi v37 v39
  let c2_i32_20 : BitVec 32 := 2#32
  let c0_i32_23 : BitVec 32 := 0#32
  let v41 : BitVec 1 := Scalar.cmpi .sgt c2_i32_20 c0_i32_23
  let v42 : BitVec 32 := Scalar.extui v41
  let c0_i32_24 : BitVec 32 := 0#32
  let v43 : BitVec 1 := Scalar.cmpi .slt c2_i32_20 c0_i32_24
  let v44 : BitVec 32 := Scalar.extui v43
  let v45 : BitVec 32 := Scalar.subi v42 v44
  let v46 : BitVec 1 := Scalar.cmpi .ne v40 v45
  let v47 : BitVec 32 := Scalar.remsi v34 c2_i32_20
  let c0_i32_25 : BitVec 32 := 0#32
  let v48 : BitVec 1 := Scalar.cmpi .ne v47 c0_i32_25
  let v49 : BitVec 1 := Scalar.andi v46 v48
  let v35 : BitVec 32 := Scalar.divsi v34 c2_i32_20
  let c1_i32_26 : BitVec 32 := 1#32
  let v50 : BitVec 32 := Scalar.subi v35 c1_i32_26
  let v51 : BitVec 32 := Scalar.select v49 v50 v35
  let v52 : BitVec 32 := Scalar.addi v2 v51
  let c512_i32_53 : BitVec 32 := 512#32
  let v109 : BitVec 32 := Scalar.muli v52 c512_i32_53
  let c2_i32_39 : BitVec 32 := 2#32
  let c0_i32_40 : BitVec 32 := 0#32
  let v80 : BitVec 1 := Scalar.cmpi .eq c2_i32_39 c0_i32_40
  let c1_i32_41 : BitVec 32 := 1#32
  let v81 : BitVec 32 := Scalar.select v80 c1_i32_41 c2_i32_39
  let v82 : BitVec 32 := Scalar.remsi v34 v81
  let c0_i32_43 : BitVec 32 := 0#32
  let v84 : BitVec 1 := Scalar.cmpi .slt v82 c0_i32_43
  let c0_i32_44 : BitVec 32 := 0#32
  let v85 : BitVec 1 := Scalar.cmpi .slt v81 c0_i32_44
  let v86 : BitVec 1 := Scalar.xori v84 v85
  let c0_i32_42 : BitVec 32 := 0#32
  let v83 : BitVec 1 := Scalar.cmpi .ne v82 c0_i32_42
  let v87 : BitVec 1 := Scalar.andi v86 v83
  let v88 : BitVec 32 := Scalar.addi v82 v81
  let v89 : BitVec 32 := Scalar.select v87 v88 v82
  let c256_i32 : BitVec 32 := 256#32
  let v90 : BitVec 32 := Scalar.muli v89 c256_i32
  let v110 : BitVec 32 := Scalar.addi v109 v90
  let c0_i32_54 : BitVec 32 := 0#32
  ![v110.toNat, 0]

def k0_chk133 (v180 : IVec S16 32) : Prop :=
  (∀ a x, ((![v180] : Fin 1 → IVec S16 32) a x).toNat < S3072.size a)
theorem k0_idx133_inb : ∀ (v180 : IVec S16 32) (k0_hw133 : k0_chk133 v180), ∀ a x, ((![v180] : Fin 1 → IVec S16 32) a x).toNat < S3072.size a := fun v180 k0_hw133 => k0_hw133

def k0_chk134 (v183 : IVec S16 32) : Prop :=
  (∀ a x, ((![v183] : Fin 1 → IVec S16 32) a x).toNat < S3072.size a)
theorem k0_idx134_inb : ∀ (v183 : IVec S16 32) (k0_hw134 : k0_chk134 v183), ∀ a x, ((![v183] : Fin 1 → IVec S16 32) a x).toNat < S3072.size a := fun v183 k0_hw134 => k0_hw134

def k0_chk135 (v186 : IVec S16 32) : Prop :=
  (∀ a x, ((![v186] : Fin 1 → IVec S16 32) a x).toNat < S3072.size a)
theorem k0_idx135_inb : ∀ (v186 : IVec S16 32) (k0_hw135 : k0_chk135 v186), ∀ a x, ((![v186] : Fin 1 → IVec S16 32) a x).toNat < S3072.size a := fun v186 k0_hw135 => k0_hw135

def k0_chk136 (v189 : IVec S16 32) : Prop :=
  (∀ a x, ((![v189] : Fin 1 → IVec S16 32) a x).toNat < S1024.size a)
theorem k0_idx136_inb : ∀ (v189 : IVec S16 32) (k0_hw136 : k0_chk136 v189), ∀ a x, ((![v189] : Fin 1 → IVec S16 32) a x).toNat < S1024.size a := fun v189 k0_hw136 => k0_hw136
@[reducible] def k0_t3_loop : Scf.Loop 32 :=
  let c0_i32_92 : BitVec 32 := 0#32
  let c16_i32_93 : BitVec 32 := 16#32
  let v191 : BitVec 32 := Scalar.addi c0_i32_92 c16_i32_93
  let c1_i32_94 : BitVec 32 := 1#32
  ⟨c0_i32_92, v191, c1_i32_94⟩
def k0_off134 (i : grid0.Coords) (k0_t1 : Fin k0_t1_loop.trips) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_15 : BitVec 32 := 0#32
  let c0_i32_2 : BitVec 32 := 0#32
  let c1_i32_4 : BitVec 32 := 1#32
  let arg13 : BitVec 32 := Scf.iv c0_i32_2 c1_i32_4 k0_t1
  let c1_i32_14 : BitVec 32 := 1#32
  let v28 : BitVec 32 := Scalar.muli arg13 c1_i32_14
  let v29 : BitVec 32 := Scalar.addi c0_i32_15 v28
  let c2_i32_58 : BitVec 32 := 2#32
  let v116 : BitVec 32 := Scalar.muli v29 c2_i32_58
  let c1_i32_59 : BitVec 32 := 1#32
  let v117 : BitVec 32 := Scalar.addi v116 c1_i32_59
  let c0_i32_61 : BitVec 32 := 0#32
  let v119 : BitVec 1 := Scalar.cmpi .sgt v117 c0_i32_61
  let v120 : BitVec 32 := Scalar.extui v119
  let c0_i32_62 : BitVec 32 := 0#32
  let v121 : BitVec 1 := Scalar.cmpi .slt v117 c0_i32_62
  let v122 : BitVec 32 := Scalar.extui v121
  let v123 : BitVec 32 := Scalar.subi v120 v122
  let c2_i32_60 : BitVec 32 := 2#32
  let c0_i32_63 : BitVec 32 := 0#32
  let v124 : BitVec 1 := Scalar.cmpi .sgt c2_i32_60 c0_i32_63
  let v125 : BitVec 32 := Scalar.extui v124
  let c0_i32_64 : BitVec 32 := 0#32
  let v126 : BitVec 1 := Scalar.cmpi .slt c2_i32_60 c0_i32_64
  let v127 : BitVec 32 := Scalar.extui v126
  let v128 : BitVec 32 := Scalar.subi v125 v127
  let v129 : BitVec 1 := Scalar.cmpi .ne v123 v128
  let v130 : BitVec 32 := Scalar.remsi v117 c2_i32_60
  let c0_i32_65 : BitVec 32 := 0#32
  let v131 : BitVec 1 := Scalar.cmpi .ne v130 c0_i32_65
  let v132 : BitVec 1 := Scalar.andi v129 v131
  let v118 : BitVec 32 := Scalar.divsi v117 c2_i32_60
  let c1_i32_66 : BitVec 32 := 1#32
  let v133 : BitVec 32 := Scalar.subi v118 c1_i32_66
  let v134 : BitVec 32 := Scalar.select v132 v133 v118
  let v135 : BitVec 32 := Scalar.addi v2 v134
  let c0_i32_68 : BitVec 32 := 0#32
  let v137 : BitVec 1 := Scalar.cmpi .sgt v135 c0_i32_68
  let v138 : BitVec 32 := Scalar.extui v137
  let c0_i32_69 : BitVec 32 := 0#32
  let v139 : BitVec 1 := Scalar.cmpi .slt v135 c0_i32_69
  let v140 : BitVec 32 := Scalar.extui v139
  let v141 : BitVec 32 := Scalar.subi v138 v140
  let c512_i32_67 : BitVec 32 := 512#32
  let c0_i32_70 : BitVec 32 := 0#32
  let v142 : BitVec 1 := Scalar.cmpi .sgt c512_i32_67 c0_i32_70
  let v143 : BitVec 32 := Scalar.extui v142
  let c0_i32_71 : BitVec 32 := 0#32
  let v144 : BitVec 1 := Scalar.cmpi .slt c512_i32_67 c0_i32_71
  let v145 : BitVec 32 := Scalar.extui v144
  let v146 : BitVec 32 := Scalar.subi v143 v145
  let v147 : BitVec 1 := Scalar.cmpi .ne v141 v146
  let v148 : BitVec 32 := Scalar.remsi v135 c512_i32_67
  let c0_i32_72 : BitVec 32 := 0#32
  let v149 : BitVec 1 := Scalar.cmpi .ne v148 c0_i32_72
  let v150 : BitVec 1 := Scalar.andi v147 v149
  let v136 : BitVec 32 := Scalar.divsi v135 c512_i32_67
  let c1_i32_73 : BitVec 32 := 1#32
  let v151 : BitVec 32 := Scalar.subi v136 c1_i32_73
  let v152 : BitVec 32 := Scalar.select v150 v151 v136
  let c3_i32_87 : BitVec 32 := 3#32
  let v174 : BitVec 32 := Scalar.muli v152 c3_i32_87
  let c512_i32_88 : BitVec 32 := 512#32
  let v175 : BitVec 32 := Scalar.muli v174 c512_i32_88
  let c2_i32_80 : BitVec 32 := 2#32
  let c0_i32_81 : BitVec 32 := 0#32
  let v163 : BitVec 1 := Scalar.cmpi .eq c2_i32_80 c0_i32_81
  let c1_i32_82 : BitVec 32 := 1#32
  let v164 : BitVec 32 := Scalar.select v163 c1_i32_82 c2_i32_80
  let v165 : BitVec 32 := Scalar.remsi v117 v164
  let c0_i32_84 : BitVec 32 := 0#32
  let v167 : BitVec 1 := Scalar.cmpi .slt v165 c0_i32_84
  let c0_i32_85 : BitVec 32 := 0#32
  let v168 : BitVec 1 := Scalar.cmpi .slt v164 c0_i32_85
  let v169 : BitVec 1 := Scalar.xori v167 v168
  let c0_i32_83 : BitVec 32 := 0#32
  let v166 : BitVec 1 := Scalar.cmpi .ne v165 c0_i32_83
  let v170 : BitVec 1 := Scalar.andi v169 v166
  let v171 : BitVec 32 := Scalar.addi v165 v164
  let v172 : BitVec 32 := Scalar.select v170 v171 v165
  let c256_i32_86 : BitVec 32 := 256#32
  let v173 : BitVec 32 := Scalar.muli v172 c256_i32_86
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_101 : BitVec 32 := 16#32
  let v198 : BitVec 32 := Scalar.muli v197 c16_i32_101
  let v199 : BitVec 32 := Scalar.addi v173 v198
  let v200 : BitVec 32 := Scalar.addi v175 v199
  let v201 : Index := Scalar.indexCast v200
  ![v201.toNat]
def k0_off135 (i : grid0.Coords) (k0_t1 : Fin k0_t1_loop.trips) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_15 : BitVec 32 := 0#32
  let c0_i32_2 : BitVec 32 := 0#32
  let c1_i32_4 : BitVec 32 := 1#32
  let arg13 : BitVec 32 := Scf.iv c0_i32_2 c1_i32_4 k0_t1
  let c1_i32_14 : BitVec 32 := 1#32
  let v28 : BitVec 32 := Scalar.muli arg13 c1_i32_14
  let v29 : BitVec 32 := Scalar.addi c0_i32_15 v28
  let c2_i32_58 : BitVec 32 := 2#32
  let v116 : BitVec 32 := Scalar.muli v29 c2_i32_58
  let c1_i32_59 : BitVec 32 := 1#32
  let v117 : BitVec 32 := Scalar.addi v116 c1_i32_59
  let c0_i32_61 : BitVec 32 := 0#32
  let v119 : BitVec 1 := Scalar.cmpi .sgt v117 c0_i32_61
  let v120 : BitVec 32 := Scalar.extui v119
  let c0_i32_62 : BitVec 32 := 0#32
  let v121 : BitVec 1 := Scalar.cmpi .slt v117 c0_i32_62
  let v122 : BitVec 32 := Scalar.extui v121
  let v123 : BitVec 32 := Scalar.subi v120 v122
  let c2_i32_60 : BitVec 32 := 2#32
  let c0_i32_63 : BitVec 32 := 0#32
  let v124 : BitVec 1 := Scalar.cmpi .sgt c2_i32_60 c0_i32_63
  let v125 : BitVec 32 := Scalar.extui v124
  let c0_i32_64 : BitVec 32 := 0#32
  let v126 : BitVec 1 := Scalar.cmpi .slt c2_i32_60 c0_i32_64
  let v127 : BitVec 32 := Scalar.extui v126
  let v128 : BitVec 32 := Scalar.subi v125 v127
  let v129 : BitVec 1 := Scalar.cmpi .ne v123 v128
  let v130 : BitVec 32 := Scalar.remsi v117 c2_i32_60
  let c0_i32_65 : BitVec 32 := 0#32
  let v131 : BitVec 1 := Scalar.cmpi .ne v130 c0_i32_65
  let v132 : BitVec 1 := Scalar.andi v129 v131
  let v118 : BitVec 32 := Scalar.divsi v117 c2_i32_60
  let c1_i32_66 : BitVec 32 := 1#32
  let v133 : BitVec 32 := Scalar.subi v118 c1_i32_66
  let v134 : BitVec 32 := Scalar.select v132 v133 v118
  let v135 : BitVec 32 := Scalar.addi v2 v134
  let c0_i32_68 : BitVec 32 := 0#32
  let v137 : BitVec 1 := Scalar.cmpi .sgt v135 c0_i32_68
  let v138 : BitVec 32 := Scalar.extui v137
  let c0_i32_69 : BitVec 32 := 0#32
  let v139 : BitVec 1 := Scalar.cmpi .slt v135 c0_i32_69
  let v140 : BitVec 32 := Scalar.extui v139
  let v141 : BitVec 32 := Scalar.subi v138 v140
  let c512_i32_67 : BitVec 32 := 512#32
  let c0_i32_70 : BitVec 32 := 0#32
  let v142 : BitVec 1 := Scalar.cmpi .sgt c512_i32_67 c0_i32_70
  let v143 : BitVec 32 := Scalar.extui v142
  let c0_i32_71 : BitVec 32 := 0#32
  let v144 : BitVec 1 := Scalar.cmpi .slt c512_i32_67 c0_i32_71
  let v145 : BitVec 32 := Scalar.extui v144
  let v146 : BitVec 32 := Scalar.subi v143 v145
  let v147 : BitVec 1 := Scalar.cmpi .ne v141 v146
  let v148 : BitVec 32 := Scalar.remsi v135 c512_i32_67
  let c0_i32_72 : BitVec 32 := 0#32
  let v149 : BitVec 1 := Scalar.cmpi .ne v148 c0_i32_72
  let v150 : BitVec 1 := Scalar.andi v147 v149
  let v136 : BitVec 32 := Scalar.divsi v135 c512_i32_67
  let c1_i32_73 : BitVec 32 := 1#32
  let v151 : BitVec 32 := Scalar.subi v136 c1_i32_73
  let v152 : BitVec 32 := Scalar.select v150 v151 v136
  let c3_i32_87 : BitVec 32 := 3#32
  let v174 : BitVec 32 := Scalar.muli v152 c3_i32_87
  let c512_i32_88 : BitVec 32 := 512#32
  let v175 : BitVec 32 := Scalar.muli v174 c512_i32_88
  let c512_i32_89 : BitVec 32 := 512#32
  let v176 : BitVec 32 := Scalar.addi v175 c512_i32_89
  let c2_i32_80 : BitVec 32 := 2#32
  let c0_i32_81 : BitVec 32 := 0#32
  let v163 : BitVec 1 := Scalar.cmpi .eq c2_i32_80 c0_i32_81
  let c1_i32_82 : BitVec 32 := 1#32
  let v164 : BitVec 32 := Scalar.select v163 c1_i32_82 c2_i32_80
  let v165 : BitVec 32 := Scalar.remsi v117 v164
  let c0_i32_84 : BitVec 32 := 0#32
  let v167 : BitVec 1 := Scalar.cmpi .slt v165 c0_i32_84
  let c0_i32_85 : BitVec 32 := 0#32
  let v168 : BitVec 1 := Scalar.cmpi .slt v164 c0_i32_85
  let v169 : BitVec 1 := Scalar.xori v167 v168
  let c0_i32_83 : BitVec 32 := 0#32
  let v166 : BitVec 1 := Scalar.cmpi .ne v165 c0_i32_83
  let v170 : BitVec 1 := Scalar.andi v169 v166
  let v171 : BitVec 32 := Scalar.addi v165 v164
  let v172 : BitVec 32 := Scalar.select v170 v171 v165
  let c256_i32_86 : BitVec 32 := 256#32
  let v173 : BitVec 32 := Scalar.muli v172 c256_i32_86
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_101 : BitVec 32 := 16#32
  let v198 : BitVec 32 := Scalar.muli v197 c16_i32_101
  let v199 : BitVec 32 := Scalar.addi v173 v198
  let v204 : BitVec 32 := Scalar.addi v176 v199
  let v205 : Index := Scalar.indexCast v204
  ![v205.toNat]
def k0_off136 (i : grid0.Coords) (k0_t1 : Fin k0_t1_loop.trips) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_15 : BitVec 32 := 0#32
  let c0_i32_2 : BitVec 32 := 0#32
  let c1_i32_4 : BitVec 32 := 1#32
  let arg13 : BitVec 32 := Scf.iv c0_i32_2 c1_i32_4 k0_t1
  let c1_i32_14 : BitVec 32 := 1#32
  let v28 : BitVec 32 := Scalar.muli arg13 c1_i32_14
  let v29 : BitVec 32 := Scalar.addi c0_i32_15 v28
  let c2_i32_58 : BitVec 32 := 2#32
  let v116 : BitVec 32 := Scalar.muli v29 c2_i32_58
  let c1_i32_59 : BitVec 32 := 1#32
  let v117 : BitVec 32 := Scalar.addi v116 c1_i32_59
  let c0_i32_61 : BitVec 32 := 0#32
  let v119 : BitVec 1 := Scalar.cmpi .sgt v117 c0_i32_61
  let v120 : BitVec 32 := Scalar.extui v119
  let c0_i32_62 : BitVec 32 := 0#32
  let v121 : BitVec 1 := Scalar.cmpi .slt v117 c0_i32_62
  let v122 : BitVec 32 := Scalar.extui v121
  let v123 : BitVec 32 := Scalar.subi v120 v122
  let c2_i32_60 : BitVec 32 := 2#32
  let c0_i32_63 : BitVec 32 := 0#32
  let v124 : BitVec 1 := Scalar.cmpi .sgt c2_i32_60 c0_i32_63
  let v125 : BitVec 32 := Scalar.extui v124
  let c0_i32_64 : BitVec 32 := 0#32
  let v126 : BitVec 1 := Scalar.cmpi .slt c2_i32_60 c0_i32_64
  let v127 : BitVec 32 := Scalar.extui v126
  let v128 : BitVec 32 := Scalar.subi v125 v127
  let v129 : BitVec 1 := Scalar.cmpi .ne v123 v128
  let v130 : BitVec 32 := Scalar.remsi v117 c2_i32_60
  let c0_i32_65 : BitVec 32 := 0#32
  let v131 : BitVec 1 := Scalar.cmpi .ne v130 c0_i32_65
  let v132 : BitVec 1 := Scalar.andi v129 v131
  let v118 : BitVec 32 := Scalar.divsi v117 c2_i32_60
  let c1_i32_66 : BitVec 32 := 1#32
  let v133 : BitVec 32 := Scalar.subi v118 c1_i32_66
  let v134 : BitVec 32 := Scalar.select v132 v133 v118
  let v135 : BitVec 32 := Scalar.addi v2 v134
  let c0_i32_68 : BitVec 32 := 0#32
  let v137 : BitVec 1 := Scalar.cmpi .sgt v135 c0_i32_68
  let v138 : BitVec 32 := Scalar.extui v137
  let c0_i32_69 : BitVec 32 := 0#32
  let v139 : BitVec 1 := Scalar.cmpi .slt v135 c0_i32_69
  let v140 : BitVec 32 := Scalar.extui v139
  let v141 : BitVec 32 := Scalar.subi v138 v140
  let c512_i32_67 : BitVec 32 := 512#32
  let c0_i32_70 : BitVec 32 := 0#32
  let v142 : BitVec 1 := Scalar.cmpi .sgt c512_i32_67 c0_i32_70
  let v143 : BitVec 32 := Scalar.extui v142
  let c0_i32_71 : BitVec 32 := 0#32
  let v144 : BitVec 1 := Scalar.cmpi .slt c512_i32_67 c0_i32_71
  let v145 : BitVec 32 := Scalar.extui v144
  let v146 : BitVec 32 := Scalar.subi v143 v145
  let v147 : BitVec 1 := Scalar.cmpi .ne v141 v146
  let v148 : BitVec 32 := Scalar.remsi v135 c512_i32_67
  let c0_i32_72 : BitVec 32 := 0#32
  let v149 : BitVec 1 := Scalar.cmpi .ne v148 c0_i32_72
  let v150 : BitVec 1 := Scalar.andi v147 v149
  let v136 : BitVec 32 := Scalar.divsi v135 c512_i32_67
  let c1_i32_73 : BitVec 32 := 1#32
  let v151 : BitVec 32 := Scalar.subi v136 c1_i32_73
  let v152 : BitVec 32 := Scalar.select v150 v151 v136
  let c3_i32_87 : BitVec 32 := 3#32
  let v174 : BitVec 32 := Scalar.muli v152 c3_i32_87
  let c512_i32_88 : BitVec 32 := 512#32
  let v175 : BitVec 32 := Scalar.muli v174 c512_i32_88
  let c512_i32_89 : BitVec 32 := 512#32
  let v176 : BitVec 32 := Scalar.addi v175 c512_i32_89
  let c512_i32_90 : BitVec 32 := 512#32
  let v177 : BitVec 32 := Scalar.addi v176 c512_i32_90
  let c2_i32_80 : BitVec 32 := 2#32
  let c0_i32_81 : BitVec 32 := 0#32
  let v163 : BitVec 1 := Scalar.cmpi .eq c2_i32_80 c0_i32_81
  let c1_i32_82 : BitVec 32 := 1#32
  let v164 : BitVec 32 := Scalar.select v163 c1_i32_82 c2_i32_80
  let v165 : BitVec 32 := Scalar.remsi v117 v164
  let c0_i32_84 : BitVec 32 := 0#32
  let v167 : BitVec 1 := Scalar.cmpi .slt v165 c0_i32_84
  let c0_i32_85 : BitVec 32 := 0#32
  let v168 : BitVec 1 := Scalar.cmpi .slt v164 c0_i32_85
  let v169 : BitVec 1 := Scalar.xori v167 v168
  let c0_i32_83 : BitVec 32 := 0#32
  let v166 : BitVec 1 := Scalar.cmpi .ne v165 c0_i32_83
  let v170 : BitVec 1 := Scalar.andi v169 v166
  let v171 : BitVec 32 := Scalar.addi v165 v164
  let v172 : BitVec 32 := Scalar.select v170 v171 v165
  let c256_i32_86 : BitVec 32 := 256#32
  let v173 : BitVec 32 := Scalar.muli v172 c256_i32_86
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_101 : BitVec 32 := 16#32
  let v198 : BitVec 32 := Scalar.muli v197 c16_i32_101
  let v199 : BitVec 32 := Scalar.addi v173 v198
  let v208 : BitVec 32 := Scalar.addi v177 v199
  let v209 : Index := Scalar.indexCast v208
  ![v209.toNat]
def k0_off137 (i : grid0.Coords) (k0_t1 : Fin k0_t1_loop.trips) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_15 : BitVec 32 := 0#32
  let c0_i32_2 : BitVec 32 := 0#32
  let c1_i32_4 : BitVec 32 := 1#32
  let arg13 : BitVec 32 := Scf.iv c0_i32_2 c1_i32_4 k0_t1
  let c1_i32_14 : BitVec 32 := 1#32
  let v28 : BitVec 32 := Scalar.muli arg13 c1_i32_14
  let v29 : BitVec 32 := Scalar.addi c0_i32_15 v28
  let c2_i32_58 : BitVec 32 := 2#32
  let v116 : BitVec 32 := Scalar.muli v29 c2_i32_58
  let c1_i32_59 : BitVec 32 := 1#32
  let v117 : BitVec 32 := Scalar.addi v116 c1_i32_59
  let c0_i32_61 : BitVec 32 := 0#32
  let v119 : BitVec 1 := Scalar.cmpi .sgt v117 c0_i32_61
  let v120 : BitVec 32 := Scalar.extui v119
  let c0_i32_62 : BitVec 32 := 0#32
  let v121 : BitVec 1 := Scalar.cmpi .slt v117 c0_i32_62
  let v122 : BitVec 32 := Scalar.extui v121
  let v123 : BitVec 32 := Scalar.subi v120 v122
  let c2_i32_60 : BitVec 32 := 2#32
  let c0_i32_63 : BitVec 32 := 0#32
  let v124 : BitVec 1 := Scalar.cmpi .sgt c2_i32_60 c0_i32_63
  let v125 : BitVec 32 := Scalar.extui v124
  let c0_i32_64 : BitVec 32 := 0#32
  let v126 : BitVec 1 := Scalar.cmpi .slt c2_i32_60 c0_i32_64
  let v127 : BitVec 32 := Scalar.extui v126
  let v128 : BitVec 32 := Scalar.subi v125 v127
  let v129 : BitVec 1 := Scalar.cmpi .ne v123 v128
  let v130 : BitVec 32 := Scalar.remsi v117 c2_i32_60
  let c0_i32_65 : BitVec 32 := 0#32
  let v131 : BitVec 1 := Scalar.cmpi .ne v130 c0_i32_65
  let v132 : BitVec 1 := Scalar.andi v129 v131
  let v118 : BitVec 32 := Scalar.divsi v117 c2_i32_60
  let c1_i32_66 : BitVec 32 := 1#32
  let v133 : BitVec 32 := Scalar.subi v118 c1_i32_66
  let v134 : BitVec 32 := Scalar.select v132 v133 v118
  let v135 : BitVec 32 := Scalar.addi v2 v134
  let c0_i32_68 : BitVec 32 := 0#32
  let v137 : BitVec 1 := Scalar.cmpi .sgt v135 c0_i32_68
  let v138 : BitVec 32 := Scalar.extui v137
  let c0_i32_69 : BitVec 32 := 0#32
  let v139 : BitVec 1 := Scalar.cmpi .slt v135 c0_i32_69
  let v140 : BitVec 32 := Scalar.extui v139
  let v141 : BitVec 32 := Scalar.subi v138 v140
  let c512_i32_67 : BitVec 32 := 512#32
  let c0_i32_70 : BitVec 32 := 0#32
  let v142 : BitVec 1 := Scalar.cmpi .sgt c512_i32_67 c0_i32_70
  let v143 : BitVec 32 := Scalar.extui v142
  let c0_i32_71 : BitVec 32 := 0#32
  let v144 : BitVec 1 := Scalar.cmpi .slt c512_i32_67 c0_i32_71
  let v145 : BitVec 32 := Scalar.extui v144
  let v146 : BitVec 32 := Scalar.subi v143 v145
  let v147 : BitVec 1 := Scalar.cmpi .ne v141 v146
  let v148 : BitVec 32 := Scalar.remsi v135 c512_i32_67
  let c0_i32_72 : BitVec 32 := 0#32
  let v149 : BitVec 1 := Scalar.cmpi .ne v148 c0_i32_72
  let v150 : BitVec 1 := Scalar.andi v147 v149
  let v136 : BitVec 32 := Scalar.divsi v135 c512_i32_67
  let c1_i32_73 : BitVec 32 := 1#32
  let v151 : BitVec 32 := Scalar.subi v136 c1_i32_73
  let v152 : BitVec 32 := Scalar.select v150 v151 v136
  let c512_i32_91 : BitVec 32 := 512#32
  let v178 : BitVec 32 := Scalar.muli v152 c512_i32_91
  let c2_i32_80 : BitVec 32 := 2#32
  let c0_i32_81 : BitVec 32 := 0#32
  let v163 : BitVec 1 := Scalar.cmpi .eq c2_i32_80 c0_i32_81
  let c1_i32_82 : BitVec 32 := 1#32
  let v164 : BitVec 32 := Scalar.select v163 c1_i32_82 c2_i32_80
  let v165 : BitVec 32 := Scalar.remsi v117 v164
  let c0_i32_84 : BitVec 32 := 0#32
  let v167 : BitVec 1 := Scalar.cmpi .slt v165 c0_i32_84
  let c0_i32_85 : BitVec 32 := 0#32
  let v168 : BitVec 1 := Scalar.cmpi .slt v164 c0_i32_85
  let v169 : BitVec 1 := Scalar.xori v167 v168
  let c0_i32_83 : BitVec 32 := 0#32
  let v166 : BitVec 1 := Scalar.cmpi .ne v165 c0_i32_83
  let v170 : BitVec 1 := Scalar.andi v169 v166
  let v171 : BitVec 32 := Scalar.addi v165 v164
  let v172 : BitVec 32 := Scalar.select v170 v171 v165
  let c256_i32_86 : BitVec 32 := 256#32
  let v173 : BitVec 32 := Scalar.muli v172 c256_i32_86
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_101 : BitVec 32 := 16#32
  let v198 : BitVec 32 := Scalar.muli v197 c16_i32_101
  let v199 : BitVec 32 := Scalar.addi v173 v198
  let v285 : BitVec 32 := Scalar.addi v178 v199
  let v286 : Index := Scalar.indexCast v285
  ![v286.toNat]

def k0_chk137 (v299 : IVec S16 32) : Prop :=
  (∀ a x, ((![v299] : Fin 1 → IVec S16 32) a x).toNat < S2432.size a)
theorem k0_idx137_inb : ∀ (v299 : IVec S16 32) (k0_hw137 : k0_chk137 v299), ∀ a x, ((![v299] : Fin 1 → IVec S16 32) a x).toNat < S2432.size a := fun v299 k0_hw137 => k0_hw137

def k0_chk138 (v301 : IVec S16 32) : Prop :=
  (∀ a x, ((![v301] : Fin 1 → IVec S16 32) a x).toNat < S2432.size a)
theorem k0_idx138_inb : ∀ (v301 : IVec S16 32) (k0_hw138 : k0_chk138 v301), ∀ a x, ((![v301] : Fin 1 → IVec S16 32) a x).toNat < S2432.size a := fun v301 k0_hw138 => k0_hw138

def k0_chk139 (v303 : IVec S16 32) : Prop :=
  (∀ a x, ((![v303] : Fin 1 → IVec S16 32) a x).toNat < S2432.size a)
theorem k0_idx139_inb : ∀ (v303 : IVec S16 32) (k0_hw139 : k0_chk139 v303), ∀ a x, ((![v303] : Fin 1 → IVec S16 32) a x).toNat < S2432.size a := fun v303 k0_hw139 => k0_hw139

def k0_chk140 (v305 : IVec S16 32) : Prop :=
  (∀ a x, ((![v305] : Fin 1 → IVec S16 32) a x).toNat < S2432.size a)
theorem k0_idx140_inb : ∀ (v305 : IVec S16 32) (k0_hw140 : k0_chk140 v305), ∀ a x, ((![v305] : Fin 1 → IVec S16 32) a x).toNat < S2432.size a := fun v305 k0_hw140 => k0_hw140

def k0_chk141 (v307 : IVec S16 32) : Prop :=
  (∀ a x, ((![v307] : Fin 1 → IVec S16 32) a x).toNat < S2432.size a)
theorem k0_idx141_inb : ∀ (v307 : IVec S16 32) (k0_hw141 : k0_chk141 v307), ∀ a x, ((![v307] : Fin 1 → IVec S16 32) a x).toNat < S2432.size a := fun v307 k0_hw141 => k0_hw141

def k0_chk142 (v309 : IVec S16 32) : Prop :=
  (∀ a x, ((![v309] : Fin 1 → IVec S16 32) a x).toNat < S2432.size a)
theorem k0_idx142_inb : ∀ (v309 : IVec S16 32) (k0_hw142 : k0_chk142 v309), ∀ a x, ((![v309] : Fin 1 → IVec S16 32) a x).toNat < S2432.size a := fun v309 k0_hw142 => k0_hw142

def k0_chk143 (v311 : IVec S16 32) : Prop :=
  (∀ a x, ((![v311] : Fin 1 → IVec S16 32) a x).toNat < S2432.size a)
theorem k0_idx143_inb : ∀ (v311 : IVec S16 32) (k0_hw143 : k0_chk143 v311), ∀ a x, ((![v311] : Fin 1 → IVec S16 32) a x).toNat < S2432.size a := fun v311 k0_hw143 => k0_hw143

def k0_chk144 (v313 : IVec S16 32) : Prop :=
  (∀ a x, ((![v313] : Fin 1 → IVec S16 32) a x).toNat < S2432.size a)
theorem k0_idx144_inb : ∀ (v313 : IVec S16 32) (k0_hw144 : k0_chk144 v313), ∀ a x, ((![v313] : Fin 1 → IVec S16 32) a x).toNat < S2432.size a := fun v313 k0_hw144 => k0_hw144
def k0_off138 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v315 : Index := Scalar.indexCast v298
  let c0 : Index := 0#32
  ![v315.toNat, 0]
def k0_off139 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v317 : Index := Scalar.indexCast v298
  let c16 : Index := 16#32
  ![v317.toNat, 16]
def k0_off140 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v319 : Index := Scalar.indexCast v298
  let c32 : Index := 32#32
  ![v319.toNat, 32]
def k0_off141 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v321 : Index := Scalar.indexCast v298
  let c48 : Index := 48#32
  ![v321.toNat, 48]
def k0_off142 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v323 : Index := Scalar.indexCast v298
  let c64 : Index := 64#32
  ![v323.toNat, 64]
def k0_off143 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v325 : Index := Scalar.indexCast v298
  let c80 : Index := 80#32
  ![v325.toNat, 80]
def k0_off144 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v327 : Index := Scalar.indexCast v298
  let c96 : Index := 96#32
  ![v327.toNat, 96]
def k0_off145 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_119 : BitVec 32 := 16#32
  let v297 : BitVec 32 := Scalar.muli v197 c16_i32_119
  let c0_i32_120 : BitVec 32 := 0#32
  let v298 : BitVec 32 := Scalar.addi v297 c0_i32_120
  let v329 : Index := Scalar.indexCast v298
  let c112 : Index := 112#32
  ![v329.toNat, 112]

def k0_chk145 (v336 : IVec S16 32) : Prop :=
  (∀ a x, ((![v336] : Fin 1 → IVec S16 32) a x).toNat < S2432.size a)
theorem k0_idx145_inb : ∀ (v336 : IVec S16 32) (k0_hw145 : k0_chk145 v336), ∀ a x, ((![v336] : Fin 1 → IVec S16 32) a x).toNat < S2432.size a := fun v336 k0_hw145 => k0_hw145

def k0_chk146 (v338 : IVec S16 32) : Prop :=
  (∀ a x, ((![v338] : Fin 1 → IVec S16 32) a x).toNat < S2432.size a)
theorem k0_idx146_inb : ∀ (v338 : IVec S16 32) (k0_hw146 : k0_chk146 v338), ∀ a x, ((![v338] : Fin 1 → IVec S16 32) a x).toNat < S2432.size a := fun v338 k0_hw146 => k0_hw146

def k0_chk147 (v340 : IVec S16 32) : Prop :=
  (∀ a x, ((![v340] : Fin 1 → IVec S16 32) a x).toNat < S2432.size a)
theorem k0_idx147_inb : ∀ (v340 : IVec S16 32) (k0_hw147 : k0_chk147 v340), ∀ a x, ((![v340] : Fin 1 → IVec S16 32) a x).toNat < S2432.size a := fun v340 k0_hw147 => k0_hw147

def k0_chk148 (v342 : IVec S16 32) : Prop :=
  (∀ a x, ((![v342] : Fin 1 → IVec S16 32) a x).toNat < S2432.size a)
theorem k0_idx148_inb : ∀ (v342 : IVec S16 32) (k0_hw148 : k0_chk148 v342), ∀ a x, ((![v342] : Fin 1 → IVec S16 32) a x).toNat < S2432.size a := fun v342 k0_hw148 => k0_hw148

def k0_chk149 (v344 : IVec S16 32) : Prop :=
  (∀ a x, ((![v344] : Fin 1 → IVec S16 32) a x).toNat < S2432.size a)
theorem k0_idx149_inb : ∀ (v344 : IVec S16 32) (k0_hw149 : k0_chk149 v344), ∀ a x, ((![v344] : Fin 1 → IVec S16 32) a x).toNat < S2432.size a := fun v344 k0_hw149 => k0_hw149

def k0_chk150 (v346 : IVec S16 32) : Prop :=
  (∀ a x, ((![v346] : Fin 1 → IVec S16 32) a x).toNat < S2432.size a)
theorem k0_idx150_inb : ∀ (v346 : IVec S16 32) (k0_hw150 : k0_chk150 v346), ∀ a x, ((![v346] : Fin 1 → IVec S16 32) a x).toNat < S2432.size a := fun v346 k0_hw150 => k0_hw150

def k0_chk151 (v348 : IVec S16 32) : Prop :=
  (∀ a x, ((![v348] : Fin 1 → IVec S16 32) a x).toNat < S2432.size a)
theorem k0_idx151_inb : ∀ (v348 : IVec S16 32) (k0_hw151 : k0_chk151 v348), ∀ a x, ((![v348] : Fin 1 → IVec S16 32) a x).toNat < S2432.size a := fun v348 k0_hw151 => k0_hw151

def k0_chk152 (v350 : IVec S16 32) : Prop :=
  (∀ a x, ((![v350] : Fin 1 → IVec S16 32) a x).toNat < S2432.size a)
theorem k0_idx152_inb : ∀ (v350 : IVec S16 32) (k0_hw152 : k0_chk152 v350), ∀ a x, ((![v350] : Fin 1 → IVec S16 32) a x).toNat < S2432.size a := fun v350 k0_hw152 => k0_hw152
def k0_off146 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v352 : Index := Scalar.indexCast v335
  let c0_123 : Index := 0#32
  ![v352.toNat, 0]
def k0_off147 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v354 : Index := Scalar.indexCast v335
  let c16_124 : Index := 16#32
  ![v354.toNat, 16]
def k0_off148 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v356 : Index := Scalar.indexCast v335
  let c32_125 : Index := 32#32
  ![v356.toNat, 32]
def k0_off149 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v358 : Index := Scalar.indexCast v335
  let c48_126 : Index := 48#32
  ![v358.toNat, 48]
def k0_off150 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v360 : Index := Scalar.indexCast v335
  let c64_127 : Index := 64#32
  ![v360.toNat, 64]
def k0_off151 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v362 : Index := Scalar.indexCast v335
  let c80_128 : Index := 80#32
  ![v362.toNat, 80]
def k0_off152 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v364 : Index := Scalar.indexCast v335
  let c96_129 : Index := 96#32
  ![v364.toNat, 96]
def k0_off153 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_121 : BitVec 32 := 16#32
  let v334 : BitVec 32 := Scalar.muli v197 c16_i32_121
  let c1_i32_122 : BitVec 32 := 1#32
  let v335 : BitVec 32 := Scalar.addi v334 c1_i32_122
  let v366 : Index := Scalar.indexCast v335
  let c112_130 : Index := 112#32
  ![v366.toNat, 112]

def k0_chk153 (v373 : IVec S16 32) : Prop :=
  (∀ a x, ((![v373] : Fin 1 → IVec S16 32) a x).toNat < S2432.size a)
theorem k0_idx153_inb : ∀ (v373 : IVec S16 32) (k0_hw153 : k0_chk153 v373), ∀ a x, ((![v373] : Fin 1 → IVec S16 32) a x).toNat < S2432.size a := fun v373 k0_hw153 => k0_hw153

def k0_chk154 (v375 : IVec S16 32) : Prop :=
  (∀ a x, ((![v375] : Fin 1 → IVec S16 32) a x).toNat < S2432.size a)
theorem k0_idx154_inb : ∀ (v375 : IVec S16 32) (k0_hw154 : k0_chk154 v375), ∀ a x, ((![v375] : Fin 1 → IVec S16 32) a x).toNat < S2432.size a := fun v375 k0_hw154 => k0_hw154

def k0_chk155 (v377 : IVec S16 32) : Prop :=
  (∀ a x, ((![v377] : Fin 1 → IVec S16 32) a x).toNat < S2432.size a)
theorem k0_idx155_inb : ∀ (v377 : IVec S16 32) (k0_hw155 : k0_chk155 v377), ∀ a x, ((![v377] : Fin 1 → IVec S16 32) a x).toNat < S2432.size a := fun v377 k0_hw155 => k0_hw155

def k0_chk156 (v379 : IVec S16 32) : Prop :=
  (∀ a x, ((![v379] : Fin 1 → IVec S16 32) a x).toNat < S2432.size a)
theorem k0_idx156_inb : ∀ (v379 : IVec S16 32) (k0_hw156 : k0_chk156 v379), ∀ a x, ((![v379] : Fin 1 → IVec S16 32) a x).toNat < S2432.size a := fun v379 k0_hw156 => k0_hw156

def k0_chk157 (v381 : IVec S16 32) : Prop :=
  (∀ a x, ((![v381] : Fin 1 → IVec S16 32) a x).toNat < S2432.size a)
theorem k0_idx157_inb : ∀ (v381 : IVec S16 32) (k0_hw157 : k0_chk157 v381), ∀ a x, ((![v381] : Fin 1 → IVec S16 32) a x).toNat < S2432.size a := fun v381 k0_hw157 => k0_hw157

def k0_chk158 (v383 : IVec S16 32) : Prop :=
  (∀ a x, ((![v383] : Fin 1 → IVec S16 32) a x).toNat < S2432.size a)
theorem k0_idx158_inb : ∀ (v383 : IVec S16 32) (k0_hw158 : k0_chk158 v383), ∀ a x, ((![v383] : Fin 1 → IVec S16 32) a x).toNat < S2432.size a := fun v383 k0_hw158 => k0_hw158

def k0_chk159 (v385 : IVec S16 32) : Prop :=
  (∀ a x, ((![v385] : Fin 1 → IVec S16 32) a x).toNat < S2432.size a)
theorem k0_idx159_inb : ∀ (v385 : IVec S16 32) (k0_hw159 : k0_chk159 v385), ∀ a x, ((![v385] : Fin 1 → IVec S16 32) a x).toNat < S2432.size a := fun v385 k0_hw159 => k0_hw159

def k0_chk160 (v387 : IVec S16 32) : Prop :=
  (∀ a x, ((![v387] : Fin 1 → IVec S16 32) a x).toNat < S2432.size a)
theorem k0_idx160_inb : ∀ (v387 : IVec S16 32) (k0_hw160 : k0_chk160 v387), ∀ a x, ((![v387] : Fin 1 → IVec S16 32) a x).toNat < S2432.size a := fun v387 k0_hw160 => k0_hw160
def k0_off154 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v389 : Index := Scalar.indexCast v372
  let c0_133 : Index := 0#32
  ![v389.toNat, 0]
def k0_off155 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v391 : Index := Scalar.indexCast v372
  let c16_134 : Index := 16#32
  ![v391.toNat, 16]
def k0_off156 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v393 : Index := Scalar.indexCast v372
  let c32_135 : Index := 32#32
  ![v393.toNat, 32]
def k0_off157 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v395 : Index := Scalar.indexCast v372
  let c48_136 : Index := 48#32
  ![v395.toNat, 48]
def k0_off158 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v397 : Index := Scalar.indexCast v372
  let c64_137 : Index := 64#32
  ![v397.toNat, 64]
def k0_off159 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v399 : Index := Scalar.indexCast v372
  let c80_138 : Index := 80#32
  ![v399.toNat, 80]
def k0_off160 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v401 : Index := Scalar.indexCast v372
  let c96_139 : Index := 96#32
  ![v401.toNat, 96]
def k0_off161 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_131 : BitVec 32 := 16#32
  let v371 : BitVec 32 := Scalar.muli v197 c16_i32_131
  let c2_i32_132 : BitVec 32 := 2#32
  let v372 : BitVec 32 := Scalar.addi v371 c2_i32_132
  let v403 : Index := Scalar.indexCast v372
  let c112_140 : Index := 112#32
  ![v403.toNat, 112]

def k0_chk161 (v410 : IVec S16 32) : Prop :=
  (∀ a x, ((![v410] : Fin 1 → IVec S16 32) a x).toNat < S2432.size a)
theorem k0_idx161_inb : ∀ (v410 : IVec S16 32) (k0_hw161 : k0_chk161 v410), ∀ a x, ((![v410] : Fin 1 → IVec S16 32) a x).toNat < S2432.size a := fun v410 k0_hw161 => k0_hw161

def k0_chk162 (v412 : IVec S16 32) : Prop :=
  (∀ a x, ((![v412] : Fin 1 → IVec S16 32) a x).toNat < S2432.size a)
theorem k0_idx162_inb : ∀ (v412 : IVec S16 32) (k0_hw162 : k0_chk162 v412), ∀ a x, ((![v412] : Fin 1 → IVec S16 32) a x).toNat < S2432.size a := fun v412 k0_hw162 => k0_hw162

def k0_chk163 (v414 : IVec S16 32) : Prop :=
  (∀ a x, ((![v414] : Fin 1 → IVec S16 32) a x).toNat < S2432.size a)
theorem k0_idx163_inb : ∀ (v414 : IVec S16 32) (k0_hw163 : k0_chk163 v414), ∀ a x, ((![v414] : Fin 1 → IVec S16 32) a x).toNat < S2432.size a := fun v414 k0_hw163 => k0_hw163

def k0_chk164 (v416 : IVec S16 32) : Prop :=
  (∀ a x, ((![v416] : Fin 1 → IVec S16 32) a x).toNat < S2432.size a)
theorem k0_idx164_inb : ∀ (v416 : IVec S16 32) (k0_hw164 : k0_chk164 v416), ∀ a x, ((![v416] : Fin 1 → IVec S16 32) a x).toNat < S2432.size a := fun v416 k0_hw164 => k0_hw164

def k0_chk165 (v418 : IVec S16 32) : Prop :=
  (∀ a x, ((![v418] : Fin 1 → IVec S16 32) a x).toNat < S2432.size a)
theorem k0_idx165_inb : ∀ (v418 : IVec S16 32) (k0_hw165 : k0_chk165 v418), ∀ a x, ((![v418] : Fin 1 → IVec S16 32) a x).toNat < S2432.size a := fun v418 k0_hw165 => k0_hw165

def k0_chk166 (v420 : IVec S16 32) : Prop :=
  (∀ a x, ((![v420] : Fin 1 → IVec S16 32) a x).toNat < S2432.size a)
theorem k0_idx166_inb : ∀ (v420 : IVec S16 32) (k0_hw166 : k0_chk166 v420), ∀ a x, ((![v420] : Fin 1 → IVec S16 32) a x).toNat < S2432.size a := fun v420 k0_hw166 => k0_hw166

def k0_chk167 (v422 : IVec S16 32) : Prop :=
  (∀ a x, ((![v422] : Fin 1 → IVec S16 32) a x).toNat < S2432.size a)
theorem k0_idx167_inb : ∀ (v422 : IVec S16 32) (k0_hw167 : k0_chk167 v422), ∀ a x, ((![v422] : Fin 1 → IVec S16 32) a x).toNat < S2432.size a := fun v422 k0_hw167 => k0_hw167

def k0_chk168 (v424 : IVec S16 32) : Prop :=
  (∀ a x, ((![v424] : Fin 1 → IVec S16 32) a x).toNat < S2432.size a)
theorem k0_idx168_inb : ∀ (v424 : IVec S16 32) (k0_hw168 : k0_chk168 v424), ∀ a x, ((![v424] : Fin 1 → IVec S16 32) a x).toNat < S2432.size a := fun v424 k0_hw168 => k0_hw168
def k0_off162 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v426 : Index := Scalar.indexCast v409
  let c0_143 : Index := 0#32
  ![v426.toNat, 0]
def k0_off163 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v428 : Index := Scalar.indexCast v409
  let c16_144 : Index := 16#32
  ![v428.toNat, 16]
def k0_off164 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v430 : Index := Scalar.indexCast v409
  let c32_145 : Index := 32#32
  ![v430.toNat, 32]
def k0_off165 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v432 : Index := Scalar.indexCast v409
  let c48_146 : Index := 48#32
  ![v432.toNat, 48]
def k0_off166 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v434 : Index := Scalar.indexCast v409
  let c64_147 : Index := 64#32
  ![v434.toNat, 64]
def k0_off167 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v436 : Index := Scalar.indexCast v409
  let c80_148 : Index := 80#32
  ![v436.toNat, 80]
def k0_off168 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v438 : Index := Scalar.indexCast v409
  let c96_149 : Index := 96#32
  ![v438.toNat, 96]
def k0_off169 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_141 : BitVec 32 := 16#32
  let v408 : BitVec 32 := Scalar.muli v197 c16_i32_141
  let c3_i32_142 : BitVec 32 := 3#32
  let v409 : BitVec 32 := Scalar.addi v408 c3_i32_142
  let v440 : Index := Scalar.indexCast v409
  let c112_150 : Index := 112#32
  ![v440.toNat, 112]

def k0_chk169 (v447 : IVec S16 32) : Prop :=
  (∀ a x, ((![v447] : Fin 1 → IVec S16 32) a x).toNat < S2432.size a)
theorem k0_idx169_inb : ∀ (v447 : IVec S16 32) (k0_hw169 : k0_chk169 v447), ∀ a x, ((![v447] : Fin 1 → IVec S16 32) a x).toNat < S2432.size a := fun v447 k0_hw169 => k0_hw169

def k0_chk170 (v449 : IVec S16 32) : Prop :=
  (∀ a x, ((![v449] : Fin 1 → IVec S16 32) a x).toNat < S2432.size a)
theorem k0_idx170_inb : ∀ (v449 : IVec S16 32) (k0_hw170 : k0_chk170 v449), ∀ a x, ((![v449] : Fin 1 → IVec S16 32) a x).toNat < S2432.size a := fun v449 k0_hw170 => k0_hw170

def k0_chk171 (v451 : IVec S16 32) : Prop :=
  (∀ a x, ((![v451] : Fin 1 → IVec S16 32) a x).toNat < S2432.size a)
theorem k0_idx171_inb : ∀ (v451 : IVec S16 32) (k0_hw171 : k0_chk171 v451), ∀ a x, ((![v451] : Fin 1 → IVec S16 32) a x).toNat < S2432.size a := fun v451 k0_hw171 => k0_hw171

def k0_chk172 (v453 : IVec S16 32) : Prop :=
  (∀ a x, ((![v453] : Fin 1 → IVec S16 32) a x).toNat < S2432.size a)
theorem k0_idx172_inb : ∀ (v453 : IVec S16 32) (k0_hw172 : k0_chk172 v453), ∀ a x, ((![v453] : Fin 1 → IVec S16 32) a x).toNat < S2432.size a := fun v453 k0_hw172 => k0_hw172

def k0_chk173 (v455 : IVec S16 32) : Prop :=
  (∀ a x, ((![v455] : Fin 1 → IVec S16 32) a x).toNat < S2432.size a)
theorem k0_idx173_inb : ∀ (v455 : IVec S16 32) (k0_hw173 : k0_chk173 v455), ∀ a x, ((![v455] : Fin 1 → IVec S16 32) a x).toNat < S2432.size a := fun v455 k0_hw173 => k0_hw173

def k0_chk174 (v457 : IVec S16 32) : Prop :=
  (∀ a x, ((![v457] : Fin 1 → IVec S16 32) a x).toNat < S2432.size a)
theorem k0_idx174_inb : ∀ (v457 : IVec S16 32) (k0_hw174 : k0_chk174 v457), ∀ a x, ((![v457] : Fin 1 → IVec S16 32) a x).toNat < S2432.size a := fun v457 k0_hw174 => k0_hw174

def k0_chk175 (v459 : IVec S16 32) : Prop :=
  (∀ a x, ((![v459] : Fin 1 → IVec S16 32) a x).toNat < S2432.size a)
theorem k0_idx175_inb : ∀ (v459 : IVec S16 32) (k0_hw175 : k0_chk175 v459), ∀ a x, ((![v459] : Fin 1 → IVec S16 32) a x).toNat < S2432.size a := fun v459 k0_hw175 => k0_hw175

def k0_chk176 (v461 : IVec S16 32) : Prop :=
  (∀ a x, ((![v461] : Fin 1 → IVec S16 32) a x).toNat < S2432.size a)
theorem k0_idx176_inb : ∀ (v461 : IVec S16 32) (k0_hw176 : k0_chk176 v461), ∀ a x, ((![v461] : Fin 1 → IVec S16 32) a x).toNat < S2432.size a := fun v461 k0_hw176 => k0_hw176
def k0_off170 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v463 : Index := Scalar.indexCast v446
  let c0_152 : Index := 0#32
  ![v463.toNat, 0]
def k0_off171 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v465 : Index := Scalar.indexCast v446
  let c16_153 : Index := 16#32
  ![v465.toNat, 16]
def k0_off172 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v467 : Index := Scalar.indexCast v446
  let c32_154 : Index := 32#32
  ![v467.toNat, 32]
def k0_off173 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v469 : Index := Scalar.indexCast v446
  let c48_155 : Index := 48#32
  ![v469.toNat, 48]
def k0_off174 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v471 : Index := Scalar.indexCast v446
  let c64_156 : Index := 64#32
  ![v471.toNat, 64]
def k0_off175 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v473 : Index := Scalar.indexCast v446
  let c80_157 : Index := 80#32
  ![v473.toNat, 80]
def k0_off176 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v475 : Index := Scalar.indexCast v446
  let c96_158 : Index := 96#32
  ![v475.toNat, 96]
def k0_off177 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_151 : BitVec 32 := 16#32
  let v445 : BitVec 32 := Scalar.muli v197 c16_i32_151
  let c4_i32 : BitVec 32 := 4#32
  let v446 : BitVec 32 := Scalar.addi v445 c4_i32
  let v477 : Index := Scalar.indexCast v446
  let c112_159 : Index := 112#32
  ![v477.toNat, 112]

def k0_chk177 (v484 : IVec S16 32) : Prop :=
  (∀ a x, ((![v484] : Fin 1 → IVec S16 32) a x).toNat < S2432.size a)
theorem k0_idx177_inb : ∀ (v484 : IVec S16 32) (k0_hw177 : k0_chk177 v484), ∀ a x, ((![v484] : Fin 1 → IVec S16 32) a x).toNat < S2432.size a := fun v484 k0_hw177 => k0_hw177

def k0_chk178 (v486 : IVec S16 32) : Prop :=
  (∀ a x, ((![v486] : Fin 1 → IVec S16 32) a x).toNat < S2432.size a)
theorem k0_idx178_inb : ∀ (v486 : IVec S16 32) (k0_hw178 : k0_chk178 v486), ∀ a x, ((![v486] : Fin 1 → IVec S16 32) a x).toNat < S2432.size a := fun v486 k0_hw178 => k0_hw178

def k0_chk179 (v488 : IVec S16 32) : Prop :=
  (∀ a x, ((![v488] : Fin 1 → IVec S16 32) a x).toNat < S2432.size a)
theorem k0_idx179_inb : ∀ (v488 : IVec S16 32) (k0_hw179 : k0_chk179 v488), ∀ a x, ((![v488] : Fin 1 → IVec S16 32) a x).toNat < S2432.size a := fun v488 k0_hw179 => k0_hw179

def k0_chk180 (v490 : IVec S16 32) : Prop :=
  (∀ a x, ((![v490] : Fin 1 → IVec S16 32) a x).toNat < S2432.size a)
theorem k0_idx180_inb : ∀ (v490 : IVec S16 32) (k0_hw180 : k0_chk180 v490), ∀ a x, ((![v490] : Fin 1 → IVec S16 32) a x).toNat < S2432.size a := fun v490 k0_hw180 => k0_hw180

def k0_chk181 (v492 : IVec S16 32) : Prop :=
  (∀ a x, ((![v492] : Fin 1 → IVec S16 32) a x).toNat < S2432.size a)
theorem k0_idx181_inb : ∀ (v492 : IVec S16 32) (k0_hw181 : k0_chk181 v492), ∀ a x, ((![v492] : Fin 1 → IVec S16 32) a x).toNat < S2432.size a := fun v492 k0_hw181 => k0_hw181

def k0_chk182 (v494 : IVec S16 32) : Prop :=
  (∀ a x, ((![v494] : Fin 1 → IVec S16 32) a x).toNat < S2432.size a)
theorem k0_idx182_inb : ∀ (v494 : IVec S16 32) (k0_hw182 : k0_chk182 v494), ∀ a x, ((![v494] : Fin 1 → IVec S16 32) a x).toNat < S2432.size a := fun v494 k0_hw182 => k0_hw182

def k0_chk183 (v496 : IVec S16 32) : Prop :=
  (∀ a x, ((![v496] : Fin 1 → IVec S16 32) a x).toNat < S2432.size a)
theorem k0_idx183_inb : ∀ (v496 : IVec S16 32) (k0_hw183 : k0_chk183 v496), ∀ a x, ((![v496] : Fin 1 → IVec S16 32) a x).toNat < S2432.size a := fun v496 k0_hw183 => k0_hw183

def k0_chk184 (v498 : IVec S16 32) : Prop :=
  (∀ a x, ((![v498] : Fin 1 → IVec S16 32) a x).toNat < S2432.size a)
theorem k0_idx184_inb : ∀ (v498 : IVec S16 32) (k0_hw184 : k0_chk184 v498), ∀ a x, ((![v498] : Fin 1 → IVec S16 32) a x).toNat < S2432.size a := fun v498 k0_hw184 => k0_hw184
def k0_off178 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v500 : Index := Scalar.indexCast v483
  let c0_161 : Index := 0#32
  ![v500.toNat, 0]
def k0_off179 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v502 : Index := Scalar.indexCast v483
  let c16_162 : Index := 16#32
  ![v502.toNat, 16]
def k0_off180 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v504 : Index := Scalar.indexCast v483
  let c32_163 : Index := 32#32
  ![v504.toNat, 32]
def k0_off181 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v506 : Index := Scalar.indexCast v483
  let c48_164 : Index := 48#32
  ![v506.toNat, 48]
def k0_off182 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v508 : Index := Scalar.indexCast v483
  let c64_165 : Index := 64#32
  ![v508.toNat, 64]
def k0_off183 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v510 : Index := Scalar.indexCast v483
  let c80_166 : Index := 80#32
  ![v510.toNat, 80]
def k0_off184 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v512 : Index := Scalar.indexCast v483
  let c96_167 : Index := 96#32
  ![v512.toNat, 96]
def k0_off185 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_160 : BitVec 32 := 16#32
  let v482 : BitVec 32 := Scalar.muli v197 c16_i32_160
  let c5_i32 : BitVec 32 := 5#32
  let v483 : BitVec 32 := Scalar.addi v482 c5_i32
  let v514 : Index := Scalar.indexCast v483
  let c112_168 : Index := 112#32
  ![v514.toNat, 112]

def k0_chk185 (v521 : IVec S16 32) : Prop :=
  (∀ a x, ((![v521] : Fin 1 → IVec S16 32) a x).toNat < S2432.size a)
theorem k0_idx185_inb : ∀ (v521 : IVec S16 32) (k0_hw185 : k0_chk185 v521), ∀ a x, ((![v521] : Fin 1 → IVec S16 32) a x).toNat < S2432.size a := fun v521 k0_hw185 => k0_hw185

def k0_chk186 (v523 : IVec S16 32) : Prop :=
  (∀ a x, ((![v523] : Fin 1 → IVec S16 32) a x).toNat < S2432.size a)
theorem k0_idx186_inb : ∀ (v523 : IVec S16 32) (k0_hw186 : k0_chk186 v523), ∀ a x, ((![v523] : Fin 1 → IVec S16 32) a x).toNat < S2432.size a := fun v523 k0_hw186 => k0_hw186

def k0_chk187 (v525 : IVec S16 32) : Prop :=
  (∀ a x, ((![v525] : Fin 1 → IVec S16 32) a x).toNat < S2432.size a)
theorem k0_idx187_inb : ∀ (v525 : IVec S16 32) (k0_hw187 : k0_chk187 v525), ∀ a x, ((![v525] : Fin 1 → IVec S16 32) a x).toNat < S2432.size a := fun v525 k0_hw187 => k0_hw187

def k0_chk188 (v527 : IVec S16 32) : Prop :=
  (∀ a x, ((![v527] : Fin 1 → IVec S16 32) a x).toNat < S2432.size a)
theorem k0_idx188_inb : ∀ (v527 : IVec S16 32) (k0_hw188 : k0_chk188 v527), ∀ a x, ((![v527] : Fin 1 → IVec S16 32) a x).toNat < S2432.size a := fun v527 k0_hw188 => k0_hw188

def k0_chk189 (v529 : IVec S16 32) : Prop :=
  (∀ a x, ((![v529] : Fin 1 → IVec S16 32) a x).toNat < S2432.size a)
theorem k0_idx189_inb : ∀ (v529 : IVec S16 32) (k0_hw189 : k0_chk189 v529), ∀ a x, ((![v529] : Fin 1 → IVec S16 32) a x).toNat < S2432.size a := fun v529 k0_hw189 => k0_hw189

def k0_chk190 (v531 : IVec S16 32) : Prop :=
  (∀ a x, ((![v531] : Fin 1 → IVec S16 32) a x).toNat < S2432.size a)
theorem k0_idx190_inb : ∀ (v531 : IVec S16 32) (k0_hw190 : k0_chk190 v531), ∀ a x, ((![v531] : Fin 1 → IVec S16 32) a x).toNat < S2432.size a := fun v531 k0_hw190 => k0_hw190

def k0_chk191 (v533 : IVec S16 32) : Prop :=
  (∀ a x, ((![v533] : Fin 1 → IVec S16 32) a x).toNat < S2432.size a)
theorem k0_idx191_inb : ∀ (v533 : IVec S16 32) (k0_hw191 : k0_chk191 v533), ∀ a x, ((![v533] : Fin 1 → IVec S16 32) a x).toNat < S2432.size a := fun v533 k0_hw191 => k0_hw191

def k0_chk192 (v535 : IVec S16 32) : Prop :=
  (∀ a x, ((![v535] : Fin 1 → IVec S16 32) a x).toNat < S2432.size a)
theorem k0_idx192_inb : ∀ (v535 : IVec S16 32) (k0_hw192 : k0_chk192 v535), ∀ a x, ((![v535] : Fin 1 → IVec S16 32) a x).toNat < S2432.size a := fun v535 k0_hw192 => k0_hw192
def k0_off186 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v537 : Index := Scalar.indexCast v520
  let c0_170 : Index := 0#32
  ![v537.toNat, 0]
def k0_off187 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v539 : Index := Scalar.indexCast v520
  let c16_171 : Index := 16#32
  ![v539.toNat, 16]
def k0_off188 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v541 : Index := Scalar.indexCast v520
  let c32_172 : Index := 32#32
  ![v541.toNat, 32]
def k0_off189 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v543 : Index := Scalar.indexCast v520
  let c48_173 : Index := 48#32
  ![v543.toNat, 48]
def k0_off190 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v545 : Index := Scalar.indexCast v520
  let c64_174 : Index := 64#32
  ![v545.toNat, 64]
def k0_off191 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v547 : Index := Scalar.indexCast v520
  let c80_175 : Index := 80#32
  ![v547.toNat, 80]
def k0_off192 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v549 : Index := Scalar.indexCast v520
  let c96_176 : Index := 96#32
  ![v549.toNat, 96]
def k0_off193 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_169 : BitVec 32 := 16#32
  let v519 : BitVec 32 := Scalar.muli v197 c16_i32_169
  let c6_i32 : BitVec 32 := 6#32
  let v520 : BitVec 32 := Scalar.addi v519 c6_i32
  let v551 : Index := Scalar.indexCast v520
  let c112_177 : Index := 112#32
  ![v551.toNat, 112]

def k0_chk193 (v558 : IVec S16 32) : Prop :=
  (∀ a x, ((![v558] : Fin 1 → IVec S16 32) a x).toNat < S2432.size a)
theorem k0_idx193_inb : ∀ (v558 : IVec S16 32) (k0_hw193 : k0_chk193 v558), ∀ a x, ((![v558] : Fin 1 → IVec S16 32) a x).toNat < S2432.size a := fun v558 k0_hw193 => k0_hw193

def k0_chk194 (v560 : IVec S16 32) : Prop :=
  (∀ a x, ((![v560] : Fin 1 → IVec S16 32) a x).toNat < S2432.size a)
theorem k0_idx194_inb : ∀ (v560 : IVec S16 32) (k0_hw194 : k0_chk194 v560), ∀ a x, ((![v560] : Fin 1 → IVec S16 32) a x).toNat < S2432.size a := fun v560 k0_hw194 => k0_hw194

def k0_chk195 (v562 : IVec S16 32) : Prop :=
  (∀ a x, ((![v562] : Fin 1 → IVec S16 32) a x).toNat < S2432.size a)
theorem k0_idx195_inb : ∀ (v562 : IVec S16 32) (k0_hw195 : k0_chk195 v562), ∀ a x, ((![v562] : Fin 1 → IVec S16 32) a x).toNat < S2432.size a := fun v562 k0_hw195 => k0_hw195

def k0_chk196 (v564 : IVec S16 32) : Prop :=
  (∀ a x, ((![v564] : Fin 1 → IVec S16 32) a x).toNat < S2432.size a)
theorem k0_idx196_inb : ∀ (v564 : IVec S16 32) (k0_hw196 : k0_chk196 v564), ∀ a x, ((![v564] : Fin 1 → IVec S16 32) a x).toNat < S2432.size a := fun v564 k0_hw196 => k0_hw196

def k0_chk197 (v566 : IVec S16 32) : Prop :=
  (∀ a x, ((![v566] : Fin 1 → IVec S16 32) a x).toNat < S2432.size a)
theorem k0_idx197_inb : ∀ (v566 : IVec S16 32) (k0_hw197 : k0_chk197 v566), ∀ a x, ((![v566] : Fin 1 → IVec S16 32) a x).toNat < S2432.size a := fun v566 k0_hw197 => k0_hw197

def k0_chk198 (v568 : IVec S16 32) : Prop :=
  (∀ a x, ((![v568] : Fin 1 → IVec S16 32) a x).toNat < S2432.size a)
theorem k0_idx198_inb : ∀ (v568 : IVec S16 32) (k0_hw198 : k0_chk198 v568), ∀ a x, ((![v568] : Fin 1 → IVec S16 32) a x).toNat < S2432.size a := fun v568 k0_hw198 => k0_hw198

def k0_chk199 (v570 : IVec S16 32) : Prop :=
  (∀ a x, ((![v570] : Fin 1 → IVec S16 32) a x).toNat < S2432.size a)
theorem k0_idx199_inb : ∀ (v570 : IVec S16 32) (k0_hw199 : k0_chk199 v570), ∀ a x, ((![v570] : Fin 1 → IVec S16 32) a x).toNat < S2432.size a := fun v570 k0_hw199 => k0_hw199

def k0_chk200 (v572 : IVec S16 32) : Prop :=
  (∀ a x, ((![v572] : Fin 1 → IVec S16 32) a x).toNat < S2432.size a)
theorem k0_idx200_inb : ∀ (v572 : IVec S16 32) (k0_hw200 : k0_chk200 v572), ∀ a x, ((![v572] : Fin 1 → IVec S16 32) a x).toNat < S2432.size a := fun v572 k0_hw200 => k0_hw200
def k0_off194 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v574 : Index := Scalar.indexCast v557
  let c0_179 : Index := 0#32
  ![v574.toNat, 0]
def k0_off195 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v576 : Index := Scalar.indexCast v557
  let c16_180 : Index := 16#32
  ![v576.toNat, 16]
def k0_off196 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v578 : Index := Scalar.indexCast v557
  let c32_181 : Index := 32#32
  ![v578.toNat, 32]
def k0_off197 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v580 : Index := Scalar.indexCast v557
  let c48_182 : Index := 48#32
  ![v580.toNat, 48]
def k0_off198 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v582 : Index := Scalar.indexCast v557
  let c64_183 : Index := 64#32
  ![v582.toNat, 64]
def k0_off199 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v584 : Index := Scalar.indexCast v557
  let c80_184 : Index := 80#32
  ![v584.toNat, 80]
def k0_off200 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v586 : Index := Scalar.indexCast v557
  let c96_185 : Index := 96#32
  ![v586.toNat, 96]
def k0_off201 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_178 : BitVec 32 := 16#32
  let v556 : BitVec 32 := Scalar.muli v197 c16_i32_178
  let c7_i32 : BitVec 32 := 7#32
  let v557 : BitVec 32 := Scalar.addi v556 c7_i32
  let v588 : Index := Scalar.indexCast v557
  let c112_186 : Index := 112#32
  ![v588.toNat, 112]

def k0_chk201 (v595 : IVec S16 32) : Prop :=
  (∀ a x, ((![v595] : Fin 1 → IVec S16 32) a x).toNat < S2432.size a)
theorem k0_idx201_inb : ∀ (v595 : IVec S16 32) (k0_hw201 : k0_chk201 v595), ∀ a x, ((![v595] : Fin 1 → IVec S16 32) a x).toNat < S2432.size a := fun v595 k0_hw201 => k0_hw201

def k0_chk202 (v597 : IVec S16 32) : Prop :=
  (∀ a x, ((![v597] : Fin 1 → IVec S16 32) a x).toNat < S2432.size a)
theorem k0_idx202_inb : ∀ (v597 : IVec S16 32) (k0_hw202 : k0_chk202 v597), ∀ a x, ((![v597] : Fin 1 → IVec S16 32) a x).toNat < S2432.size a := fun v597 k0_hw202 => k0_hw202

def k0_chk203 (v599 : IVec S16 32) : Prop :=
  (∀ a x, ((![v599] : Fin 1 → IVec S16 32) a x).toNat < S2432.size a)
theorem k0_idx203_inb : ∀ (v599 : IVec S16 32) (k0_hw203 : k0_chk203 v599), ∀ a x, ((![v599] : Fin 1 → IVec S16 32) a x).toNat < S2432.size a := fun v599 k0_hw203 => k0_hw203

def k0_chk204 (v601 : IVec S16 32) : Prop :=
  (∀ a x, ((![v601] : Fin 1 → IVec S16 32) a x).toNat < S2432.size a)
theorem k0_idx204_inb : ∀ (v601 : IVec S16 32) (k0_hw204 : k0_chk204 v601), ∀ a x, ((![v601] : Fin 1 → IVec S16 32) a x).toNat < S2432.size a := fun v601 k0_hw204 => k0_hw204

def k0_chk205 (v603 : IVec S16 32) : Prop :=
  (∀ a x, ((![v603] : Fin 1 → IVec S16 32) a x).toNat < S2432.size a)
theorem k0_idx205_inb : ∀ (v603 : IVec S16 32) (k0_hw205 : k0_chk205 v603), ∀ a x, ((![v603] : Fin 1 → IVec S16 32) a x).toNat < S2432.size a := fun v603 k0_hw205 => k0_hw205

def k0_chk206 (v605 : IVec S16 32) : Prop :=
  (∀ a x, ((![v605] : Fin 1 → IVec S16 32) a x).toNat < S2432.size a)
theorem k0_idx206_inb : ∀ (v605 : IVec S16 32) (k0_hw206 : k0_chk206 v605), ∀ a x, ((![v605] : Fin 1 → IVec S16 32) a x).toNat < S2432.size a := fun v605 k0_hw206 => k0_hw206

def k0_chk207 (v607 : IVec S16 32) : Prop :=
  (∀ a x, ((![v607] : Fin 1 → IVec S16 32) a x).toNat < S2432.size a)
theorem k0_idx207_inb : ∀ (v607 : IVec S16 32) (k0_hw207 : k0_chk207 v607), ∀ a x, ((![v607] : Fin 1 → IVec S16 32) a x).toNat < S2432.size a := fun v607 k0_hw207 => k0_hw207

def k0_chk208 (v609 : IVec S16 32) : Prop :=
  (∀ a x, ((![v609] : Fin 1 → IVec S16 32) a x).toNat < S2432.size a)
theorem k0_idx208_inb : ∀ (v609 : IVec S16 32) (k0_hw208 : k0_chk208 v609), ∀ a x, ((![v609] : Fin 1 → IVec S16 32) a x).toNat < S2432.size a := fun v609 k0_hw208 => k0_hw208
def k0_off202 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v611 : Index := Scalar.indexCast v594
  let c0_188 : Index := 0#32
  ![v611.toNat, 0]
def k0_off203 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v613 : Index := Scalar.indexCast v594
  let c16_189 : Index := 16#32
  ![v613.toNat, 16]
def k0_off204 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v615 : Index := Scalar.indexCast v594
  let c32_190 : Index := 32#32
  ![v615.toNat, 32]
def k0_off205 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v617 : Index := Scalar.indexCast v594
  let c48_191 : Index := 48#32
  ![v617.toNat, 48]
def k0_off206 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v619 : Index := Scalar.indexCast v594
  let c64_192 : Index := 64#32
  ![v619.toNat, 64]
def k0_off207 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v621 : Index := Scalar.indexCast v594
  let c80_193 : Index := 80#32
  ![v621.toNat, 80]
def k0_off208 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v623 : Index := Scalar.indexCast v594
  let c96_194 : Index := 96#32
  ![v623.toNat, 96]
def k0_off209 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_187 : BitVec 32 := 16#32
  let v593 : BitVec 32 := Scalar.muli v197 c16_i32_187
  let c8_i32 : BitVec 32 := 8#32
  let v594 : BitVec 32 := Scalar.addi v593 c8_i32
  let v625 : Index := Scalar.indexCast v594
  let c112_195 : Index := 112#32
  ![v625.toNat, 112]

def k0_chk209 (v632 : IVec S16 32) : Prop :=
  (∀ a x, ((![v632] : Fin 1 → IVec S16 32) a x).toNat < S2432.size a)
theorem k0_idx209_inb : ∀ (v632 : IVec S16 32) (k0_hw209 : k0_chk209 v632), ∀ a x, ((![v632] : Fin 1 → IVec S16 32) a x).toNat < S2432.size a := fun v632 k0_hw209 => k0_hw209

def k0_chk210 (v634 : IVec S16 32) : Prop :=
  (∀ a x, ((![v634] : Fin 1 → IVec S16 32) a x).toNat < S2432.size a)
theorem k0_idx210_inb : ∀ (v634 : IVec S16 32) (k0_hw210 : k0_chk210 v634), ∀ a x, ((![v634] : Fin 1 → IVec S16 32) a x).toNat < S2432.size a := fun v634 k0_hw210 => k0_hw210

def k0_chk211 (v636 : IVec S16 32) : Prop :=
  (∀ a x, ((![v636] : Fin 1 → IVec S16 32) a x).toNat < S2432.size a)
theorem k0_idx211_inb : ∀ (v636 : IVec S16 32) (k0_hw211 : k0_chk211 v636), ∀ a x, ((![v636] : Fin 1 → IVec S16 32) a x).toNat < S2432.size a := fun v636 k0_hw211 => k0_hw211

def k0_chk212 (v638 : IVec S16 32) : Prop :=
  (∀ a x, ((![v638] : Fin 1 → IVec S16 32) a x).toNat < S2432.size a)
theorem k0_idx212_inb : ∀ (v638 : IVec S16 32) (k0_hw212 : k0_chk212 v638), ∀ a x, ((![v638] : Fin 1 → IVec S16 32) a x).toNat < S2432.size a := fun v638 k0_hw212 => k0_hw212

def k0_chk213 (v640 : IVec S16 32) : Prop :=
  (∀ a x, ((![v640] : Fin 1 → IVec S16 32) a x).toNat < S2432.size a)
theorem k0_idx213_inb : ∀ (v640 : IVec S16 32) (k0_hw213 : k0_chk213 v640), ∀ a x, ((![v640] : Fin 1 → IVec S16 32) a x).toNat < S2432.size a := fun v640 k0_hw213 => k0_hw213

def k0_chk214 (v642 : IVec S16 32) : Prop :=
  (∀ a x, ((![v642] : Fin 1 → IVec S16 32) a x).toNat < S2432.size a)
theorem k0_idx214_inb : ∀ (v642 : IVec S16 32) (k0_hw214 : k0_chk214 v642), ∀ a x, ((![v642] : Fin 1 → IVec S16 32) a x).toNat < S2432.size a := fun v642 k0_hw214 => k0_hw214

def k0_chk215 (v644 : IVec S16 32) : Prop :=
  (∀ a x, ((![v644] : Fin 1 → IVec S16 32) a x).toNat < S2432.size a)
theorem k0_idx215_inb : ∀ (v644 : IVec S16 32) (k0_hw215 : k0_chk215 v644), ∀ a x, ((![v644] : Fin 1 → IVec S16 32) a x).toNat < S2432.size a := fun v644 k0_hw215 => k0_hw215

def k0_chk216 (v646 : IVec S16 32) : Prop :=
  (∀ a x, ((![v646] : Fin 1 → IVec S16 32) a x).toNat < S2432.size a)
theorem k0_idx216_inb : ∀ (v646 : IVec S16 32) (k0_hw216 : k0_chk216 v646), ∀ a x, ((![v646] : Fin 1 → IVec S16 32) a x).toNat < S2432.size a := fun v646 k0_hw216 => k0_hw216
def k0_off210 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v648 : Index := Scalar.indexCast v631
  let c0_197 : Index := 0#32
  ![v648.toNat, 0]
def k0_off211 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v650 : Index := Scalar.indexCast v631
  let c16_198 : Index := 16#32
  ![v650.toNat, 16]
def k0_off212 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v652 : Index := Scalar.indexCast v631
  let c32_199 : Index := 32#32
  ![v652.toNat, 32]
def k0_off213 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v654 : Index := Scalar.indexCast v631
  let c48_200 : Index := 48#32
  ![v654.toNat, 48]
def k0_off214 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v656 : Index := Scalar.indexCast v631
  let c64_201 : Index := 64#32
  ![v656.toNat, 64]
def k0_off215 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v658 : Index := Scalar.indexCast v631
  let c80_202 : Index := 80#32
  ![v658.toNat, 80]
def k0_off216 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v660 : Index := Scalar.indexCast v631
  let c96_203 : Index := 96#32
  ![v660.toNat, 96]
def k0_off217 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_196 : BitVec 32 := 16#32
  let v630 : BitVec 32 := Scalar.muli v197 c16_i32_196
  let c9_i32 : BitVec 32 := 9#32
  let v631 : BitVec 32 := Scalar.addi v630 c9_i32
  let v662 : Index := Scalar.indexCast v631
  let c112_204 : Index := 112#32
  ![v662.toNat, 112]

def k0_chk217 (v669 : IVec S16 32) : Prop :=
  (∀ a x, ((![v669] : Fin 1 → IVec S16 32) a x).toNat < S2432.size a)
theorem k0_idx217_inb : ∀ (v669 : IVec S16 32) (k0_hw217 : k0_chk217 v669), ∀ a x, ((![v669] : Fin 1 → IVec S16 32) a x).toNat < S2432.size a := fun v669 k0_hw217 => k0_hw217

def k0_chk218 (v671 : IVec S16 32) : Prop :=
  (∀ a x, ((![v671] : Fin 1 → IVec S16 32) a x).toNat < S2432.size a)
theorem k0_idx218_inb : ∀ (v671 : IVec S16 32) (k0_hw218 : k0_chk218 v671), ∀ a x, ((![v671] : Fin 1 → IVec S16 32) a x).toNat < S2432.size a := fun v671 k0_hw218 => k0_hw218

def k0_chk219 (v673 : IVec S16 32) : Prop :=
  (∀ a x, ((![v673] : Fin 1 → IVec S16 32) a x).toNat < S2432.size a)
theorem k0_idx219_inb : ∀ (v673 : IVec S16 32) (k0_hw219 : k0_chk219 v673), ∀ a x, ((![v673] : Fin 1 → IVec S16 32) a x).toNat < S2432.size a := fun v673 k0_hw219 => k0_hw219

def k0_chk220 (v675 : IVec S16 32) : Prop :=
  (∀ a x, ((![v675] : Fin 1 → IVec S16 32) a x).toNat < S2432.size a)
theorem k0_idx220_inb : ∀ (v675 : IVec S16 32) (k0_hw220 : k0_chk220 v675), ∀ a x, ((![v675] : Fin 1 → IVec S16 32) a x).toNat < S2432.size a := fun v675 k0_hw220 => k0_hw220

def k0_chk221 (v677 : IVec S16 32) : Prop :=
  (∀ a x, ((![v677] : Fin 1 → IVec S16 32) a x).toNat < S2432.size a)
theorem k0_idx221_inb : ∀ (v677 : IVec S16 32) (k0_hw221 : k0_chk221 v677), ∀ a x, ((![v677] : Fin 1 → IVec S16 32) a x).toNat < S2432.size a := fun v677 k0_hw221 => k0_hw221

def k0_chk222 (v679 : IVec S16 32) : Prop :=
  (∀ a x, ((![v679] : Fin 1 → IVec S16 32) a x).toNat < S2432.size a)
theorem k0_idx222_inb : ∀ (v679 : IVec S16 32) (k0_hw222 : k0_chk222 v679), ∀ a x, ((![v679] : Fin 1 → IVec S16 32) a x).toNat < S2432.size a := fun v679 k0_hw222 => k0_hw222

def k0_chk223 (v681 : IVec S16 32) : Prop :=
  (∀ a x, ((![v681] : Fin 1 → IVec S16 32) a x).toNat < S2432.size a)
theorem k0_idx223_inb : ∀ (v681 : IVec S16 32) (k0_hw223 : k0_chk223 v681), ∀ a x, ((![v681] : Fin 1 → IVec S16 32) a x).toNat < S2432.size a := fun v681 k0_hw223 => k0_hw223

def k0_chk224 (v683 : IVec S16 32) : Prop :=
  (∀ a x, ((![v683] : Fin 1 → IVec S16 32) a x).toNat < S2432.size a)
theorem k0_idx224_inb : ∀ (v683 : IVec S16 32) (k0_hw224 : k0_chk224 v683), ∀ a x, ((![v683] : Fin 1 → IVec S16 32) a x).toNat < S2432.size a := fun v683 k0_hw224 => k0_hw224
def k0_off218 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v685 : Index := Scalar.indexCast v668
  let c0_206 : Index := 0#32
  ![v685.toNat, 0]
def k0_off219 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v687 : Index := Scalar.indexCast v668
  let c16_207 : Index := 16#32
  ![v687.toNat, 16]
def k0_off220 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v689 : Index := Scalar.indexCast v668
  let c32_208 : Index := 32#32
  ![v689.toNat, 32]
def k0_off221 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v691 : Index := Scalar.indexCast v668
  let c48_209 : Index := 48#32
  ![v691.toNat, 48]
def k0_off222 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v693 : Index := Scalar.indexCast v668
  let c64_210 : Index := 64#32
  ![v693.toNat, 64]
def k0_off223 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v695 : Index := Scalar.indexCast v668
  let c80_211 : Index := 80#32
  ![v695.toNat, 80]
def k0_off224 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v697 : Index := Scalar.indexCast v668
  let c96_212 : Index := 96#32
  ![v697.toNat, 96]
def k0_off225 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_205 : BitVec 32 := 16#32
  let v667 : BitVec 32 := Scalar.muli v197 c16_i32_205
  let c10_i32 : BitVec 32 := 10#32
  let v668 : BitVec 32 := Scalar.addi v667 c10_i32
  let v699 : Index := Scalar.indexCast v668
  let c112_213 : Index := 112#32
  ![v699.toNat, 112]

def k0_chk225 (v706 : IVec S16 32) : Prop :=
  (∀ a x, ((![v706] : Fin 1 → IVec S16 32) a x).toNat < S2432.size a)
theorem k0_idx225_inb : ∀ (v706 : IVec S16 32) (k0_hw225 : k0_chk225 v706), ∀ a x, ((![v706] : Fin 1 → IVec S16 32) a x).toNat < S2432.size a := fun v706 k0_hw225 => k0_hw225

def k0_chk226 (v708 : IVec S16 32) : Prop :=
  (∀ a x, ((![v708] : Fin 1 → IVec S16 32) a x).toNat < S2432.size a)
theorem k0_idx226_inb : ∀ (v708 : IVec S16 32) (k0_hw226 : k0_chk226 v708), ∀ a x, ((![v708] : Fin 1 → IVec S16 32) a x).toNat < S2432.size a := fun v708 k0_hw226 => k0_hw226

def k0_chk227 (v710 : IVec S16 32) : Prop :=
  (∀ a x, ((![v710] : Fin 1 → IVec S16 32) a x).toNat < S2432.size a)
theorem k0_idx227_inb : ∀ (v710 : IVec S16 32) (k0_hw227 : k0_chk227 v710), ∀ a x, ((![v710] : Fin 1 → IVec S16 32) a x).toNat < S2432.size a := fun v710 k0_hw227 => k0_hw227

def k0_chk228 (v712 : IVec S16 32) : Prop :=
  (∀ a x, ((![v712] : Fin 1 → IVec S16 32) a x).toNat < S2432.size a)
theorem k0_idx228_inb : ∀ (v712 : IVec S16 32) (k0_hw228 : k0_chk228 v712), ∀ a x, ((![v712] : Fin 1 → IVec S16 32) a x).toNat < S2432.size a := fun v712 k0_hw228 => k0_hw228

def k0_chk229 (v714 : IVec S16 32) : Prop :=
  (∀ a x, ((![v714] : Fin 1 → IVec S16 32) a x).toNat < S2432.size a)
theorem k0_idx229_inb : ∀ (v714 : IVec S16 32) (k0_hw229 : k0_chk229 v714), ∀ a x, ((![v714] : Fin 1 → IVec S16 32) a x).toNat < S2432.size a := fun v714 k0_hw229 => k0_hw229

def k0_chk230 (v716 : IVec S16 32) : Prop :=
  (∀ a x, ((![v716] : Fin 1 → IVec S16 32) a x).toNat < S2432.size a)
theorem k0_idx230_inb : ∀ (v716 : IVec S16 32) (k0_hw230 : k0_chk230 v716), ∀ a x, ((![v716] : Fin 1 → IVec S16 32) a x).toNat < S2432.size a := fun v716 k0_hw230 => k0_hw230

def k0_chk231 (v718 : IVec S16 32) : Prop :=
  (∀ a x, ((![v718] : Fin 1 → IVec S16 32) a x).toNat < S2432.size a)
theorem k0_idx231_inb : ∀ (v718 : IVec S16 32) (k0_hw231 : k0_chk231 v718), ∀ a x, ((![v718] : Fin 1 → IVec S16 32) a x).toNat < S2432.size a := fun v718 k0_hw231 => k0_hw231

def k0_chk232 (v720 : IVec S16 32) : Prop :=
  (∀ a x, ((![v720] : Fin 1 → IVec S16 32) a x).toNat < S2432.size a)
theorem k0_idx232_inb : ∀ (v720 : IVec S16 32) (k0_hw232 : k0_chk232 v720), ∀ a x, ((![v720] : Fin 1 → IVec S16 32) a x).toNat < S2432.size a := fun v720 k0_hw232 => k0_hw232
def k0_off226 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v722 : Index := Scalar.indexCast v705
  let c0_215 : Index := 0#32
  ![v722.toNat, 0]
def k0_off227 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v724 : Index := Scalar.indexCast v705
  let c16_216 : Index := 16#32
  ![v724.toNat, 16]
def k0_off228 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v726 : Index := Scalar.indexCast v705
  let c32_217 : Index := 32#32
  ![v726.toNat, 32]
def k0_off229 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v728 : Index := Scalar.indexCast v705
  let c48_218 : Index := 48#32
  ![v728.toNat, 48]
def k0_off230 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v730 : Index := Scalar.indexCast v705
  let c64_219 : Index := 64#32
  ![v730.toNat, 64]
def k0_off231 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v732 : Index := Scalar.indexCast v705
  let c80_220 : Index := 80#32
  ![v732.toNat, 80]
def k0_off232 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v734 : Index := Scalar.indexCast v705
  let c96_221 : Index := 96#32
  ![v734.toNat, 96]
def k0_off233 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_214 : BitVec 32 := 16#32
  let v704 : BitVec 32 := Scalar.muli v197 c16_i32_214
  let c11_i32 : BitVec 32 := 11#32
  let v705 : BitVec 32 := Scalar.addi v704 c11_i32
  let v736 : Index := Scalar.indexCast v705
  let c112_222 : Index := 112#32
  ![v736.toNat, 112]

def k0_chk233 (v743 : IVec S16 32) : Prop :=
  (∀ a x, ((![v743] : Fin 1 → IVec S16 32) a x).toNat < S2432.size a)
theorem k0_idx233_inb : ∀ (v743 : IVec S16 32) (k0_hw233 : k0_chk233 v743), ∀ a x, ((![v743] : Fin 1 → IVec S16 32) a x).toNat < S2432.size a := fun v743 k0_hw233 => k0_hw233

def k0_chk234 (v745 : IVec S16 32) : Prop :=
  (∀ a x, ((![v745] : Fin 1 → IVec S16 32) a x).toNat < S2432.size a)
theorem k0_idx234_inb : ∀ (v745 : IVec S16 32) (k0_hw234 : k0_chk234 v745), ∀ a x, ((![v745] : Fin 1 → IVec S16 32) a x).toNat < S2432.size a := fun v745 k0_hw234 => k0_hw234

def k0_chk235 (v747 : IVec S16 32) : Prop :=
  (∀ a x, ((![v747] : Fin 1 → IVec S16 32) a x).toNat < S2432.size a)
theorem k0_idx235_inb : ∀ (v747 : IVec S16 32) (k0_hw235 : k0_chk235 v747), ∀ a x, ((![v747] : Fin 1 → IVec S16 32) a x).toNat < S2432.size a := fun v747 k0_hw235 => k0_hw235

def k0_chk236 (v749 : IVec S16 32) : Prop :=
  (∀ a x, ((![v749] : Fin 1 → IVec S16 32) a x).toNat < S2432.size a)
theorem k0_idx236_inb : ∀ (v749 : IVec S16 32) (k0_hw236 : k0_chk236 v749), ∀ a x, ((![v749] : Fin 1 → IVec S16 32) a x).toNat < S2432.size a := fun v749 k0_hw236 => k0_hw236

def k0_chk237 (v751 : IVec S16 32) : Prop :=
  (∀ a x, ((![v751] : Fin 1 → IVec S16 32) a x).toNat < S2432.size a)
theorem k0_idx237_inb : ∀ (v751 : IVec S16 32) (k0_hw237 : k0_chk237 v751), ∀ a x, ((![v751] : Fin 1 → IVec S16 32) a x).toNat < S2432.size a := fun v751 k0_hw237 => k0_hw237

def k0_chk238 (v753 : IVec S16 32) : Prop :=
  (∀ a x, ((![v753] : Fin 1 → IVec S16 32) a x).toNat < S2432.size a)
theorem k0_idx238_inb : ∀ (v753 : IVec S16 32) (k0_hw238 : k0_chk238 v753), ∀ a x, ((![v753] : Fin 1 → IVec S16 32) a x).toNat < S2432.size a := fun v753 k0_hw238 => k0_hw238

def k0_chk239 (v755 : IVec S16 32) : Prop :=
  (∀ a x, ((![v755] : Fin 1 → IVec S16 32) a x).toNat < S2432.size a)
theorem k0_idx239_inb : ∀ (v755 : IVec S16 32) (k0_hw239 : k0_chk239 v755), ∀ a x, ((![v755] : Fin 1 → IVec S16 32) a x).toNat < S2432.size a := fun v755 k0_hw239 => k0_hw239

def k0_chk240 (v757 : IVec S16 32) : Prop :=
  (∀ a x, ((![v757] : Fin 1 → IVec S16 32) a x).toNat < S2432.size a)
theorem k0_idx240_inb : ∀ (v757 : IVec S16 32) (k0_hw240 : k0_chk240 v757), ∀ a x, ((![v757] : Fin 1 → IVec S16 32) a x).toNat < S2432.size a := fun v757 k0_hw240 => k0_hw240
def k0_off234 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v759 : Index := Scalar.indexCast v742
  let c0_224 : Index := 0#32
  ![v759.toNat, 0]
def k0_off235 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v761 : Index := Scalar.indexCast v742
  let c16_225 : Index := 16#32
  ![v761.toNat, 16]
def k0_off236 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v763 : Index := Scalar.indexCast v742
  let c32_226 : Index := 32#32
  ![v763.toNat, 32]
def k0_off237 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v765 : Index := Scalar.indexCast v742
  let c48_227 : Index := 48#32
  ![v765.toNat, 48]
def k0_off238 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v767 : Index := Scalar.indexCast v742
  let c64_228 : Index := 64#32
  ![v767.toNat, 64]
def k0_off239 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v769 : Index := Scalar.indexCast v742
  let c80_229 : Index := 80#32
  ![v769.toNat, 80]
def k0_off240 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v771 : Index := Scalar.indexCast v742
  let c96_230 : Index := 96#32
  ![v771.toNat, 96]
def k0_off241 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_223 : BitVec 32 := 16#32
  let v741 : BitVec 32 := Scalar.muli v197 c16_i32_223
  let c12_i32 : BitVec 32 := 12#32
  let v742 : BitVec 32 := Scalar.addi v741 c12_i32
  let v773 : Index := Scalar.indexCast v742
  let c112_231 : Index := 112#32
  ![v773.toNat, 112]

def k0_chk241 (v780 : IVec S16 32) : Prop :=
  (∀ a x, ((![v780] : Fin 1 → IVec S16 32) a x).toNat < S2432.size a)
theorem k0_idx241_inb : ∀ (v780 : IVec S16 32) (k0_hw241 : k0_chk241 v780), ∀ a x, ((![v780] : Fin 1 → IVec S16 32) a x).toNat < S2432.size a := fun v780 k0_hw241 => k0_hw241

def k0_chk242 (v782 : IVec S16 32) : Prop :=
  (∀ a x, ((![v782] : Fin 1 → IVec S16 32) a x).toNat < S2432.size a)
theorem k0_idx242_inb : ∀ (v782 : IVec S16 32) (k0_hw242 : k0_chk242 v782), ∀ a x, ((![v782] : Fin 1 → IVec S16 32) a x).toNat < S2432.size a := fun v782 k0_hw242 => k0_hw242

def k0_chk243 (v784 : IVec S16 32) : Prop :=
  (∀ a x, ((![v784] : Fin 1 → IVec S16 32) a x).toNat < S2432.size a)
theorem k0_idx243_inb : ∀ (v784 : IVec S16 32) (k0_hw243 : k0_chk243 v784), ∀ a x, ((![v784] : Fin 1 → IVec S16 32) a x).toNat < S2432.size a := fun v784 k0_hw243 => k0_hw243

def k0_chk244 (v786 : IVec S16 32) : Prop :=
  (∀ a x, ((![v786] : Fin 1 → IVec S16 32) a x).toNat < S2432.size a)
theorem k0_idx244_inb : ∀ (v786 : IVec S16 32) (k0_hw244 : k0_chk244 v786), ∀ a x, ((![v786] : Fin 1 → IVec S16 32) a x).toNat < S2432.size a := fun v786 k0_hw244 => k0_hw244

def k0_chk245 (v788 : IVec S16 32) : Prop :=
  (∀ a x, ((![v788] : Fin 1 → IVec S16 32) a x).toNat < S2432.size a)
theorem k0_idx245_inb : ∀ (v788 : IVec S16 32) (k0_hw245 : k0_chk245 v788), ∀ a x, ((![v788] : Fin 1 → IVec S16 32) a x).toNat < S2432.size a := fun v788 k0_hw245 => k0_hw245

def k0_chk246 (v790 : IVec S16 32) : Prop :=
  (∀ a x, ((![v790] : Fin 1 → IVec S16 32) a x).toNat < S2432.size a)
theorem k0_idx246_inb : ∀ (v790 : IVec S16 32) (k0_hw246 : k0_chk246 v790), ∀ a x, ((![v790] : Fin 1 → IVec S16 32) a x).toNat < S2432.size a := fun v790 k0_hw246 => k0_hw246

def k0_chk247 (v792 : IVec S16 32) : Prop :=
  (∀ a x, ((![v792] : Fin 1 → IVec S16 32) a x).toNat < S2432.size a)
theorem k0_idx247_inb : ∀ (v792 : IVec S16 32) (k0_hw247 : k0_chk247 v792), ∀ a x, ((![v792] : Fin 1 → IVec S16 32) a x).toNat < S2432.size a := fun v792 k0_hw247 => k0_hw247

def k0_chk248 (v794 : IVec S16 32) : Prop :=
  (∀ a x, ((![v794] : Fin 1 → IVec S16 32) a x).toNat < S2432.size a)
theorem k0_idx248_inb : ∀ (v794 : IVec S16 32) (k0_hw248 : k0_chk248 v794), ∀ a x, ((![v794] : Fin 1 → IVec S16 32) a x).toNat < S2432.size a := fun v794 k0_hw248 => k0_hw248
def k0_off242 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v796 : Index := Scalar.indexCast v779
  let c0_233 : Index := 0#32
  ![v796.toNat, 0]
def k0_off243 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v798 : Index := Scalar.indexCast v779
  let c16_234 : Index := 16#32
  ![v798.toNat, 16]
def k0_off244 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v800 : Index := Scalar.indexCast v779
  let c32_235 : Index := 32#32
  ![v800.toNat, 32]
def k0_off245 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v802 : Index := Scalar.indexCast v779
  let c48_236 : Index := 48#32
  ![v802.toNat, 48]
def k0_off246 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v804 : Index := Scalar.indexCast v779
  let c64_237 : Index := 64#32
  ![v804.toNat, 64]
def k0_off247 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v806 : Index := Scalar.indexCast v779
  let c80_238 : Index := 80#32
  ![v806.toNat, 80]
def k0_off248 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v808 : Index := Scalar.indexCast v779
  let c96_239 : Index := 96#32
  ![v808.toNat, 96]
def k0_off249 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_232 : BitVec 32 := 16#32
  let v778 : BitVec 32 := Scalar.muli v197 c16_i32_232
  let c13_i32 : BitVec 32 := 13#32
  let v779 : BitVec 32 := Scalar.addi v778 c13_i32
  let v810 : Index := Scalar.indexCast v779
  let c112_240 : Index := 112#32
  ![v810.toNat, 112]

def k0_chk249 (v817 : IVec S16 32) : Prop :=
  (∀ a x, ((![v817] : Fin 1 → IVec S16 32) a x).toNat < S2432.size a)
theorem k0_idx249_inb : ∀ (v817 : IVec S16 32) (k0_hw249 : k0_chk249 v817), ∀ a x, ((![v817] : Fin 1 → IVec S16 32) a x).toNat < S2432.size a := fun v817 k0_hw249 => k0_hw249

def k0_chk250 (v819 : IVec S16 32) : Prop :=
  (∀ a x, ((![v819] : Fin 1 → IVec S16 32) a x).toNat < S2432.size a)
theorem k0_idx250_inb : ∀ (v819 : IVec S16 32) (k0_hw250 : k0_chk250 v819), ∀ a x, ((![v819] : Fin 1 → IVec S16 32) a x).toNat < S2432.size a := fun v819 k0_hw250 => k0_hw250

def k0_chk251 (v821 : IVec S16 32) : Prop :=
  (∀ a x, ((![v821] : Fin 1 → IVec S16 32) a x).toNat < S2432.size a)
theorem k0_idx251_inb : ∀ (v821 : IVec S16 32) (k0_hw251 : k0_chk251 v821), ∀ a x, ((![v821] : Fin 1 → IVec S16 32) a x).toNat < S2432.size a := fun v821 k0_hw251 => k0_hw251

def k0_chk252 (v823 : IVec S16 32) : Prop :=
  (∀ a x, ((![v823] : Fin 1 → IVec S16 32) a x).toNat < S2432.size a)
theorem k0_idx252_inb : ∀ (v823 : IVec S16 32) (k0_hw252 : k0_chk252 v823), ∀ a x, ((![v823] : Fin 1 → IVec S16 32) a x).toNat < S2432.size a := fun v823 k0_hw252 => k0_hw252

def k0_chk253 (v825 : IVec S16 32) : Prop :=
  (∀ a x, ((![v825] : Fin 1 → IVec S16 32) a x).toNat < S2432.size a)
theorem k0_idx253_inb : ∀ (v825 : IVec S16 32) (k0_hw253 : k0_chk253 v825), ∀ a x, ((![v825] : Fin 1 → IVec S16 32) a x).toNat < S2432.size a := fun v825 k0_hw253 => k0_hw253

def k0_chk254 (v827 : IVec S16 32) : Prop :=
  (∀ a x, ((![v827] : Fin 1 → IVec S16 32) a x).toNat < S2432.size a)
theorem k0_idx254_inb : ∀ (v827 : IVec S16 32) (k0_hw254 : k0_chk254 v827), ∀ a x, ((![v827] : Fin 1 → IVec S16 32) a x).toNat < S2432.size a := fun v827 k0_hw254 => k0_hw254

def k0_chk255 (v829 : IVec S16 32) : Prop :=
  (∀ a x, ((![v829] : Fin 1 → IVec S16 32) a x).toNat < S2432.size a)
theorem k0_idx255_inb : ∀ (v829 : IVec S16 32) (k0_hw255 : k0_chk255 v829), ∀ a x, ((![v829] : Fin 1 → IVec S16 32) a x).toNat < S2432.size a := fun v829 k0_hw255 => k0_hw255

def k0_chk256 (v831 : IVec S16 32) : Prop :=
  (∀ a x, ((![v831] : Fin 1 → IVec S16 32) a x).toNat < S2432.size a)
theorem k0_idx256_inb : ∀ (v831 : IVec S16 32) (k0_hw256 : k0_chk256 v831), ∀ a x, ((![v831] : Fin 1 → IVec S16 32) a x).toNat < S2432.size a := fun v831 k0_hw256 => k0_hw256
def k0_off250 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v833 : Index := Scalar.indexCast v816
  let c0_242 : Index := 0#32
  ![v833.toNat, 0]
def k0_off251 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v835 : Index := Scalar.indexCast v816
  let c16_243 : Index := 16#32
  ![v835.toNat, 16]
def k0_off252 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v837 : Index := Scalar.indexCast v816
  let c32_244 : Index := 32#32
  ![v837.toNat, 32]
def k0_off253 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v839 : Index := Scalar.indexCast v816
  let c48_245 : Index := 48#32
  ![v839.toNat, 48]
def k0_off254 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v841 : Index := Scalar.indexCast v816
  let c64_246 : Index := 64#32
  ![v841.toNat, 64]
def k0_off255 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v843 : Index := Scalar.indexCast v816
  let c80_247 : Index := 80#32
  ![v843.toNat, 80]
def k0_off256 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v845 : Index := Scalar.indexCast v816
  let c96_248 : Index := 96#32
  ![v845.toNat, 96]
def k0_off257 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_241 : BitVec 32 := 16#32
  let v815 : BitVec 32 := Scalar.muli v197 c16_i32_241
  let c14_i32 : BitVec 32 := 14#32
  let v816 : BitVec 32 := Scalar.addi v815 c14_i32
  let v847 : Index := Scalar.indexCast v816
  let c112_249 : Index := 112#32
  ![v847.toNat, 112]

def k0_chk257 (v854 : IVec S16 32) : Prop :=
  (∀ a x, ((![v854] : Fin 1 → IVec S16 32) a x).toNat < S2432.size a)
theorem k0_idx257_inb : ∀ (v854 : IVec S16 32) (k0_hw257 : k0_chk257 v854), ∀ a x, ((![v854] : Fin 1 → IVec S16 32) a x).toNat < S2432.size a := fun v854 k0_hw257 => k0_hw257

def k0_chk258 (v856 : IVec S16 32) : Prop :=
  (∀ a x, ((![v856] : Fin 1 → IVec S16 32) a x).toNat < S2432.size a)
theorem k0_idx258_inb : ∀ (v856 : IVec S16 32) (k0_hw258 : k0_chk258 v856), ∀ a x, ((![v856] : Fin 1 → IVec S16 32) a x).toNat < S2432.size a := fun v856 k0_hw258 => k0_hw258

def k0_chk259 (v858 : IVec S16 32) : Prop :=
  (∀ a x, ((![v858] : Fin 1 → IVec S16 32) a x).toNat < S2432.size a)
theorem k0_idx259_inb : ∀ (v858 : IVec S16 32) (k0_hw259 : k0_chk259 v858), ∀ a x, ((![v858] : Fin 1 → IVec S16 32) a x).toNat < S2432.size a := fun v858 k0_hw259 => k0_hw259

def k0_chk260 (v860 : IVec S16 32) : Prop :=
  (∀ a x, ((![v860] : Fin 1 → IVec S16 32) a x).toNat < S2432.size a)
theorem k0_idx260_inb : ∀ (v860 : IVec S16 32) (k0_hw260 : k0_chk260 v860), ∀ a x, ((![v860] : Fin 1 → IVec S16 32) a x).toNat < S2432.size a := fun v860 k0_hw260 => k0_hw260

def k0_chk261 (v862 : IVec S16 32) : Prop :=
  (∀ a x, ((![v862] : Fin 1 → IVec S16 32) a x).toNat < S2432.size a)
theorem k0_idx261_inb : ∀ (v862 : IVec S16 32) (k0_hw261 : k0_chk261 v862), ∀ a x, ((![v862] : Fin 1 → IVec S16 32) a x).toNat < S2432.size a := fun v862 k0_hw261 => k0_hw261

def k0_chk262 (v864 : IVec S16 32) : Prop :=
  (∀ a x, ((![v864] : Fin 1 → IVec S16 32) a x).toNat < S2432.size a)
theorem k0_idx262_inb : ∀ (v864 : IVec S16 32) (k0_hw262 : k0_chk262 v864), ∀ a x, ((![v864] : Fin 1 → IVec S16 32) a x).toNat < S2432.size a := fun v864 k0_hw262 => k0_hw262

def k0_chk263 (v866 : IVec S16 32) : Prop :=
  (∀ a x, ((![v866] : Fin 1 → IVec S16 32) a x).toNat < S2432.size a)
theorem k0_idx263_inb : ∀ (v866 : IVec S16 32) (k0_hw263 : k0_chk263 v866), ∀ a x, ((![v866] : Fin 1 → IVec S16 32) a x).toNat < S2432.size a := fun v866 k0_hw263 => k0_hw263

def k0_chk264 (v868 : IVec S16 32) : Prop :=
  (∀ a x, ((![v868] : Fin 1 → IVec S16 32) a x).toNat < S2432.size a)
theorem k0_idx264_inb : ∀ (v868 : IVec S16 32) (k0_hw264 : k0_chk264 v868), ∀ a x, ((![v868] : Fin 1 → IVec S16 32) a x).toNat < S2432.size a := fun v868 k0_hw264 => k0_hw264
def k0_off258 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v870 : Index := Scalar.indexCast v853
  let c0_251 : Index := 0#32
  ![v870.toNat, 0]
def k0_off259 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v872 : Index := Scalar.indexCast v853
  let c16_252 : Index := 16#32
  ![v872.toNat, 16]
def k0_off260 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v874 : Index := Scalar.indexCast v853
  let c32_253 : Index := 32#32
  ![v874.toNat, 32]
def k0_off261 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v876 : Index := Scalar.indexCast v853
  let c48_254 : Index := 48#32
  ![v876.toNat, 48]
def k0_off262 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v878 : Index := Scalar.indexCast v853
  let c64_255 : Index := 64#32
  ![v878.toNat, 64]
def k0_off263 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v880 : Index := Scalar.indexCast v853
  let c80_256 : Index := 80#32
  ![v880.toNat, 80]
def k0_off264 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v882 : Index := Scalar.indexCast v853
  let c96_257 : Index := 96#32
  ![v882.toNat, 96]
def k0_off265 (k0_t3 : Fin k0_t3_loop.trips) : Fin 2 → Nat :=
  let c0_i32_100 : BitVec 32 := 0#32
  let c0_i32_92 : BitVec 32 := 0#32
  let c1_i32_94 : BitVec 32 := 1#32
  let arg14 : BitVec 32 := Scf.iv c0_i32_92 c1_i32_94 k0_t3
  let c1_i32_99 : BitVec 32 := 1#32
  let v196 : BitVec 32 := Scalar.muli arg14 c1_i32_99
  let v197 : BitVec 32 := Scalar.addi c0_i32_100 v196
  let c16_i32_250 : BitVec 32 := 16#32
  let v852 : BitVec 32 := Scalar.muli v197 c16_i32_250
  let c15_i32 : BitVec 32 := 15#32
  let v853 : BitVec 32 := Scalar.addi v852 c15_i32
  let v884 : Index := Scalar.indexCast v853
  let c112_258 : Index := 112#32
  ![v884.toNat, 112]
def k0_off266 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_15 : BitVec 32 := 0#32
  let c0_i32_2 : BitVec 32 := 0#32
  let c1_i32_4 : BitVec 32 := 1#32
  let arg13 : BitVec 32 := Scf.iv c0_i32_2 c1_i32_4 k0_t1
  let c1_i32_14 : BitVec 32 := 1#32
  let v28 : BitVec 32 := Scalar.muli arg13 c1_i32_14
  let v29 : BitVec 32 := Scalar.addi c0_i32_15 v28
  let c2_i32_58 : BitVec 32 := 2#32
  let v116 : BitVec 32 := Scalar.muli v29 c2_i32_58
  let c1_i32_59 : BitVec 32 := 1#32
  let v117 : BitVec 32 := Scalar.addi v116 c1_i32_59
  let c0_i32_61 : BitVec 32 := 0#32
  let v119 : BitVec 1 := Scalar.cmpi .sgt v117 c0_i32_61
  let v120 : BitVec 32 := Scalar.extui v119
  let c0_i32_62 : BitVec 32 := 0#32
  let v121 : BitVec 1 := Scalar.cmpi .slt v117 c0_i32_62
  let v122 : BitVec 32 := Scalar.extui v121
  let v123 : BitVec 32 := Scalar.subi v120 v122
  let c2_i32_60 : BitVec 32 := 2#32
  let c0_i32_63 : BitVec 32 := 0#32
  let v124 : BitVec 1 := Scalar.cmpi .sgt c2_i32_60 c0_i32_63
  let v125 : BitVec 32 := Scalar.extui v124
  let c0_i32_64 : BitVec 32 := 0#32
  let v126 : BitVec 1 := Scalar.cmpi .slt c2_i32_60 c0_i32_64
  let v127 : BitVec 32 := Scalar.extui v126
  let v128 : BitVec 32 := Scalar.subi v125 v127
  let v129 : BitVec 1 := Scalar.cmpi .ne v123 v128
  let v130 : BitVec 32 := Scalar.remsi v117 c2_i32_60
  let c0_i32_65 : BitVec 32 := 0#32
  let v131 : BitVec 1 := Scalar.cmpi .ne v130 c0_i32_65
  let v132 : BitVec 1 := Scalar.andi v129 v131
  let v118 : BitVec 32 := Scalar.divsi v117 c2_i32_60
  let c1_i32_66 : BitVec 32 := 1#32
  let v133 : BitVec 32 := Scalar.subi v118 c1_i32_66
  let v134 : BitVec 32 := Scalar.select v132 v133 v118
  let v135 : BitVec 32 := Scalar.addi v2 v134
  let c512_i32_96 : BitVec 32 := 512#32
  let v192 : BitVec 32 := Scalar.muli v135 c512_i32_96
  let c2_i32_80 : BitVec 32 := 2#32
  let c0_i32_81 : BitVec 32 := 0#32
  let v163 : BitVec 1 := Scalar.cmpi .eq c2_i32_80 c0_i32_81
  let c1_i32_82 : BitVec 32 := 1#32
  let v164 : BitVec 32 := Scalar.select v163 c1_i32_82 c2_i32_80
  let v165 : BitVec 32 := Scalar.remsi v117 v164
  let c0_i32_84 : BitVec 32 := 0#32
  let v167 : BitVec 1 := Scalar.cmpi .slt v165 c0_i32_84
  let c0_i32_85 : BitVec 32 := 0#32
  let v168 : BitVec 1 := Scalar.cmpi .slt v164 c0_i32_85
  let v169 : BitVec 1 := Scalar.xori v167 v168
  let c0_i32_83 : BitVec 32 := 0#32
  let v166 : BitVec 1 := Scalar.cmpi .ne v165 c0_i32_83
  let v170 : BitVec 1 := Scalar.andi v169 v166
  let v171 : BitVec 32 := Scalar.addi v165 v164
  let v172 : BitVec 32 := Scalar.select v170 v171 v165
  let c256_i32_86 : BitVec 32 := 256#32
  let v173 : BitVec 32 := Scalar.muli v172 c256_i32_86
  let v193 : BitVec 32 := Scalar.addi v192 v173
  let c0_i32_97 : BitVec 32 := 0#32
  ![v193.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "thr1" => some ((44135276348228554957 / 2305843009213693952 : ℝ) : EReal)
  | "thr10" => some ((412493697070116163789 / 2305843009213693952 : ℝ) : EReal)
  | "thr11" => some ((476480840575796170957 / 2305843009213693952 : ℝ) : EReal)
  | "thr12" => some ((545079670099903566029 / 2305843009213693952 : ℝ) : EReal)
  | "thr13" => some ((618290185642438349005 / 2305843009213693952 : ℝ) : EReal)
  | "thr14" => some ((696112387203400519885 / 2305843009213693952 : ℝ) : EReal)
  | "thr15" => some ((778546274782790078669 / 2305843009213693952 : ℝ) : EReal)
  | "thr16" => some ((865591848380607025357 / 2305843009213693952 : ℝ) : EReal)
  | "thr17" => some ((957249107996851359949 / 2305843009213693952 : ℝ) : EReal)
  | "thr2" => some ((66617245688062070989 / 2305843009213693952 : ℝ) : EReal)
  | "thr3" => some ((93710901046322974925 / 2305843009213693952 : ℝ) : EReal)
  | "thr4" => some ((125416242423011266765 / 2305843009213693952 : ℝ) : EReal)
  | "thr5" => some ((161733269818126946509 / 2305843009213693952 : ℝ) : EReal)
  | "thr6" => some ((202661983231670014157 / 2305843009213693952 : ℝ) : EReal)
  | "thr7" => some ((248202382663640469709 / 2305843009213693952 : ℝ) : EReal)
  | "thr8" => some ((298354468114038313165 / 2305843009213693952 : ℝ) : EReal)
  | "thr9" => some ((353118239582863544525 / 2305843009213693952 : ℝ) : EReal)
  | _ => none
-- ==== ReferenceIdeal.lean ====
abbrev S2x512x14x3 : Shape := ⟨4, ![2, 512, 14, 3]⟩
abbrev S2x512x14 : Shape := ⟨3, ![2, 512, 14]⟩
abbrev S18x128 : Shape := ⟨2, ![18, 128]⟩
abbrev S2x512x1x3 : Shape := ⟨4, ![2, 512, 1, 3]⟩
abbrev S2x512x3 : Shape := ⟨3, ![2, 512, 3]⟩
abbrev S2x512x1 : Shape := ⟨3, ![2, 512, 1]⟩
abbrev S2x512 : Shape := ⟨2, ![2, 512]⟩
abbrev S2x1x512x3 : Shape := ⟨4, ![2, 1, 512, 3]⟩
abbrev S2x512x512x3 : Shape := ⟨4, ![2, 512, 512, 3]⟩
abbrev S_ : Shape := ⟨0, ![]⟩
abbrev S2x512x512 : Shape := ⟨3, ![2, 512, 512]⟩
abbrev S2x1x512 : Shape := ⟨3, ![2, 1, 512]⟩
abbrev S2x512x512x1 : Shape := ⟨4, ![2, 512, 512, 1]⟩
abbrev S1 : Shape := ⟨1, ![1]⟩
abbrev S1x1x1x1 : Shape := ⟨4, ![1, 1, 1, 1]⟩
abbrev S2x512x512x128 : Shape := ⟨4, ![2, 512, 512, 128]⟩

abbrev nBuf : Space → Nat
  | .hbm => 66
  | .vmem => 0
  | .smem => 0
  | _ => 0

abbrev bufTy : (tb : Table) → Fin (tcTables nBuf tb) → BufTy
  | .hbm, ⟨0, _⟩ => ⟨S2x512x14x3, .f32⟩
  | .hbm, ⟨1, _⟩ => ⟨S2x512x14, .f32⟩
  | .hbm, ⟨2, _⟩ => ⟨S18x128, .f32⟩
  | .hbm, ⟨3, _⟩ => ⟨S2x512x1x3, .f32⟩
  | .hbm, ⟨4, _⟩ => ⟨S2x512x3, .f32⟩
  | .hbm, ⟨5, _⟩ => ⟨S2x512x1, .f32⟩
  | .hbm, ⟨6, _⟩ => ⟨S2x512, .f32⟩
  | .hbm, ⟨7, _⟩ => ⟨S2x512x1x3, .f32⟩
  | .hbm, ⟨8, _⟩ => ⟨S2x1x512x3, .f32⟩
  | .hbm, ⟨9, _⟩ => ⟨S2x512x512x3, .f32⟩
  | .hbm, ⟨10, _⟩ => ⟨S2x512x512x3, .f32⟩
  | .hbm, ⟨11, _⟩ => ⟨S2x512x512x3, .f32⟩
  | .hbm, ⟨12, _⟩ => ⟨S2x512x512x3, .f32⟩
  | .hbm, ⟨13, _⟩ => ⟨S_, .f32⟩
  | .hbm, ⟨14, _⟩ => ⟨S2x512x512, .f32⟩
  | .hbm, ⟨15, _⟩ => ⟨S_, .f32⟩
  | .hbm, ⟨16, _⟩ => ⟨S2x512x512, .f32⟩
  | .hbm, ⟨17, _⟩ => ⟨S2x512x512, .f32⟩
  | .hbm, ⟨18, _⟩ => ⟨S2x512x512, .f32⟩
  | .hbm, ⟨19, _⟩ => ⟨S2x512x1, .f32⟩
  | .hbm, ⟨20, _⟩ => ⟨S2x1x512, .f32⟩
  | .hbm, ⟨21, _⟩ => ⟨S2x512x512, .f32⟩
  | .hbm, ⟨22, _⟩ => ⟨S2x512x512, .f32⟩
  | .hbm, ⟨23, _⟩ => ⟨S2x512x512, .f32⟩
  | .hbm, ⟨24, _⟩ => ⟨S_, .f32⟩
  | .hbm, ⟨25, _⟩ => ⟨S2x512x512, .f32⟩
  | .hbm, ⟨26, _⟩ => ⟨S2x512x512, .f32⟩
  | .hbm, ⟨27, _⟩ => ⟨S_, .f32⟩
  | .hbm, ⟨28, _⟩ => ⟨S2x512x512, .f32⟩
  | .hbm, ⟨29, _⟩ => ⟨S2x512x512, .f32⟩
  | .hbm, ⟨30, _⟩ => ⟨S2x512x512, .f32⟩
  | .hbm, ⟨31, _⟩ => ⟨S2x512x512, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S2x512x512, .i32⟩
  | .hbm, ⟨36, _⟩ => ⟨S2x512x512, .i32⟩
  | .hbm, ⟨37, _⟩ => ⟨S_, .i32⟩
  | .hbm, ⟨38, _⟩ => ⟨S2x512x512, .i32⟩
  | .hbm, ⟨39, _⟩ => ⟨S2x512x512, .i32⟩
  | .hbm, ⟨40, _⟩ => ⟨S2x512x512x1, .f32⟩
  | .hbm, ⟨41, _⟩ => ⟨S_, .i32⟩
  | .hbm, ⟨42, _⟩ => ⟨S2x512x512, .i32⟩
  | .hbm, ⟨43, _⟩ => ⟨S2x512x512, .i1⟩
  | .hbm, ⟨44, _⟩ => ⟨S_, .i32⟩
  | .hbm, ⟨45, _⟩ => ⟨S2x512x512, .i32⟩
  | .hbm, ⟨46, _⟩ => ⟨S2x512x512, .i32⟩
  | .hbm, ⟨47, _⟩ => ⟨S2x512x512, .i32⟩
  | .hbm, ⟨48, _⟩ => ⟨S2x512x512x1, .i32⟩
  | .hbm, ⟨49, _⟩ => ⟨S1, .i32⟩
  | .hbm, ⟨50, _⟩ => ⟨S_, .i32⟩
  | .hbm, ⟨51, _⟩ => ⟨S2x512x512x1, .i32⟩
  | .hbm, ⟨52, _⟩ => ⟨S2x512x512x1, .i1⟩
  | .hbm, ⟨53, _⟩ => ⟨S1x1x1x1, .i32⟩
  | .hbm, ⟨54, _⟩ => ⟨S2x512x512x1, .i32⟩
  | .hbm, ⟨55, _⟩ => ⟨S2x512x512x1, .i1⟩
  | .hbm, ⟨56, _⟩ => ⟨S2x512x512x1, .i1⟩
  | .hbm, ⟨57, _⟩ => ⟨S_, .i1⟩
  | .hbm, ⟨58, _⟩ => ⟨S2x512x512, .i1⟩
  | .hbm, ⟨59, _⟩ => ⟨S2x512x512x128, .f32⟩
  | .hbm, ⟨60, _⟩ => ⟨S2x512x512x128, .i1⟩
  | .hbm, ⟨61, _⟩ => ⟨S_, .f32⟩
  | .hbm, ⟨62, _⟩ => ⟨S2x512x512x128, .f32⟩
  | .hbm, ⟨63, _⟩ => ⟨S2x512x512x128, .f32⟩
  | .hbm, ⟨64, _⟩ => ⟨S2x512x512x128, .f32⟩
  | .hbm, ⟨65, _⟩ => ⟨S2x512x512x128, .f32⟩
  | _, _ => ⟨S2x512x14x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_c_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v25 : Ref sig .tc := ⟨.hbm, 39, rfl⟩
abbrev main_v26 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩

abbrev nD : Nat := 1
abbrev τ : Topo := Topo.v7x

variable {F : FTy → Type} [FloatOps F]
-- ==== Proof.Body.lean ====
/-
The two loop bodies of the kernel, rewritten.

The kernel fills a buffer of 256 rows by sixteen groups of sixteen rows.  The program spells every row
of a group out.  Here one row is a program of its own (`rowProg`), a group is the four vector loads
followed by the sixteen rows (`groupProg`), and one half of a trip of the outer loop is `halfProg`.
The equations at the end say that the bodies of the kernel's loops ARE these programs.
-/
module

public import proofs.«01_k».proof.KernelIdeal
public import proofs.«01_k».proof.Proof.Gen.KernelIdeal
public import proofs.«01_k».proof.Proof.Gen.KernelIdeal.Skeleton

@[expose] public section

noncomputable section

namespace Cert.Proof.Body

open Cert.KernelIdeal Cert.KernelIdeal.Gen
open Idealize.ShloMosaic Idealize.SL.Sem

variable {F : FTy → Type} [FloatOps F] [Named F]

/-- A program of the tile at grid coordinates `i`. -/
abbrev TileP (i : grid0.Coords) (α : Type) : Type 1 :=
  Prog (TpuEff nD τ sig (Elt F) Λ₀ (.scVector ((i 0).castLE hcore0) ((i 1).castLE hsub0))) α

/-- Every lane of `v` is an index of an array of shape `s`. -/
abbrev InB {s : Shape} (h1 : Fin s.rank → IVec S16 32) : Prop :=
  ∀ a x, ((h1 a : IVec S16 32) x).toNat < s.size a

/-- The checked gather of sixteen words of the table. -/
def gatherT (i : grid0.Coords) (m : Memref sig .scVector .vmem S2432 .f32) (v : IVec S16 32) :
    TileP (F := F) i (Vec F S16 .f32) := do
  let h ← Prog.lift (TpuEff.assume (k0_chk5 v) (k0_chk5.dec v))
  SparseCore.vectorLoadIdx m ![v] (k0_idx5_inb v h.down) (View.loads_vmem h_S2432)

/-- The checked gather of sixteen words of the coordinates. -/
def gatherC (i : grid0.Coords) (m : Memref sig .scVector .vmem S3072 .f32) (v : IVec S16 32) :
    TileP (F := F) i (Vec F S16 .f32) := do
  let h ← Prog.lift (TpuEff.assume (k0_chk1 v) (k0_chk1.dec v))
  SparseCore.vectorLoadIdx m ![v] (k0_idx1_inb v h.down) (View.loads_vmem h_S3072)

/-- The checked gather of sixteen words of the mask. -/
def gatherM (i : grid0.Coords) (m : Memref sig .scVector .vmem S1024 .f32) (v : IVec S16 32) :
    TileP (F := F) i (Vec F S16 .f32) := do
  let h ← Prog.lift (TpuEff.assume (k0_chk4 v) (k0_chk4.dec v))
  SparseCore.vectorLoadIdx m ![v] (k0_idx4_inb v h.down) (View.loads_vmem h_S1024)

/-- Sixteen words written at one place of the buffer (the program reads the place first). -/
def putAt (i : grid0.Coords) (buf : Memref sig .scVector .vmem S256x128 .f32) (off : Fin 2 → ℕ)
    (inb : ∀ a, off a + S1x16.size a ≤ S256x128.size a) (x : Vec F S16 .f32) : TileP (F := F) i PUnit := do
  let _ ← Prog.lift (.load buf (Rect.unit (s := S256x128) off S1x16.size inb).toLoadRect (View.loadsAt_vmem h_S1x16))
  Prog.lift (.store buf (Rect.unit (s := S256x128) off S1x16.size inb) (shapeCast S1x16 x shapeCasts_S16_S1x16)
    Finset.univ (View.stores_vmem_bits_univ h_S1x16 rfl) (.inl rfl))

/-- One row of the buffer: eight gathers, then eight writes. -/
def rowProg (i : grid0.Coords) (buf : Memref sig .scVector .vmem S256x128 .f32)
    (tbl : Memref sig .scVector .vmem S2432 .f32) (off : Fin 8 → Fin 2 → ℕ)
    (inb : ∀ c a, off c a + S1x16.size a ≤ S256x128.size a) (tb : IVec S16 32) (lane : Fin 8 → IVec S16 32) :
    TileP (F := F) i PUnit := do
  let x0 ← gatherT i tbl (addi tb (lane 0))
  let x1 ← gatherT i tbl (addi tb (lane 1))
  let x2 ← gatherT i tbl (addi tb (lane 2))
  let x3 ← gatherT i tbl (addi tb (lane 3))
  let x4 ← gatherT i tbl (addi tb (lane 4))
  let x5 ← gatherT i tbl (addi tb (lane 5))
  let x6 ← gatherT i tbl (addi tb (lane 6))
  let x7 ← gatherT i tbl (addi tb (lane 7))
  putAt i buf (off 0) (inb 0) x0
  putAt i buf (off 1) (inb 1) x1
  putAt i buf (off 2) (inb 2) x2
  putAt i buf (off 3) (inb 3) x3
  putAt i buf (off 4) (inb 4) x4
  putAt i buf (off 5) (inb 5) x5
  putAt i buf (off 6) (inb 6) x6
  putAt i buf (off 7) (inb 7) x7

theorem slices_lane (j : Fin 16) : S16.Slices ![j.val] S1 := by revert j; decide

/-- Lane `j` of `v`, spread over sixteen lanes. -/
def spread (v : IVec S16 32) (j : Fin 16) : IVec S16 32 :=
  broadcast S16 (extractAt ![0] (extractStridedSlice S1 ![j.val] v (slices_lane j)) inpos_S1_p0)

/-- The rows of a list, one after another. -/
def rowsProg (i : grid0.Coords) (buf : Memref sig .scVector .vmem S256x128 .f32)
    (tbl : Memref sig .scVector .vmem S2432 .f32) (off : Fin 16 → Fin 8 → Fin 2 → ℕ)
    (inb : ∀ j c a, off j c a + S1x16.size a ≤ S256x128.size a) (tb : IVec S16 32) (lane : Fin 8 → IVec S16 32) :
    List (Fin 16) → TileP (F := F) i PUnit
  | [] => pure ⟨⟩
  | j :: js => do
    rowProg i buf tbl (off j) (inb j) (spread tb j) lane
    rowsProg i buf tbl off inb tb lane js

/-- The first table index of each of the sixteen rows of a group. -/
def baseVec (cx cy cz cm x y z w : Vec F S16 .f32) : IVec S16 32 :=
  muli (k0_pay3 k0_pay49 k0_pay50 k0_pay51 cm (k0_pay1 cx cy cz x y z) (k0_pay2 k0_pay49 k0_pay50 cx cy cz x y z) w)
    (broadcast S16 128#32)

/-- The eight vectors of lane numbers. -/
def lanes : Fin 8 → IVec S16 32 :=
  ![k0_pay52, k0_pay53, k0_pay54, k0_pay55, k0_pay56, k0_pay57, k0_pay58, k0_pay59]

/-- A group of sixteen rows. -/
def groupProg (i : grid0.Coords) (cs : Memref sig .scVector .vmem S3072 .f32)
    (ms : Memref sig .scVector .vmem S1024 .f32) (tbl : Memref sig .scVector .vmem S2432 .f32)
    (buf : Memref sig .scVector .vmem S256x128 .f32)
    (ox oy oz ow : Fin 1 → ℕ) (hx : ∀ a, ox a + S16.size a ≤ S3072.size a) (hy : ∀ a, oy a + S16.size a ≤ S3072.size a)
    (hz : ∀ a, oz a + S16.size a ≤ S3072.size a) (hw : ∀ a, ow a + S16.size a ≤ S1024.size a)
    (off : Fin 16 → Fin 8 → Fin 2 → ℕ) (inb : ∀ j c a, off j c a + S1x16.size a ≤ S256x128.size a)
    (cx cy cz cm : Vec F S16 .f32) : TileP (F := F) i PUnit := do
  let x ← Prog.lift (.load cs (Rect.unit (s := S3072) ox S16.size hx).toLoadRect (View.loadsAt_vmem h_S16))
  let y ← Prog.lift (.load cs (Rect.unit (s := S3072) oy S16.size hy).toLoadRect (View.loadsAt_vmem h_S16))
  let z ← Prog.lift (.load cs (Rect.unit (s := S3072) oz S16.size hz).toLoadRect (View.loadsAt_vmem h_S16))
  let w ← Prog.lift (.load ms (Rect.unit (s := S1024) ow S16.size hw).toLoadRect (View.loadsAt_vmem h_S16))
  rowsProg i buf tbl off inb (baseVec cx cy cz cm x y z w) lanes
    [0, 1, 2, 3, 4, 5, 6, 7, 8, 9, 10, 11, 12, 13, 14, 15]

/-- Where the first inner loop writes: row `j` of the group, eighth `c` of the row. -/
def offA (t : Fin k0_t2_loop.trips) : Fin 16 → Fin 8 → Fin 2 → ℕ :=
  ![
    ![k0_off5 t, k0_off6 t, k0_off7 t, k0_off8 t, k0_off9 t, k0_off10 t, k0_off11 t, k0_off12 t],
    ![k0_off13 t, k0_off14 t, k0_off15 t, k0_off16 t, k0_off17 t, k0_off18 t, k0_off19 t, k0_off20 t],
    ![k0_off21 t, k0_off22 t, k0_off23 t, k0_off24 t, k0_off25 t, k0_off26 t, k0_off27 t, k0_off28 t],
    ![k0_off29 t, k0_off30 t, k0_off31 t, k0_off32 t, k0_off33 t, k0_off34 t, k0_off35 t, k0_off36 t],
    ![k0_off37 t, k0_off38 t, k0_off39 t, k0_off40 t, k0_off41 t, k0_off42 t, k0_off43 t, k0_off44 t],
    ![k0_off45 t, k0_off46 t, k0_off47 t, k0_off48 t, k0_off49 t, k0_off50 t, k0_off51 t, k0_off52 t],
    ![k0_off53 t, k0_off54 t, k0_off55 t, k0_off56 t, k0_off57 t, k0_off58 t, k0_off59 t, k0_off60 t],
    ![k0_off61 t, k0_off62 t, k0_off63 t, k0_off64 t, k0_off65 t, k0_off66 t, k0_off67 t, k0_off68 t],
    ![k0_off69 t, k0_off70 t, k0_off71 t, k0_off72 t, k0_off73 t, k0_off74 t, k0_off75 t, k0_off76 t],
    ![k0_off77 t, k0_off78 t, k0_off79 t, k0_off80 t, k0_off81 t, k0_off82 t, k0_off83 t, k0_off84 t],
    ![k0_off85 t, k0_off86 t, k0_off87 t, k0_off88 t, k0_off89 t, k0_off90 t, k0_off91 t, k0_off92 t],
    ![k0_off93 t, k0_off94 t, k0_off95 t, k0_off96 t, k0_off97 t, k0_off98 t, k0_off99 t, k0_off100 t],
    ![k0_off101 t, k0_off102 t, k0_off103 t, k0_off104 t, k0_off105 t, k0_off106 t, k0_off107 t, k0_off108 t],
    ![k0_off109 t, k0_off110 t, k0_off111 t, k0_off112 t, k0_off113 t, k0_off114 t, k0_off115 t, k0_off116 t],
    ![k0_off117 t, k0_off118 t, k0_off119 t, k0_off120 t, k0_off121 t, k0_off122 t, k0_off123 t, k0_off124 t],
    ![k0_off125 t, k0_off126 t, k0_off127 t, k0_off128 t, k0_off129 t, k0_off130 t, k0_off131 t, k0_off132 t]]

/-- Where the second inner loop writes. -/
def offB (t : Fin k0_t3_loop.trips) : Fin 16 → Fin 8 → Fin 2 → ℕ :=
  ![
    ![k0_off138 t, k0_off139 t, k0_off140 t, k0_off141 t, k0_off142 t, k0_off143 t, k0_off144 t, k0_off145 t],
    ![k0_off146 t, k0_off147 t, k0_off148 t, k0_off149 t, k0_off150 t, k0_off151 t, k0_off152 t, k0_off153 t],
    ![k0_off154 t, k0_off155 t, k0_off156 t, k0_off157 t, k0_off158 t, k0_off159 t, k0_off160 t, k0_off161 t],
    ![k0_off162 t, k0_off163 t, k0_off164 t, k0_off165 t, k0_off166 t, k0_off167 t, k0_off168 t, k0_off169 t],
    ![k0_off170 t, k0_off171 t, k0_off172 t, k0_off173 t, k0_off174 t, k0_off175 t, k0_off176 t, k0_off177 t],
    ![k0_off178 t, k0_off179 t, k0_off180 t, k0_off181 t, k0_off182 t, k0_off183 t, k0_off184 t, k0_off185 t],
    ![k0_off186 t, k0_off187 t, k0_off188 t, k0_off189 t, k0_off190 t, k0_off191 t, k0_off192 t, k0_off193 t],
    ![k0_off194 t, k0_off195 t, k0_off196 t, k0_off197 t, k0_off198 t, k0_off199 t, k0_off200 t, k0_off201 t],
    ![k0_off202 t, k0_off203 t, k0_off204 t, k0_off205 t, k0_off206 t, k0_off207 t, k0_off208 t, k0_off209 t],
    ![k0_off210 t, k0_off211 t, k0_off212 t, k0_off213 t, k0_off214 t, k0_off215 t, k0_off216 t, k0_off217 t],
    ![k0_off218 t, k0_off219 t, k0_off220 t, k0_off221 t, k0_off222 t, k0_off223 t, k0_off224 t, k0_off225 t],
    ![k0_off226 t, k0_off227 t, k0_off228 t, k0_off229 t, k0_off230 t, k0_off231 t, k0_off232 t, k0_off233 t],
    ![k0_off234 t, k0_off235 t, k0_off236 t, k0_off237 t, k0_off238 t, k0_off239 t, k0_off240 t, k0_off241 t],
    ![k0_off242 t, k0_off243 t, k0_off244 t, k0_off245 t, k0_off246 t, k0_off247 t, k0_off248 t, k0_off249 t],
    ![k0_off250 t, k0_off251 t, k0_off252 t, k0_off253 t, k0_off254 t, k0_off255 t, k0_off256 t, k0_off257 t],
    ![k0_off258 t, k0_off259 t, k0_off260 t, k0_off261 t, k0_off262 t, k0_off263 t, k0_off264 t, k0_off265 t]]

theorem offA_eq : ∀ (t : Fin k0_t2_loop.trips) (j : Fin 16) (c : Fin 8), offA t j c = ![16 * t.val + j.val, 16 * c.val] := by
  decide +kernel

theorem offB_eq : ∀ (t : Fin k0_t3_loop.trips) (j : Fin 16) (c : Fin 8), offB t j c = ![16 * t.val + j.val, 16 * c.val] := by
  decide +kernel

theorem rowOff_inb {o : Fin 2 → ℕ} {t : ℕ} (j : Fin 16) (c : Fin 8) (ht : t < 16)
    (h : o = ![16 * t + j.val, 16 * c.val]) : ∀ a, o a + S1x16.size a ≤ S256x128.size a := by
  subst h
  have := j.isLt
  have := c.isLt
  intro a
  match a with
  | 0 => show 16 * t + j.val + 1 ≤ 256; omega
  | 1 => show 16 * c.val + 16 ≤ 128; omega

theorem offA_inb (t : Fin k0_t2_loop.trips) (j : Fin 16) (c : Fin 8) : ∀ a, offA t j c a + S1x16.size a ≤ S256x128.size a :=
  rowOff_inb j c (show t.val < 16 from t.isLt) (offA_eq t j c)

theorem offB_inb (t : Fin k0_t3_loop.trips) (j : Fin 16) (c : Fin 8) : ∀ a, offB t j c a + S1x16.size a ≤ S256x128.size a :=
  rowOff_inb j c (show t.val < 16 from t.isLt) (offB_eq t j c)

/-! ### The integer arithmetic of a trip -/

/-- Division rounding down, as the program spells it. -/
def flDiv (x d : BitVec 32) : BitVec 32 :=
  Scalar.select
    (Scalar.andi
      (Scalar.cmpi .ne
        (Scalar.subi (Scalar.extui (Scalar.cmpi .sgt x 0#32)) (Scalar.extui (Scalar.cmpi .slt x 0#32)) : BitVec 32)
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- The divisor, one in the place of zero. -/
def posDiv (d : BitVec 32) : BitVec 32 := Scalar.select (Scalar.cmpi .eq d 0#32) 1#32 d

/-- The remainder of `flDiv`, as the program spells it. -/
def flMod (x d : BitVec 32) : BitVec 32 :=
  Scalar.select
    (Scalar.andi
      (Scalar.xori (Scalar.cmpi .slt (Scalar.remsi x (posDiv d)) 0#32) (Scalar.cmpi .slt (posDiv d) 0#32))
      (Scalar.cmpi .ne (Scalar.remsi x (posDiv d)) 0#32))
    (Scalar.addi (Scalar.remsi x (posDiv d)) (posDiv d)) (Scalar.remsi x (posDiv d))

/-- The trip number as a word. -/
def tripW (t : Fin k0_t1_loop.trips) : BitVec 32 := Scalar.addi 0#32 (Scalar.muli (Scf.iv 0#32 1#32 t) 1#32)
/-- Whether a trip has an earlier one. -/
def condW (v : BitVec 32) : BitVec 1 := Scalar.cmpi .ne (Scalar.extui (Scalar.cmpi .sgt v 0#32) : BitVec 32) 0#32
/-- The number of the block of 256 rows. -/
def blockW (v p : BitVec 32) : BitVec 32 := Scalar.addi (Scalar.muli v 2#32) p
/-- The number of the row of the distance table. -/
def rowW (v2 v p : BitVec 32) : BitVec 32 := Scalar.addi v2 (flDiv (blockW v p) 2#32)
/-- The start of the first coordinate of the row's batch. -/
def baseX (r : BitVec 32) : BitVec 32 := Scalar.muli (Scalar.muli (flDiv r 512#32) 3#32) 512#32
def baseY (r : BitVec 32) : BitVec 32 := Scalar.addi (baseX r) 512#32
def baseZ (r : BitVec 32) : BitVec 32 := Scalar.addi (baseY r) 512#32
/-- The start of the mask of the row's batch. -/
def baseM (r : BitVec 32) : BitVec 32 := Scalar.muli (flDiv r 512#32) 512#32
/-- The first row of the tile. -/
def tileW (i : grid0.Coords) : BitVec 32 :=
  Scalar.muli (Scalar.addi (Scalar.muli (BitVec.ofNat 32 (i 1).val) 2#32) (BitVec.ofNat 32 (i 0).val)) 32#32

/-- One block: the row's own coordinates and mask, the sixteen groups, the copy out started. -/
def blockProg (i : grid0.Coords) (out : Memref sig .scVector .hbm S524288x128 .f32)
    (cs : Memref sig .scVector .vmem S3072 .f32) (ms : Memref sig .scVector .vmem S1024 .f32)
    (tbl : Memref sig .scVector .vmem S2432 .f32)
    (buf : Memref sig .scVector .vmem S256x128 .f32) (hbuf : buf.IsWhole) (sem : DmaSems sig S_) (r : BitVec 32)
    (ox oy oz ow : Fin k0_t2_loop.trips → Fin 1 → ℕ)
    (hx : ∀ t a, ox t a + S16.size a ≤ S3072.size a) (hy : ∀ t a, oy t a + S16.size a ≤ S3072.size a)
    (hz : ∀ t a, oz t a + S16.size a ≤ S3072.size a) (hw : ∀ t a, ow t a + S16.size a ≤ S1024.size a)
    (off : Fin k0_t2_loop.trips → Fin 16 → Fin 8 → Fin 2 → ℕ)
    (inb : ∀ t j c a, off t j c a + S1x16.size a ≤ S256x128.size a)
    (oo : Fin 2 → ℕ) (ho : ∀ a, oo a + S256x128.size a ≤ S524288x128.size a) : TileP (F := F) i PUnit := do
  let cx ← gatherC i cs (broadcast S16 (Scalar.addi (baseX r) (flMod r 512#32)))
  let cy ← gatherC i cs (broadcast S16 (Scalar.addi (baseY r) (flMod r 512#32)))
  let cz ← gatherC i cs (broadcast S16 (Scalar.addi (baseZ r) (flMod r 512#32)))
  let cm ← gatherM i ms (broadcast S16 (Scalar.addi (baseM r) (flMod r 512#32)))
  Scf.Loop.for k0_t2_loop k0_t2_ok ⟨⟩ fun t _ =>
    groupProg i cs ms tbl buf (ox t) (oy t) (oz t) (ow t) (hx t) (hy t) (hz t) (hw t) (off t) (inb t) cx cy cz cm
  Prog.lift (.enqueueDma buf (.here (out.slice (Rect.unit (s := S524288x128) oo S256x128.size ho) (fun _ => rfl)))
    (.dma sem.sem) hbuf.wordExact (View.wordExact_bits rfl) ⟨Or.inl rfl, trivial⟩)

/-- The wait for the copy of a buffer. -/
def waitProg (i : grid0.Coords) (out : Memref sig .scVector .hbm S524288x128 .f32)
    (buf : Memref sig .scVector .vmem S256x128 .f32) (hbuf : buf.IsWhole) (sem : DmaSems sig S_) : TileP (F := F) i PUnit :=
  Prog.lift (.waitDma2 sem.sem buf
    (out.slice (Rect.unit (s := S524288x128) ![0, 0] S256x128.size inb_S524288x128_S256x128_0_0) (fun _ => rfl))
    hbuf.wordExact (View.wordExact_bits rfl))

/-- The wait, in every trip but the first. -/
def waitIf (i : grid0.Coords) (t : Fin k0_t1_loop.trips) (out : Memref sig .scVector .hbm S524288x128 .f32)
    (buf : Memref sig .scVector .vmem S256x128 .f32) (hbuf : buf.IsWhole) (sem : DmaSems sig S_) : TileP (F := F) i PUnit :=
  if t.val = 0 then pure ⟨⟩ else waitProg i out buf hbuf sem

end Cert.Proof.Body

end
-- ==== Proof.Bin.lean ====
/-
What the kernel writes, as plain functions.

For a pair of points the kernel counts how many of seventeen thresholds the squared distance reaches,
and takes 18 in place of the count where the product of the two mask values is not positive (`binW`).
The word written at column `k` of the pair is word `128 * bin + k` of the table (`wordAt`).
-/
module

public import proofs.«01_k».proof.Proof.Body
public import Idealize.ShloMosaic.Lib.Pipeline.Value

@[expose] public section

noncomputable section

namespace Cert.Proof.Bin

open Cert.KernelIdeal Cert.KernelIdeal.Gen Cert.Proof.Body
open Idealize.ShloMosaic Idealize.SL.Sem

variable {F : FTy → Type} [FloatOps F] [Named F]

/-- Place `n` of a shape, every axis modulo its extent. -/
def at1 (s : Shape) (h : ∀ a, 0 < s.size a) (n : ℕ) : s.Idx := fun a => ⟨n % s.size a, Nat.mod_lt _ (h a)⟩

theorem pos_C : ∀ a, 0 < S3072.size a := by decide
theorem pos_M : ∀ a, 0 < S1024.size a := by decide
theorem pos_T : ∀ a, 0 < S2432.size a := by decide
theorem pos_16 : ∀ a, 0 < S16.size a := by decide

abbrev atC (n : ℕ) : S3072.Idx := at1 S3072 pos_C n
abbrev atM (n : ℕ) : S1024.Idx := at1 S1024 pos_M n
abbrev atT (n : ℕ) : S2432.Idx := at1 S2432 pos_T n
abbrev at16 (n : ℕ) : S16.Idx := at1 S16 pos_16 n

theorem at1_val (s : Shape) (h : ∀ a, 0 < s.size a) (n : ℕ) (a : Fin s.rank) (hn : n < s.size a) :
    (at1 s h n a).val = n := Nat.mod_eq_of_lt hn

/-- An index of a shape of one axis is the place of its coordinate. -/
theorem eq_at1 {N : ℕ} (h : ∀ a, 0 < (⟨1, ![N]⟩ : Shape).size a) (x : (⟨1, ![N]⟩ : Shape).Idx) (n : ℕ) (hx : (x 0).val = n) :
    x = at1 ⟨1, ![N]⟩ h n := by
  funext a
  obtain rfl : a = 0 := Subsingleton.elim _ _
  apply Fin.ext
  rw [at1_val _ _ _ _ (hx ▸ (x 0).isLt)]
  exact hx

/-- The seventeen thresholds. -/
def thrs : List (F .f32) :=
  [Named.named κ "thr1" 0x41992000#32, Named.named κ "thr2" 0x41E72000#32, Named.named κ "thr3" 0x42229000#32,
   Named.named κ "thr4" 0x42599000#32, Named.named κ "thr5" 0x428C4800#32, Named.named κ "thr6" 0x42AFC800#32,
   Named.named κ "thr7" 0x42D74800#32, Named.named κ "thr8" 0x43016400#32, Named.named κ "thr9" 0x43192400#32,
   Named.named κ "thr10" 0x4332E400#32, Named.named κ "thr11" 0x434EA400#32, Named.named κ "thr12" 0x436C6400#32,
   Named.named κ "thr13" 0x43861200#32, Named.named κ "thr14" 0x4396F200#32, Named.named κ "thr15" 0x43A8D200#32,
   Named.named κ "thr16" 0x43BBB200#32, Named.named κ "thr17" 0x43CF9200#32]

/-- How many of the thresholds in a list a number reaches. -/
def countW (l : List (F .f32)) (d : F .f32) : BitVec 32 :=
  l.foldl (fun acc t => IntOp.addi acc (Scalar.select (FloatOps.cmpf .oge d t) 1#32 0#32)) 0#32

/-- The squared distance of two points. -/
def distW (cx cy cz x y z : F .f32) : F .f32 :=
  FloatOps.addf (FloatOps.addf (FloatOps.mulf (FloatOps.subf x cx) (FloatOps.subf x cx))
    (FloatOps.mulf (FloatOps.subf y cy) (FloatOps.subf y cy))) (FloatOps.mulf (FloatOps.subf z cz) (FloatOps.subf z cz))

/-- The row of the table a pair takes. -/
def binW (cx cy cz cm x y z w : F .f32) : BitVec 32 :=
  Scalar.select (FloatOps.cmpf .ogt (FloatOps.mulf w cm) (Scalar.ofBits .f32 0x00000000#32))
    (countW thrs (distW cx cy cz x y z)) 18#32

set_option maxRecDepth 65536 in
/-- A lane of the vector of first table indices. -/
theorem baseVec_apply (cx cy cz cm : F .f32) (x y z w : Vec F S16 .f32) (l : S16.Idx) :
    baseVec (fun _ => cx) (fun _ => cy) (fun _ => cz) (fun _ => cm) x y z w l
      = binW cx cy cz cm (x l) (y l) (z l) (w l) * 128#32 := rfl

theorem countW_le (d : F .f32) : ∀ (l : List (F .f32)) (acc : BitVec 32), acc.toNat + l.length < 2 ^ 32 →
    (l.foldl (fun acc t => IntOp.addi acc (Scalar.select (FloatOps.cmpf .oge d t) 1#32 0#32)) acc).toNat
      ≤ acc.toNat + l.length
  | [], acc, _ => Nat.le_refl _
  | t :: l, acc, h => by
    rw [List.length_cons] at h ⊢
    rw [List.foldl_cons]
    have h1 : (IntOp.addi acc (Scalar.select (FloatOps.cmpf .oge d t) 1#32 0#32)).toNat ≤ acc.toNat + 1 := by
      unfold IntOp.addi Scalar.select
      split
      · rw [BitVec.toNat_add]; exact Nat.mod_le _ _
      · rw [BitVec.toNat_add]; exact (Nat.mod_le _ _).trans (by show acc.toNat + 0 ≤ _; omega)
    have h2 := countW_le d l _ (show (IntOp.addi acc (Scalar.select (FloatOps.cmpf .oge d t) 1#32 0#32)).toNat + l.length < 2 ^ 32 by omega)
    omega

/-- The row taken is one of the table's nineteen. -/
theorem binW_le (cx cy cz cm x y z w : F .f32) : (binW cx cy cz cm x y z w).toNat ≤ 18 := by
  unfold binW Scalar.select
  split
  · exact (countW_le _ thrs 0#32 (show 0 + 17 < 2 ^ 32 by decide)).trans (show 0 + 17 ≤ 18 by decide)
  · decide

/-- Column `k` of the pair whose row of the table is `b`. -/
def wordAt (T : S2432.Idx → F .f32) (b : BitVec 32) (k : ℕ) : F .f32 := T (atT (128 * b.toNat + k))

/-- The lane vectors count from `16 * c`. -/
theorem lanes_apply (c : Fin 8) (l : S16.Idx) : lanes c l = BitVec.ofNat 32 ((l 0).val + 16 * c.val) := by
  have h : ∀ (n : ℕ), n < 2 ^ 32 → BitVec.ofNat 32 ((l 0).val) + BitVec.ofNat 32 n = BitVec.ofNat 32 ((l 0).val + n) :=
    fun n _ => (BitVec.ofNat_add _ _).symm
  have hi : iota .scVector S16 32 [0] iota_S16_d0_w32_scVector l = BitVec.ofNat 32 (l 0).val := iota_single_apply _ _ _ _ _ _
  match c with
  | 0 => exact (congrArg (· + 0#32) hi).trans (h 0 (by decide))
  | 1 => exact (congrArg (· + 16#32) hi).trans (h 16 (by decide))
  | 2 => exact (congrArg (· + 32#32) hi).trans (h 32 (by decide))
  | 3 => exact (congrArg (· + 48#32) hi).trans (h 48 (by decide))
  | 4 => exact (congrArg (· + 64#32) hi).trans (h 64 (by decide))
  | 5 => exact (congrArg (· + 80#32) hi).trans (h 80 (by decide))
  | 6 => exact (congrArg (· + 96#32) hi).trans (h 96 (by decide))
  | 7 => exact (congrArg (· + 112#32) hi).trans (h 112 (by decide))

/-- Every lane of a spread vector is the lane spread. -/
theorem spread_apply (v : IVec S16 32) (j : Fin 16) (l : S16.Idx) : spread v j l = v (at16 j.val) := by
  show v _ = v _
  congr 1
  funext a
  obtain rfl : a = 0 := Subsingleton.elim _ _
  apply Fin.ext
  rw [at1_val _ _ _ _ (show j.val < S16.size 0 from j.isLt)]
  rfl

/-- The table index a lane gathers. -/
theorem index_toNat (b : BitVec 32) (hb : b.toNat ≤ 18) (n : ℕ) (hn : n < 128) :
    (b * 128#32 + BitVec.ofNat 32 n).toNat = 128 * b.toNat + n := by
  rw [BitVec.toNat_add, BitVec.toNat_mul, BitVec.toNat_ofNat]
  show (b.toNat * 128 % 2 ^ 32 + n % 2 ^ 32) % 2 ^ 32 = _
  omega

end Cert.Proof.Bin

end
-- ==== Proof.Setup.lean ====
/-
The names the proofs of the kernel share: the program as the launch theorem sees it, the algebra the
assertions live in, a tile's thread, and the tile's arrays and semaphores.
-/
module

public import proofs.«01_k».proof.Proof.Bin
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ### The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds beside the copies' counters. -/
abbrev UU : Type := URounds (GSem nD τ sig) ℕ × Counters

/-- The algebra of the assertions. -/
abbrev MM (F : FTy → Type) : Type := MT nD τ sig (HIx 1) (Elt F) ℕ UU ℕ

abbrev EH : Emb (URounds (GSem nD τ sig) ℕ) (MM F) := embL

/-! ### A tile -/

abbrev cV (i : grid0.Coords) : Fin τ.nSC := (i 0).castLE hcore0
abbrev jV (i : grid0.Coords) : Fin τ.nSub := (i 1).castLE hsub0

/-- The thread of the tile at grid coordinates `i`. -/
abbrev thr (d : Dev nD) (i : grid0.Coords) : Thread nD τ := V d (cV i) (jV i)

/-- The weakest precondition of a program of a tile. -/
abbrev twp (d : Dev nD) (i : grid0.Coords) {α : Type} (p : Body.TileP (F := F) i α) (Q : α → sProp (MM F)) : sProp (MM F) :=
  wp frame (wpE (defs₀ (F := F)) 𝒱₀ (thr d i) none) Set.univ p Q

/-- The arrays in the shared memory, as a tile addresses them. -/
abbrev csH : Memref sig .scVector .hbm S3072 .f32 := Memref.whole main_v5_scv
abbrev msH : Memref sig .scVector .hbm S1024 .f32 := Memref.whole main_v6_scv
abbrev tbH : Memref sig .scVector .hbm S2432 .f32 := Memref.whole main_v9_scv
abbrev outH : Memref sig .scVector .hbm S524288x128 .f32 := Memref.whole main_v10_scv
/-- A tile's own copies, and its two buffers. -/
abbrev csV : Memref sig .scVector .vmem S3072 .f32 := Memref.whole cc0_scratch0
abbrev msV : Memref sig .scVector .vmem S1024 .f32 := Memref.whole cc0_scratch1
abbrev tbV : Memref sig .scVector .vmem S2432 .f32 := Memref.whole cc0_scratch2
abbrev bufA : Memref sig .scVector .vmem S256x128 .f32 := Memref.whole cc0_scratch3
abbrev bufB : Memref sig .scVector .vmem S256x128 .f32 := Memref.whole cc0_scratch4

end Cert.Proof.Kern

end
-- ==== Proof.Row.lean ====
/-
One group of sixteen rows of a buffer.

The rules of the single steps (the gathers and the writes), then of a row, of a list of rows, and of a
group: a group leaves the rows written before as they were and its own sixteen at `wordAt` of the bins.
-/
module

public import proofs.«01_k».proof.Proof.Setup

@[expose] public section

noncomputable section

namespace Cert.Proof.Kern

open Cert.KernelIdeal Cert.KernelIdeal.Gen Cert.Proof.Body Cert.Proof.Bin
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable (d : Dev nD) (i : grid0.Coords)

/-- A read through the whole of a memref is a read through the memref. -/
theorem read_access_whole {sp : Space} {s : Shape} {e : EltTy} (m : Memref sig .scVector sp s e)
    (f : Buf (Elt F) ((m.access (.whole s)).loc (thr d i))) (x : s.Idx) :
    (m.access (.whole s)).read (Elt F) f x = m.view.read (Elt F) f x := by
  show _root_.cast _ (f (m.view.emb ((Rect.whole s).emb x))) = _root_.cast _ (f (m.view.emb x))
  rw [Rect.emb_whole_apply]

/-- A checked gather from an array of one axis, held at a share. -/
theorem gather_spec {N : ℕ} (h0 : ∀ a, 0 < (⟨1, ![N]⟩ : Shape).size a) (m : Memref sig .scVector .vmem ⟨1, ![N]⟩ .f32)
    (v : IVec S16 32) (P : Prop) (dec : Decidable P)
    (hP : P → ∀ a x, ((![v] : Fin 1 → IVec S16 32) a x).toNat < (⟨1, ![N]⟩ : Shape).size a) (hl : m.view.Loads)
    (hv : P) {q : PosShare TreeShare} (f : Buf (Elt F) (m.view.loc (thr d i))) (Q : Vec F S16 .f32 → sProp (MM F)) :
    (m.view.loc (thr d i) ↦{q} f)
      ⊢ iprop(((m.view.loc (thr d i) ↦{q} f) -∗ Q (fun l => m.view.read (Elt F) f (at1 ⟨1, ![N]⟩ h0 (v l).toNat)))
        -∗ twp d i (do
            let h ← Prog.lift (TpuEff.assume P dec)
            SparseCore.vectorLoadIdx m ![v] (hP h.down) hl) Q) := by
  unfold twp
  simp only [Prog.lift, Prog.bind_op, Prog.bind_ret]
  rw [wp_assume_of _ _ _ _ hv, ← bind_pure (SparseCore.vectorLoadIdx _ _ _ _)]
  iintro H HK
  iapply (SparseCore.wp_vectorLoadIdx 𝒱₀ (thr d i) none Set.univ (base := m) (S := Finset.univ) (q := q) (Finset.subset_univ _)) $$ H
  iintro H
  rw [wp_pure]
  imodintro
  have e : loadIdx ((m.access (.whole ⟨1, ![N]⟩)).read (Elt F) f) ![v] (hP hv)
      = fun l => m.view.read (Elt F) f (at1 ⟨1, ![N]⟩ h0 (v l).toNat) := by
    funext l
    show (m.access (.whole _)).read (Elt F) f _ = _
    rw [read_access_whole d i]
    congr 1
    exact eq_at1 _ _ _ rfl
  rw [e]
  iapply HK $$ H

/-- The gather of the table. -/
theorem gatherT_spec (m : Memref sig .scVector .vmem S2432 .f32) (v : IVec S16 32) (hv : ∀ l, (v l).toNat < 2432)
    {q : PosShare TreeShare} (f : Buf (Elt F) (m.view.loc (thr d i))) (Q : Vec F S16 .f32 → sProp (MM F)) :
    (m.view.loc (thr d i) ↦{q} f)
      ⊢ iprop(((m.view.loc (thr d i) ↦{q} f) -∗ Q (fun l => m.view.read (Elt F) f (atT (v l).toNat)))
        -∗ twp d i (gatherT i m v) Q) :=
  gather_spec d i pos_T m v (k0_chk5 v) (k0_chk5.dec v) (k0_idx5_inb v) (View.loads_vmem h_S2432)
    (fun a x => by obtain rfl : a = 0 := Subsingleton.elim _ _; exact hv x) f Q

/-- The gather of the coordinates. -/
theorem gatherC_spec (m : Memref sig .scVector .vmem S3072 .f32) (v : IVec S16 32) (hv : ∀ l, (v l).toNat < 3072)
    {q : PosShare TreeShare} (f : Buf (Elt F) (m.view.loc (thr d i))) (Q : Vec F S16 .f32 → sProp (MM F)) :
    (m.view.loc (thr d i) ↦{q} f)
      ⊢ iprop(((m.view.loc (thr d i) ↦{q} f) -∗ Q (fun l => m.view.read (Elt F) f (atC (v l).toNat)))
        -∗ twp d i (gatherC i m v) Q) :=
  gather_spec d i pos_C m v (k0_chk1 v) (k0_chk1.dec v) (k0_idx1_inb v) (View.loads_vmem h_S3072)
    (fun a x => by obtain rfl : a = 0 := Subsingleton.elim _ _; exact hv x) f Q

/-- The gather of the mask. -/
theorem gatherM_spec (m : Memref sig .scVector .vmem S1024 .f32) (v : IVec S16 32) (hv : ∀ l, (v l).toNat < 1024)
    {q : PosShare TreeShare} (f : Buf (Elt F) (m.view.loc (thr d i))) (Q : Vec F S16 .f32 → sProp (MM F)) :
    (m.view.loc (thr d i) ↦{q} f)
      ⊢ iprop(((m.view.loc (thr d i) ↦{q} f) -∗ Q (fun l => m.view.read (Elt F) f (atM (v l).toNat)))
        -∗ twp d i (gatherM i m v) Q) :=
  gather_spec d i pos_M m v (k0_chk4 v) (k0_chk4.dec v) (k0_idx4_inb v) (View.loads_vmem h_S1024)
    (fun a x => by obtain rfl : a = 0 := Subsingleton.elim _ _; exact hv x) f Q

/-- The piece of a buffer one write fills. -/
def piece (off : Fin 2 → ℕ) (inb : ∀ a, off a + S1x16.size a ≤ S256x128.size a) (x : Vec F S16 .f32) :
    View.Piece (Elt F) S256x128 .f32 :=
  ⟨Rect.unit (s := S256x128) off S1x16.size inb, shapeCast S1x16 x shapeCasts_S16_S1x16⟩

/-- One write, onto a buffer held at a list of writes. -/
theorem putAt_spec (buf : Memref sig .scVector .vmem S256x128 .f32) (off : Fin 2 → ℕ)
    (inb : ∀ a, off a + S1x16.size a ≤ S256x128.size a) (x : Vec F S16 .f32) (f : Buf (Elt F) (buf.view.loc (thr d i)))
    (L : List (View.Piece (Elt F) S256x128 .f32)) (Q : PUnit → sProp (MM F)) :
    (buf.view.loc (thr d i) ↦{fullShare} buf.view.writes (Elt F) f L)
      ⊢ iprop(((buf.view.loc (thr d i) ↦{fullShare} buf.view.writes (Elt F) f (piece off inb x :: L)) -∗ Q ⟨⟩)
        -∗ twp d i (putAt i buf off inb x) Q) := by
  unfold putAt twp piece
  simp only [Prog.lift, Prog.bind_op, Prog.bind_ret]
  iintro H HK
  iapply (wp_load 𝒱₀ (thr d i) none Set.univ (m := buf) (S := Finset.univ) (Finset.subset_univ _)) $$ H
  iintro H
  iapply (wp_store_writes 𝒱₀ (thr d i) none Set.univ (m := buf) (r := Rect.unit (s := S256x128) off S1x16.size inb)
    (w := shapeCast S1x16 x shapeCasts_S16_S1x16) (hx := View.stores_vmem_bits_univ h_S1x16 rfl) (hm := .inl rfl)
    (k := fun _ => .ret ⟨⟩) (S := Finset.univ) (f := f) (L := L) (Q := Q) (Finset.subset_univ _)) $$ H
  iintro H
  rw [wp_ret]
  imodintro
  iapply HK $$ H

/-- What one row gathers for its eighth `c`. -/
def rowVal (tbl : Memref sig .scVector .vmem S2432 .f32) (ft : Buf (Elt F) (tbl.view.loc (thr d i))) (tb : IVec S16 32)
    (c : Fin 8) : Vec F S16 .f32 :=
  fun l => tbl.view.read (Elt F) ft (atT (addi tb (lanes c) l).toNat)

/-- The pieces of one row, the last written first. -/
def rowPieces (tbl : Memref sig .scVector .vmem S2432 .f32) (ft : Buf (Elt F) (tbl.view.loc (thr d i)))
    (off : Fin 8 → Fin 2 → ℕ) (inb : ∀ c a, off c a + S1x16.size a ≤ S256x128.size a) (tb : IVec S16 32) :
    List (View.Piece (Elt F) S256x128 .f32) :=
  [7, 6, 5, 4, 3, 2, 1, 0].map fun c => piece (off c) (inb c) (rowVal d i tbl ft tb c)

/-- One row. -/
theorem rowProg_spec (buf : Memref sig .scVector .vmem S256x128 .f32) (tbl : Memref sig .scVector .vmem S2432 .f32)
    (off : Fin 8 → Fin 2 → ℕ) (inb : ∀ c a, off c a + S1x16.size a ≤ S256x128.size a) (tb : IVec S16 32)
    (hv : ∀ c l, (addi tb (lanes c) l).toNat < 2432)
    {q : PosShare TreeShare} (ft : Buf (Elt F) (tbl.view.loc (thr d i))) (f : Buf (Elt F) (buf.view.loc (thr d i)))
    (L : List (View.Piece (Elt F) S256x128 .f32)) (Q : PUnit → sProp (MM F)) :
    iprop((tbl.view.loc (thr d i) ↦{q} ft) ∗ (buf.view.loc (thr d i) ↦{fullShare} buf.view.writes (Elt F) f L))
      ⊢ iprop((((tbl.view.loc (thr d i) ↦{q} ft)
            ∗ (buf.view.loc (thr d i) ↦{fullShare} buf.view.writes (Elt F) f (rowPieces d i tbl ft off inb tb ++ L))) -∗ Q ⟨⟩)
        -∗ twp d i (rowProg i buf tbl off inb tb lanes) Q) := by
  unfold rowProg twp
  simp only [wp_bind]
  iintro ⟨Ht, Hb⟩ HK
  iapply (gatherT_spec d i tbl _ (hv 0) ft) $$ Ht; iintro Ht
  iapply (gatherT_spec d i tbl _ (hv 1) ft) $$ Ht; iintro Ht
  iapply (gatherT_spec d i tbl _ (hv 2) ft) $$ Ht; iintro Ht
  iapply (gatherT_spec d i tbl _ (hv 3) ft) $$ Ht; iintro Ht
  iapply (gatherT_spec d i tbl _ (hv 4) ft) $$ Ht; iintro Ht
  iapply (gatherT_spec d i tbl _ (hv 5) ft) $$ Ht; iintro Ht
  iapply (gatherT_spec d i tbl _ (hv 6) ft) $$ Ht; iintro Ht
  iapply (gatherT_spec d i tbl _ (hv 7) ft) $$ Ht; iintro Ht
  iapply (putAt_spec d i buf _ _ _ f _) $$ Hb; iintro Hb
  iapply (putAt_spec d i buf _ _ _ f _) $$ Hb; iintro Hb
  iapply (putAt_spec d i buf _ _ _ f _) $$ Hb; iintro Hb
  iapply (putAt_spec d i buf _ _ _ f _) $$ Hb; iintro Hb
  iapply (putAt_spec d i buf _ _ _ f _) $$ Hb; iintro Hb
  iapply (putAt_spec d i buf _ _ _ f _) $$ Hb; iintro Hb
  iapply (putAt_spec d i buf _ _ _ f _) $$ Hb; iintro Hb
  iapply (putAt_spec d i buf _ _ _ f _) $$ Hb; iintro Hb
  iapply HK
  isplitl [Ht]
  · iexact Ht
  · iexact Hb

/-- The pieces of a list of rows, the last row first. -/
def rowsPieces (tbl : Memref sig .scVector .vmem S2432 .f32) (ft : Buf (Elt F) (tbl.view.loc (thr d i)))
    (off : Fin 16 → Fin 8 → Fin 2 → ℕ) (inb : ∀ j c a, off j c a + S1x16.size a ≤ S256x128.size a) (tb : IVec S16 32) :
    List (Fin 16) → List (View.Piece (Elt F) S256x128 .f32)
  | [] => []
  | j :: js => rowsPieces tbl ft off inb tb js ++ rowPieces d i tbl ft (off j) (inb j) (spread tb j)

/-- A list of rows. -/
theorem rowsProg_spec (buf : Memref sig .scVector .vmem S256x128 .f32) (tbl : Memref sig .scVector .vmem S2432 .f32)
    (off : Fin 16 → Fin 8 → Fin 2 → ℕ) (inb : ∀ j c a, off j c a + S1x16.size a ≤ S256x128.size a) (tb : IVec S16 32)
    (hv : ∀ j c l, (addi (spread tb j) (lanes c) l).toNat < 2432)
    {q : PosShare TreeShare} (ft : Buf (Elt F) (tbl.view.loc (thr d i))) (f : Buf (Elt F) (buf.view.loc (thr d i))) :
    ∀ (js : List (Fin 16)) (L : List (View.Piece (Elt F) S256x128 .f32)) (Q : PUnit → sProp (MM F)),
    iprop((tbl.view.loc (thr d i) ↦{q} ft) ∗ (buf.view.loc (thr d i) ↦{fullShare} buf.view.writes (Elt F) f L))
      ⊢ iprop((((tbl.view.loc (thr d i) ↦{q} ft)
            ∗ (buf.view.loc (thr d i) ↦{fullShare} buf.view.writes (Elt F) f (rowsPieces d i tbl ft off inb tb js ++ L))) -∗ Q ⟨⟩)
        -∗ twp d i (rowsProg i buf tbl off inb tb lanes js) Q)
  | [], L, Q => by
    unfold rowsProg twp rowsPieces
    rw [wp_pure, List.nil_append]
    iintro H HK
    imodintro
    iapply HK $$ H
  | j :: js, L, Q => by
    unfold rowsProg twp rowsPieces
    rw [wp_bind, List.append_assoc]
    iintro H HK
    iapply (rowProg_spec d i buf tbl (off j) (inb j) (spread tb j) (hv j) ft f L) $$ H
    iintro H
    iapply (rowsProg_spec buf tbl off inb tb hv ft f js _ Q) $$ H
    iexact HK

/-- Every piece of a list of rows is row `j`, eighth `c`, for some `j` and `c`. -/
theorem mem_rowsPieces (tbl : Memref sig .scVector .vmem S2432 .f32) (ft : Buf (Elt F) (tbl.view.loc (thr d i)))
    (off : Fin 16 → Fin 8 → Fin 2 → ℕ) (inb : ∀ j c a, off j c a + S1x16.size a ≤ S256x128.size a) (tb : IVec S16 32)
    (p : View.Piece (Elt F) S256x128 .f32) : ∀ js : List (Fin 16),
    p ∈ rowsPieces d i tbl ft off inb tb js ↔ ∃ j ∈ js, ∃ c, p = piece (off j c) (inb j c) (rowVal d i tbl ft (spread tb j) c)
  | [] => by simp [rowsPieces]
  | j :: js => by
    unfold rowsPieces
    rw [List.mem_append, mem_rowsPieces tbl ft off inb tb p js]
    have hc : p ∈ rowPieces d i tbl ft (off j) (inb j) (spread tb j) ↔ ∃ c, p = piece (off j c) (inb j c) (rowVal d i tbl ft (spread tb j) c) := by
      unfold rowPieces
      rw [List.mem_map]
      constructor
      · rintro ⟨c, -, rfl⟩; exact ⟨c, rfl⟩
      · rintro ⟨c, rfl⟩; exact ⟨c, by revert c; decide, rfl⟩
    rw [hc]
    constructor
    · rintro (⟨j', hj, h⟩ | h)
      · exact ⟨j', List.mem_cons_of_mem _ hj, h⟩
      · exact ⟨j, List.mem_cons_self, h⟩
    · rintro ⟨j', hj, h⟩
      rcases List.mem_cons.mp hj with rfl | hj
      · exact .inr h
      · exact .inl ⟨j', hj, h⟩

end Cert.Proof.Kern

end
-- ==== Proof.Group.lean ====
/-
A group of sixteen rows leaves its rows at `wordAt` of the bins (`blockVal`), the rows before as they were.
-/
module

public import proofs.«01_k».proof.Proof.Row

@[expose] public section

noncomputable section

namespace Cert.Proof.Kern

open Cert.KernelIdeal Cert.KernelIdeal.Gen Cert.Proof.Body Cert.Proof.Bin
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable (d : Dev nD) (i : grid0.Coords)

/-- What a block holds at `y`: its first point's coordinates and mask are `cx cy cz cm`, its second points' begin at the
    places `X Y Z` of the coordinates `C` and at the place `W` of the mask `M`; `T` is the table. -/
def blockVal (C : S3072.Idx → F .f32) (M : S1024.Idx → F .f32) (T : S2432.Idx → F .f32) (cx cy cz cm : F .f32)
    (X Y Z W : ℕ) (y : S256x128.Idx) : F .f32 :=
  wordAt T (binW cx cy cz cm (C (atC (X + (y 0).val))) (C (atC (Y + (y 0).val))) (C (atC (Z + (y 0).val)))
    (M (atM (W + (y 0).val)))) (y 1).val

/-- Sixteen words read at a place of an array of one axis. -/
theorem read_lanes {N : ℕ} (h0 : ∀ a, 0 < (⟨1, ![N]⟩ : Shape).size a) (m : Memref sig .scVector .vmem ⟨1, ![N]⟩ .f32)
    (o : Fin 1 → ℕ) (inb : ∀ a, o a + S16.size a ≤ (⟨1, ![N]⟩ : Shape).size a) (n : ℕ) (ho : o = ![n])
    (f : Buf (Elt F) (m.view.loc (thr d i))) (l : S16.Idx) :
    (m.access (Rect.unit (s := ⟨1, ![N]⟩) o S16.size inb)).read (Elt F) f l
      = m.view.read (Elt F) f (at1 ⟨1, ![N]⟩ h0 (n + (l 0).val)) := by
  subst ho
  show m.view.read (Elt F) f ((Rect.unit (s := ⟨1, ![N]⟩) ![n] S16.size inb).emb l) = _
  congr 1
  refine eq_at1 _ _ _ ?_
  show n + 1 * (l 0).val = n + (l 0).val
  rw [Nat.one_mul]

/-- Row `j` of the buffer lies in the piece of eighth `c` exactly when its coordinates say so. -/
theorem mem_piece (o : Fin 2 → ℕ) (inb : ∀ a, o a + S1x16.size a ≤ S256x128.size a) (x : Vec F S16 .f32) (r k : ℕ)
    (ho : o = ![r, k]) (y : S256x128.Idx) (hr : (y 0).val = r) (hk : k ≤ (y 1).val) (hk' : (y 1).val < k + 16) :
    y ∈ (piece o inb x).1.set := by
  subst ho
  refine (piece _ inb x).1.mem_set.mpr fun a => ?_
  match a with
  | 0 => exact ⟨0, Nat.one_pos, by show (y 0).val = r + 1 * 0; omega⟩
  | 1 => exact ⟨(y 1).val - k, by show _ < 16; omega, by show (y 1).val = k + 1 * ((y 1).val - k); omega⟩

section
variable (cs : Memref sig .scVector .vmem S3072 .f32) (ms : Memref sig .scVector .vmem S1024 .f32)
  (tbl : Memref sig .scVector .vmem S2432 .f32) (buf : Memref sig .scVector .vmem S256x128 .f32)
  (fc : Buf (Elt F) (cs.view.loc (thr d i))) (fm : Buf (Elt F) (ms.view.loc (thr d i)))
  (ft : Buf (Elt F) (tbl.view.loc (thr d i)))

/-- The sixteen words of row `j`'s eighth `c`, when the row's base is `128 * b`. -/
theorem rowVal_apply (tbl : Memref sig .scVector .vmem S2432 .f32) (ft : Buf (Elt F) (tbl.view.loc (thr d i)))
    (v : IVec S16 32) (j : Fin 16) (c : Fin 8) (l : S16.Idx) {b : BitVec 32} (hb : b.toNat ≤ 18)
    (hv : v (at16 j.val) = b * 128#32) :
    rowVal d i tbl ft (spread v j) c l = wordAt (tbl.view.read (Elt F) ft) b (16 * c.val + (l 0).val) := by
  have hl : (l 0).val < 16 := (l 0).isLt
  have hc := c.isLt
  show tbl.view.read (Elt F) ft (atT (spread v j l + lanes c l).toNat) = tbl.view.read (Elt F) ft (atT _)
  rw [spread_apply, hv, lanes_apply, index_toNat _ hb _ (show (l 0).val + 16 * c.val < 128 by omega), Nat.add_comm (l 0).val]

/-- What the block holds, by the contents of the tile's copies. -/
abbrev blockOf (cx cy cz cm : F .f32) (X Y Z W : ℕ) : S256x128.Idx → F .f32 :=
  blockVal (cs.view.read (Elt F) fc) (ms.view.read (Elt F) fm) (tbl.view.read (Elt F) ft) cx cy cz cm X Y Z W

/-- The sixteen rows of group `t`, written over a buffer whose earlier rows are right, leave the rows up to `16 * (t + 1)` right. -/
theorem rows_right (f : Buf (Elt F) (buf.view.loc (thr d i))) (cx cy cz cm : F .f32) (x y z w : Vec F S16 .f32)
    (X Y Z W t : ℕ) (ht : t < 16)
    (hx : ∀ l, x l = cs.view.read (Elt F) fc (atC (X + 16 * t + (l 0).val)))
    (hy : ∀ l, y l = cs.view.read (Elt F) fc (atC (Y + 16 * t + (l 0).val)))
    (hz : ∀ l, z l = cs.view.read (Elt F) fc (atC (Z + 16 * t + (l 0).val)))
    (hw : ∀ l, w l = ms.view.read (Elt F) fm (atM (W + 16 * t + (l 0).val)))
    (off : Fin 16 → Fin 8 → Fin 2 → ℕ) (inb : ∀ j c a, off j c a + S1x16.size a ≤ S256x128.size a)
    (hoff : ∀ j c, off j c = ![16 * t + j.val, 16 * c.val])
    (hf : ∀ p : S256x128.Idx, (p 0).val < 16 * t →
      buf.view.read (Elt F) f p = blockOf d i cs ms tbl fc fm ft cx cy cz cm X Y Z W p)
    (js : List (Fin 16)) (hjs : ∀ j, j ∈ js) (p : S256x128.Idx) (hp : (p 0).val < 16 * (t + 1)) :
    buf.view.read (Elt F) (buf.view.writes (Elt F) f
        (rowsPieces d i tbl ft off inb (baseVec (fun _ => cx) (fun _ => cy) (fun _ => cz) (fun _ => cm) x y z w) js)) p
      = blockOf d i cs ms tbl fc fm ft cx cy cz cm X Y Z W p := by
  by_cases hc : ∃ q ∈ rowsPieces d i tbl ft off inb (baseVec (fun _ => cx) (fun _ => cy) (fun _ => cz) (fun _ => cm) x y z w) js, p ∈ q.1.set
  · refine View.read_writes_apply_of_pieces _ _ _ _ ?_ p hc
    intro q hq u
    obtain ⟨j, -, c, rfl⟩ := (mem_rowsPieces d i tbl ft off inb _ q js).mp hq
    have hj := j.isLt
    have hcl := c.isLt
    have hu0 : (u 0).val = 0 := by have := (u 0).isLt; exact Nat.lt_one_iff.mp this
    have hu1 : (u 1).val < 16 := (u 1).isLt
    have e0 : (((piece (off j c) (inb j c) (rowVal d i tbl ft (spread (baseVec (fun _ => cx) (fun _ => cy) (fun _ => cz) (fun _ => cm) x y z w) j) c)).1.emb u) 0).val
        = 16 * t + j.val := by
      show off j c 0 + 1 * (u 0).val = _
      have h := congrFun (hoff j c) 0
      rw [hu0]; exact h
    have e1 : (((piece (off j c) (inb j c) (rowVal d i tbl ft (spread (baseVec (fun _ => cx) (fun _ => cy) (fun _ => cz) (fun _ => cm) x y z w) j) c)).1.emb u) 1).val
        = 16 * c.val + (u 1).val := by
      show off j c 1 + 1 * (u 1).val = _
      have h := congrFun (hoff j c) 1
      rw [Nat.one_mul]; exact congrArg (· + (u 1).val) h
    have ev := rowVal_apply d i tbl ft (baseVec (fun _ => cx) (fun _ => cy) (fun _ => cz) (fun _ => cm) x y z w) j c
      (fun a => u a.succ) (binW_le ..) (baseVec_apply ..)
    refine (shapeCast_addUnit_apply ![16] (rowVal d i tbl ft _ c) _ u).trans (ev.trans ?_)
    unfold blockOf blockVal
    rw [e0, e1, hx, hy, hz, hw, at1_val _ _ _ _ (show j.val < S16.size 0 from hj), ← Nat.add_assoc X, ← Nat.add_assoc Y,
      ← Nat.add_assoc Z, ← Nat.add_assoc W]
    rfl
  · rw [View.read_writes_apply_of_forall_not_mem _ _ p _ fun q hq hm => hc ⟨q, hq, hm⟩]
    refine hf p ?_
    by_contra hlt
    refine hc ⟨_, (mem_rowsPieces d i tbl ft off inb _ _ js).mpr ⟨⟨(p 0).val - 16 * t, by omega⟩, hjs _, ⟨(p 1).val / 16, ?_⟩, rfl⟩, ?_⟩
    · have : (p 1).val < 128 := (p 1).isLt
      omega
    · exact mem_piece _ _ _ _ _ (hoff _ _) p (by show _ = 16 * t + ((p 0).val - 16 * t); omega)
        (by show 16 * ((p 1).val / 16) ≤ _; omega) (by show _ < 16 * ((p 1).val / 16) + 16; omega)

/-- A group. -/
theorem groupProg_spec (cx cy cz cm : F .f32) (X Y Z W t : ℕ) (ht : t < 16)
    (ox oy oz ow : Fin 1 → ℕ) (hx : ∀ a, ox a + S16.size a ≤ S3072.size a) (hy : ∀ a, oy a + S16.size a ≤ S3072.size a)
    (hz : ∀ a, oz a + S16.size a ≤ S3072.size a) (hw : ∀ a, ow a + S16.size a ≤ S1024.size a)
    (off : Fin 16 → Fin 8 → Fin 2 → ℕ) (inb : ∀ j c a, off j c a + S1x16.size a ≤ S256x128.size a)
    (ex : ox = ![X + 16 * t]) (ey : oy = ![Y + 16 * t]) (ez : oz = ![Z + 16 * t]) (ew : ow = ![W + 16 * t])
    (hoff : ∀ j c, off j c = ![16 * t + j.val, 16 * c.val])
    (f : Buf (Elt F) (buf.view.loc (thr d i)))
    (hf : ∀ p : S256x128.Idx, (p 0).val < 16 * t →
      buf.view.read (Elt F) f p = blockOf d i cs ms tbl fc fm ft cx cy cz cm X Y Z W p)
    {q1 q2 q3 : PosShare TreeShare} (Q : PUnit → sProp (MM F)) :
    iprop((cs.view.loc (thr d i) ↦{q1} fc) ∗ (ms.view.loc (thr d i) ↦{q2} fm) ∗ (tbl.view.loc (thr d i) ↦{q3} ft)
        ∗ (buf.view.loc (thr d i) ↦{fullShare} f))
      ⊢ iprop((((cs.view.loc (thr d i) ↦{q1} fc) ∗ (ms.view.loc (thr d i) ↦{q2} fm) ∗ (tbl.view.loc (thr d i) ↦{q3} ft)
            ∗ ∃ f', ⌜∀ p : S256x128.Idx, (p 0).val < 16 * (t + 1) →
                buf.view.read (Elt F) f' p = blockOf d i cs ms tbl fc fm ft cx cy cz cm X Y Z W p⌝
              ∗ (buf.view.loc (thr d i) ↦{fullShare} f')) -∗ Q ⟨⟩)
        -∗ twp d i (groupProg i cs ms tbl buf ox oy oz ow hx hy hz hw off inb (fun _ => cx) (fun _ => cy) (fun _ => cz) (fun _ => cm)) Q) := by
  unfold groupProg twp
  simp only [Prog.lift, Prog.bind_op, Prog.bind_ret]
  iintro ⟨Hc, Hm, Ht, Hb⟩ HK
  iapply (wp_load_rect 𝒱₀ (thr d i) none Set.univ (m := cs) (r := Rect.unit (s := S3072) ox S16.size hx) (S := Finset.univ) (Finset.subset_univ _)) $$ Hc
  iintro Hc
  iapply (wp_load_rect 𝒱₀ (thr d i) none Set.univ (m := cs) (r := Rect.unit (s := S3072) oy S16.size hy) (S := Finset.univ) (Finset.subset_univ _)) $$ Hc
  iintro Hc
  iapply (wp_load_rect 𝒱₀ (thr d i) none Set.univ (m := cs) (r := Rect.unit (s := S3072) oz S16.size hz) (S := Finset.univ) (Finset.subset_univ _)) $$ Hc
  iintro Hc
  iapply (wp_load_rect 𝒱₀ (thr d i) none Set.univ (m := ms) (r := Rect.unit (s := S1024) ow S16.size hw) (S := Finset.univ) (Finset.subset_univ _)) $$ Hm
  iintro Hm
  have hv : ∀ (x y z w : Vec F S16 .f32) (j : Fin 16) (c : Fin 8) (l : S16.Idx),
      (addi (spread (baseVec (fun _ => cx) (fun _ => cy) (fun _ => cz) (fun _ => cm) x y z w) j) (lanes c) l).toNat < 2432 := by
    intro x y z w j c l
    have hl : (l 0).val < 16 := (l 0).isLt
    have hc := c.isLt
    show (spread _ j l + lanes c l).toNat < 2432
    rw [spread_apply, baseVec_apply, lanes_apply, index_toNat _ (binW_le ..) _ (by omega)]
    have := binW_le cx cy cz cm (x (at16 j.val)) (y (at16 j.val)) (z (at16 j.val)) (w (at16 j.val))
    omega
  iapply (rowsProg_spec d i buf tbl off inb _ (hv _ _ _ _) ft f _ [] Q) $$ [Ht Hb]
  · isplitl [Ht]
    · iexact Ht
    · iexact Hb
  iintro ⟨Ht, Hb⟩
  iapply HK
  isplitl [Hc]; · iexact Hc
  isplitl [Hm]; · iexact Hm
  isplitl [Ht]; · iexact Ht
  iexists _
  isplitr [Hb]
  rotate_left
  · iexact Hb
  · ipureintro
    intro p hp
    rw [List.append_nil]
    exact rows_right d i cs ms tbl buf fc fm ft f cx cy cz cm _ _ _ _ X Y Z W t ht
      (read_lanes d i pos_C cs ox hx _ ex fc) (read_lanes d i pos_C cs oy hy _ ey fc) (read_lanes d i pos_C cs oz hz _ ez fc)
      (read_lanes d i pos_M ms ow hw _ ew fm) off inb hoff hf _ (by decide) p hp
end

end Cert.Proof.Kern

end
-- ==== Proof.Off.lean ====
/-
Where a tile reads and writes: the closed forms of the offsets that depend on the tile and on the trip.
-/
module

public import proofs.«01_k».proof.Proof.Setup

@[expose] public section

noncomputable section

namespace Cert.Proof.Kern

open Cert.KernelIdeal Cert.KernelIdeal.Gen Cert.Proof.Body
open Idealize.ShloMosaic

/-- The row of the distance table a tile works on in a trip. -/
def rowN (i : grid0.Coords) (t : ℕ) : ℕ := (2 * (i 1).val + (i 0).val) * 32 + t
/-- The batch of the row, and the row in its batch. -/
abbrev batchN (i : grid0.Coords) (t : ℕ) : ℕ := rowN i t / 512
abbrev inN (i : grid0.Coords) (t : ℕ) : ℕ := rowN i t % 512

theorem rowN_lt (i : grid0.Coords) (t : ℕ) (ht : t < 32) : rowN i t < 1024 := by
  have h0 : (i 0).val < 2 := (i 0).isLt
  have h1 : (i 1).val < 16 := (i 1).isLt
  unfold rowN
  omega

/-- The row as the program computes it. -/
theorem rowW_eq (p : BitVec 32) (hp : p = 0#32 ∨ p = 1#32) : ∀ (i : grid0.Coords) (t : Fin k0_t1_loop.trips),
    rowW (tileW i) (tripW t) p = BitVec.ofNat 32 (rowN i t.val) := by
  rcases hp with rfl | rfl
  · decide +kernel
  · decide +kernel

/-- The column a group starts at, as the program computes it. -/
def colW (p : BitVec 32) (t : Fin k0_t1_loop.trips) (g : Fin k0_t2_loop.trips) : BitVec 32 :=
  Scalar.addi (Scalar.muli (flMod (blockW (tripW t) p) 2#32) 256#32)
    (Scalar.muli (Scalar.addi 0#32 (Scalar.muli (Scf.iv 0#32 1#32 g) 1#32)) 16#32)

theorem colW_zero : ∀ (t : Fin k0_t1_loop.trips) (g : Fin k0_t2_loop.trips), colW 0#32 t g = BitVec.ofNat 32 (16 * g.val) := by
  decide +kernel
theorem colW_one : ∀ (t : Fin k0_t1_loop.trips) (g : Fin k0_t2_loop.trips),
    colW 1#32 t g = BitVec.ofNat 32 (256 + 16 * g.val) := by decide +kernel

/-- The starts of the coordinates and of the mask of a row's batch, and the row in its batch. -/
theorem baseX_eq : ∀ r : Fin 1024, baseX (BitVec.ofNat 32 r.val) = BitVec.ofNat 32 (r.val / 512 * 1536) := by decide +kernel
theorem baseM_eq : ∀ r : Fin 1024, baseM (BitVec.ofNat 32 r.val) = BitVec.ofNat 32 (r.val / 512 * 512) := by decide +kernel
theorem inW_eq : ∀ r : Fin 1024, flMod (BitVec.ofNat 32 r.val) 512#32 = BitVec.ofNat 32 (r.val % 512) := by decide +kernel

theorem ofNat_add (a b : ℕ) : Scalar.addi (BitVec.ofNat 32 a) (BitVec.ofNat 32 b) = BitVec.ofNat 32 (a + b) :=
  (BitVec.ofNat_add a b).symm

theorem baseY_eq (r : Fin 1024) : baseY (BitVec.ofNat 32 r.val) = BitVec.ofNat 32 (r.val / 512 * 1536 + 512) := by
  unfold baseY; rw [baseX_eq r]; exact ofNat_add _ _
theorem baseZ_eq (r : Fin 1024) : baseZ (BitVec.ofNat 32 r.val) = BitVec.ofNat 32 (r.val / 512 * 1536 + 512 + 512) := by
  unfold baseZ; rw [baseY_eq r]; exact ofNat_add _ _

/-- The sum of two words that are small numbers. -/
theorem sum_toNat {b c : BitVec 32} {x y : ℕ} (hb : b = BitVec.ofNat 32 x) (hc : c = BitVec.ofNat 32 y) (hx : x < 2 ^ 30)
    (hy : y < 2 ^ 30) : (Scalar.addi b c).toNat = x + y := by
  rw [hb, hc, ofNat_add, BitVec.toNat_ofNat]
  exact Nat.mod_eq_of_lt (by omega)

/-- A place: a start and a column. -/
theorem placed {b c : BitVec 32} {x y : ℕ} (hb : b = BitVec.ofNat 32 x) (hc : c = BitVec.ofNat 32 y) (hx : x < 2 ^ 30)
    (hy : y < 2 ^ 30) : (![(Scalar.indexCast (Scalar.addi b c) : Index).toNat] : Fin 1 → ℕ) = ![x + y] :=
  congrArg (fun n => ![n]) (sum_toNat hb hc hx hy)

section
variable (i : grid0.Coords) (t : Fin k0_t1_loop.trips) (g : Fin k0_t2_loop.trips)

theorem trip_lt : t.val < 32 := Nat.lt_of_lt_of_le t.isLt k0_t1_abs.2.1
theorem group_lt : g.val < 16 := Nat.lt_of_lt_of_le g.isLt k0_t2_abs.2.1
theorem row_lt : rowN i t.val < 1024 := rowN_lt i _ (trip_lt t)
theorem batch_lt : batchN i t.val < 2 := by have := row_lt i t; unfold batchN; omega
theorem in_lt : inN i t.val < 512 := Nat.mod_lt _ (by decide)

/-- The words of a row: the starts of its batch's coordinates and mask, and its place in the batch. -/
theorem base_eq (p : BitVec 32) (hp : p = 0#32 ∨ p = 1#32) :
    baseX (rowW (tileW i) (tripW t) p) = BitVec.ofNat 32 (batchN i t.val * 1536)
    ∧ baseY (rowW (tileW i) (tripW t) p) = BitVec.ofNat 32 (batchN i t.val * 1536 + 512)
    ∧ baseZ (rowW (tileW i) (tripW t) p) = BitVec.ofNat 32 (batchN i t.val * 1536 + 512 + 512)
    ∧ baseM (rowW (tileW i) (tripW t) p) = BitVec.ofNat 32 (batchN i t.val * 512)
    ∧ flMod (rowW (tileW i) (tripW t) p) 512#32 = BitVec.ofNat 32 (inN i t.val) := by
  rw [rowW_eq p hp]
  exact ⟨baseX_eq ⟨_, row_lt i t⟩, baseY_eq ⟨_, row_lt i t⟩, baseZ_eq ⟨_, row_lt i t⟩, baseM_eq ⟨_, row_lt i t⟩,
    inW_eq ⟨_, row_lt i t⟩⟩

theorem offsA_eq :
    k0_off1 i t g = ![batchN i t.val * 1536 + 16 * g.val] ∧ k0_off2 i t g = ![batchN i t.val * 1536 + 512 + 16 * g.val]
    ∧ k0_off3 i t g = ![batchN i t.val * 1536 + 512 + 512 + 16 * g.val] ∧ k0_off4 i t g = ![batchN i t.val * 512 + 16 * g.val] := by
  have hb := batch_lt i t
  have hg := group_lt g
  obtain ⟨ex, ey, ez, em, -⟩ := base_eq i t 0#32 (.inl rfl)
  have hc := colW_zero t g
  exact ⟨placed ex hc (by omega) (by omega), placed ey hc (by omega) (by omega), placed ez hc (by omega) (by omega),
    placed em hc (by omega) (by omega)⟩

theorem offsB_eq :
    k0_off134 i t g = ![batchN i t.val * 1536 + (256 + 16 * g.val)]
    ∧ k0_off135 i t g = ![batchN i t.val * 1536 + 512 + (256 + 16 * g.val)]
    ∧ k0_off136 i t g = ![batchN i t.val * 1536 + 512 + 512 + (256 + 16 * g.val)]
    ∧ k0_off137 i t g = ![batchN i t.val * 512 + (256 + 16 * g.val)] := by
  have hb := batch_lt i t
  have hg := group_lt g
  obtain ⟨ex, ey, ez, em, -⟩ := base_eq i t 1#32 (.inr rfl)
  have hc := colW_one t g
  exact ⟨placed ex hc (by omega) (by omega), placed ey hc (by omega) (by omega), placed ez hc (by omega) (by omega),
    placed em hc (by omega) (by omega)⟩

/-- The first row of the output a row of the distance table fills. -/
theorem outW_eq : ∀ r : Fin 1024, Scalar.muli (BitVec.ofNat 32 r.val) 512#32 = BitVec.ofNat 32 (r.val * 512) := by decide +kernel

theorem halfW_eq : ∀ t : Fin k0_t1_loop.trips,
    Scalar.muli (flMod (blockW (tripW t) 0#32) 2#32) 256#32 = BitVec.ofNat 32 0
    ∧ Scalar.muli (flMod (blockW (tripW t) 1#32) 2#32) 256#32 = BitVec.ofNat 32 256 := by decide +kernel

theorem mulRow_eq (p : BitVec 32) (hp : p = 0#32 ∨ p = 1#32) :
    Scalar.muli (rowW (tileW i) (tripW t) p) 512#32 = BitVec.ofNat 32 (rowN i t.val * 512) := by
  rw [rowW_eq p hp]; exact outW_eq ⟨_, row_lt i t⟩

theorem off133_eq : k0_off133 i t = ![rowN i t.val * 512 + 0, 0] := by
  have h := row_lt i t
  exact congrArg (fun n => ![n, 0]) (sum_toNat (mulRow_eq i t 0#32 (.inl rfl)) (halfW_eq t).1 (by omega) (by omega))
theorem off266_eq : k0_off266 i t = ![rowN i t.val * 512 + 256, 0] := by
  have h := row_lt i t
  exact congrArg (fun n => ![n, 0]) (sum_toNat (mulRow_eq i t 1#32 (.inr rfl)) (halfW_eq t).2 (by omega) (by omega))

end

end Cert.Proof.Kern

end
-- ==== Proof.Block.lean ====
/-
A block: four gathers for the row, sixteen groups, and the copy of the buffer to its rows of the output.
-/
module

public import proofs.«01_k».proof.Proof.Group
public import proofs.«01_k».proof.Proof.Off

@[expose] public section

noncomputable section

namespace Cert.Proof.Kern

open Cert.KernelIdeal Cert.KernelIdeal.Gen Cert.Proof.Body Cert.Proof.Bin
open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable (d : Dev nD) (i : grid0.Coords)

/-- A view written whole with what it reads of `g` holds `g`. -/
theorem landed {c : Thread nD τ} {sp : Space} {s : Shape} {e : EltTy} (v : View sig c.2.kind sp s e) (q : PosShare TreeShare)
    (fd g : Buf (Elt F) (v.loc c)) (X : s.Idx → Elt F e) (h : ∀ y, X y = v.read (Elt F) g y) :
    (v.loc c ↦[v.set]{q} v.write (Elt F) fd X Finset.univ : sProp (MM F)) = v.loc c ↦[v.set]{q} g :=
  pointsTo_congr fun j hj => by
    obtain ⟨x, -, rfl⟩ := Finset.mem_map.mp hj
    rw [View.write_emb_of_mem _ _ (Finset.mem_univ _), h, View.read_apply]
    simp only [cast_cast, cast_eq]

/-- A gather of one place of the coordinates. -/
theorem gatherC_at (m : Memref sig .scVector .vmem S3072 .f32) (w : BitVec 32) (n : ℕ) (hw : w.toNat = n) (hn : n < 3072)
    {q : PosShare TreeShare} (f : Buf (Elt F) (m.view.loc (thr d i))) (Q : Vec F S16 .f32 → sProp (MM F)) :
    (m.view.loc (thr d i) ↦{q} f)
      ⊢ iprop(((m.view.loc (thr d i) ↦{q} f) -∗ Q (fun _ => m.view.read (Elt F) f (atC n)))
        -∗ twp d i (gatherC i m (broadcast S16 w)) Q) := by
  subst hw
  exact gatherC_spec d i m (broadcast S16 w) (fun _ => hn) f Q

/-- A gather of one place of the mask. -/
theorem gatherM_at (m : Memref sig .scVector .vmem S1024 .f32) (w : BitVec 32) (n : ℕ) (hw : w.toNat = n) (hn : n < 1024)
    {q : PosShare TreeShare} (f : Buf (Elt F) (m.view.loc (thr d i))) (Q : Vec F S16 .f32 → sProp (MM F)) :
    (m.view.loc (thr d i) ↦{q} f)
      ⊢ iprop(((m.view.loc (thr d i) ↦{q} f) -∗ Q (fun _ => m.view.read (Elt F) f (atM n)))
        -∗ twp d i (gatherM i m (broadcast S16 w)) Q) := by
  subst hw
  exact gatherM_spec d i m (broadcast S16 w) (fun _ => hn) f Q

theorem trips2 : k0_t2_loop.trips = 16 := by decide +kernel
theorem trips1 : k0_t1_loop.trips = 32 := by decide +kernel

/-- The rows of the output from the places `oo` on. -/
abbrev outS (oo : Fin 2 → ℕ) (ho : ∀ a, oo a + S256x128.size a ≤ S524288x128.size a) : Memref sig .scVector .hbm S256x128 .f32 :=
  outH.slice (Rect.unit (s := S524288x128) oo S256x128.size ho) (fun _ => rfl)

/-- The credit of a block's copy. -/
abbrev NB : ℕ := (outS ![0, 0] inb_S524288x128_S256x128_0_0).view.dmaCredit

section
variable (cs : Memref sig .scVector .vmem S3072 .f32) (ms : Memref sig .scVector .vmem S1024 .f32)
  (tbl : Memref sig .scVector .vmem S2432 .f32) (buf : Memref sig .scVector .vmem S256x128 .f32) (hbuf : buf.IsWhole)
  (fc : Buf (Elt F) (cs.view.loc (thr d i))) (fm : Buf (Elt F) (ms.view.loc (thr d i)))
  (ft : Buf (Elt F) (tbl.view.loc (thr d i)))

/-- What a block's buffer ends at: the row is the `n`-th of the batch `b`, the columns begin at `c0`. -/
abbrev blockAt (b n c0 : ℕ) : S256x128.Idx → F .f32 :=
  blockOf d i cs ms tbl fc fm ft (cs.view.read (Elt F) fc (atC (b * 1536 + n))) (cs.view.read (Elt F) fc (atC (b * 1536 + 512 + n)))
    (cs.view.read (Elt F) fc (atC (b * 1536 + 512 + 512 + n))) (ms.view.read (Elt F) fm (atM (b * 512 + n)))
    (b * 1536 + c0) (b * 1536 + 512 + c0) (b * 1536 + 512 + 512 + c0) (b * 512 + c0)

/-- What a block's copy delivers: its rows of the output at `OUT`, and the buffer. -/
abbrev delivered (oo : Fin 2 → ℕ) (ho : ∀ a, oo a + S256x128.size a ≤ S524288x128.size a)
    (OUT : Buf (Elt F) (outH.view.loc (thr d i))) : sProp (MM F) :=
  iprop(((outS oo ho).view.loc (thr d i) ↦[(outS oo ho).view.set]{fullShare} OUT)
    ∗ ∃ f', (buf.view.loc (thr d i) ↦{fullShare} f'))

set_option maxHeartbeats 1000000 in
/-- A block. -/
theorem blockProg_spec (hset : buf.view.set = Finset.univ) (sem : DmaSems sig S_) (r : BitVec 32) (b n c0 : ℕ) (hb : b < 2)
    (hn : n < 512)
    (hbase : baseX r = BitVec.ofNat 32 (b * 1536) ∧ baseY r = BitVec.ofNat 32 (b * 1536 + 512)
      ∧ baseZ r = BitVec.ofNat 32 (b * 1536 + 512 + 512) ∧ baseM r = BitVec.ofNat 32 (b * 512)
      ∧ flMod r 512#32 = BitVec.ofNat 32 n)
    (ox oy oz ow : Fin k0_t2_loop.trips → Fin 1 → ℕ)
    (hx : ∀ t a, ox t a + S16.size a ≤ S3072.size a) (hy : ∀ t a, oy t a + S16.size a ≤ S3072.size a)
    (hz : ∀ t a, oz t a + S16.size a ≤ S3072.size a) (hw : ∀ t a, ow t a + S16.size a ≤ S1024.size a)
    (off : Fin k0_t2_loop.trips → Fin 16 → Fin 8 → Fin 2 → ℕ)
    (inb : ∀ t j c a, off t j c a + S1x16.size a ≤ S256x128.size a)
    (oo : Fin 2 → ℕ) (ho : ∀ a, oo a + S256x128.size a ≤ S524288x128.size a)
    (eo : ∀ g, ox g = ![b * 1536 + c0 + 16 * g.val] ∧ oy g = ![b * 1536 + 512 + c0 + 16 * g.val]
      ∧ oz g = ![b * 1536 + 512 + 512 + c0 + 16 * g.val] ∧ ow g = ![b * 512 + c0 + 16 * g.val])
    (hoff : ∀ g j c, off g j c = ![16 * g.val + j.val, 16 * c.val])
    (f : Buf (Elt F) (buf.view.loc (thr d i))) (OUT fd : Buf (Elt F) (outH.view.loc (thr d i)))
    (hG : ∀ y, blockAt d i cs ms tbl fc fm ft b n c0 y = (outS oo ho).view.read (Elt F) OUT y)
    {q1 q2 q3 : PosShare TreeShare} (Q : PUnit → sProp (MM F)) :
    iprop((cs.view.loc (thr d i) ↦{q1} fc) ∗ (ms.view.loc (thr d i) ↦{q2} fm) ∗ (tbl.view.loc (thr d i) ↦{q3} ft)
        ∗ (buf.view.loc (thr d i) ↦{fullShare} f)
        ∗ ((outS oo ho).view.loc (thr d i) ↦[(outS oo ho).view.set]{fullShare} fd)
        ∗ semVal (thr d i, .dma sem.sem) 0)
      ⊢ iprop((((cs.view.loc (thr d i) ↦{q1} fc) ∗ (ms.view.loc (thr d i) ↦{q2} fm) ∗ (tbl.view.loc (thr d i) ↦{q3} ft)
            ∗ Flight countersEmb (thr d i) (.dma sem.sem) (none : HIx 1) NB (delivered d i buf oo ho OUT)) -∗ Q ⟨⟩)
        -∗ twp d i (blockProg i outH cs ms tbl buf hbuf sem r ox oy oz ow hx hy hz hw off inb oo ho) Q) := by
  obtain ⟨ex, ey, ez, em, en⟩ := hbase
  unfold blockProg twp
  iintro ⟨Hc, Hm, Ht, Hb, Ho, Hv⟩ HK
  rw [wp_bind]
  iapply (gatherC_at d i cs _ _ (sum_toNat ex en (by omega) (by omega)) (by omega) fc _) $$ Hc
  iintro Hc
  rw [wp_bind]
  iapply (gatherC_at d i cs _ _ (sum_toNat ey en (by omega) (by omega)) (by omega) fc _) $$ Hc
  iintro Hc
  rw [wp_bind]
  iapply (gatherC_at d i cs _ _ (sum_toNat ez en (by omega) (by omega)) (by omega) fc _) $$ Hc
  iintro Hc
  rw [wp_bind]
  iapply (gatherM_at d i ms _ _ (sum_toNat em en (by omega) (by omega)) (by omega) fm _) $$ Hm
  iintro Hm
  iapply (Scf.wp_for_bind frame (wpE (defs₀ (F := F)) 𝒱₀ (thr d i) none) Set.univ k0_t2_loop.lb k0_t2_loop.ub k0_t2_loop.st k0_t2_ok
    (PUnit.unit : Unit) _
    (fun k _ => iprop((cs.view.loc (thr d i) ↦{q1} fc) ∗ (ms.view.loc (thr d i) ↦{q2} fm) ∗ (tbl.view.loc (thr d i) ↦{q3} ft)
        ∗ ∃ f', ⌜∀ p : S256x128.Idx, (p 0).val < 16 * k →
              buf.view.read (Elt F) f' p = blockAt d i cs ms tbl fc fm ft b n c0 p⌝
            ∗ (buf.view.loc (thr d i) ↦{fullShare} f'))) ?hbody) $$ [Hc Hm Ht Hb]
  case hbody =>
    intro g acc
    iintro ⟨Hc, Hm, Ht, %f', %hf', Hb⟩
    iapply (groupProg_spec d i cs ms tbl buf fc fm ft _ _ _ _ (b * 1536 + c0) (b * 1536 + 512 + c0) (b * 1536 + 512 + 512 + c0)
      (b * 512 + c0) g.val (group_lt g) _ _ _ _ (hx g) (hy g) (hz g) (hw g) (off g) (inb g) (eo g).1 (eo g).2.1 (eo g).2.2.1
      (eo g).2.2.2 (hoff g) f' hf' _) $$ [Hc Hm Ht Hb]
    · isplitl [Hc]; · iexact Hc
      isplitl [Hm]; · iexact Hm
      isplitl [Ht]; · iexact Ht
      iexact Hb
    iintro H
    iexact H
  · isplitl [Hc]; · iexact Hc
    isplitl [Hm]; · iexact Hm
    isplitl [Ht]; · iexact Ht
    iexists f
    isplitr [Hb]
    · ipureintro
      intro p hp
      exact absurd hp (by omega)
    · iexact Hb
  iintro %acc ⟨Hc, Hm, Ht, %f', %hf', Hb⟩
  simp only [Prog.lift]
  iapply (Transfers.wp_dmaLocal countersEmb 𝒱₀ (thr d i) none (src := buf) (dst := outS oo ho) (q := fullShare) (fs := f')
    (fd := fd) (none : HIx 1) NB rfl (View.dmaCredit_pos _ (by decide)) (subset_refl _)) $$ [Hb Ho Hv]
  · isplitl [Hb]
    · rw [hset]; iexact Hb
    isplitl [Ho]; · iexact Ho
    iexact Hv
  iintro Hf
  rw [wp_ret]
  imodintro
  iapply HK
  isplitl [Hc]; · iexact Hc
  isplitl [Hm]; · iexact Hm
  isplitl [Ht]; · iexact Ht
  iapply (Flight_mono countersEmb (thr d i) ?hm) $$ Hf
  case hm =>
    rw [landed (c := thr d i) (outS oo ho).view fullShare fd OUT _ (fun y => ?hy), hset]
    case hy =>
      show buf.view.read (Elt F) f' y = _
      rw [hf' y (by have : (y 0).val < 256 := (y 0).isLt; have h2 := trips2; show _ < 16 * k0_t2_loop.trips; omega)]
      exact hG y
    iintro ⟨Ho, Hb⟩
    isplitl [Ho]; · iexact Ho
    iexists f'
    iexact Hb

end

end Cert.Proof.Kern

end
-- ==== Proof.BodyEq.lean ====
/-
The bodies of the kernel's loops are the programs of `Body`.

-/
module

public import proofs.«01_k».proof.KernelIdeal
public import proofs.«01_k».proof.Proof.Gen.KernelIdeal
public import proofs.«01_k».proof.Proof.Gen.KernelIdeal.Skeleton
public import proofs.«01_k».proof.Proof.Body

@[expose] public section

noncomputable section

namespace Cert.Proof.Body

open Cert.KernelIdeal Cert.KernelIdeal.Gen
open Idealize.ShloMosaic Idealize.SL.Sem

variable {F : FTy → Type} [FloatOps F] [Named F]

section
variable (i : grid0.Coords) (arg2 : Memref sig .scVector .hbm S3072 .f32) (harg2 : arg2.IsWhole)
  (arg3 : Memref sig .scVector .hbm S1024 .f32) (harg3 : arg3.IsWhole)
  (arg4 : Memref sig .scVector .hbm S2432 .f32) (harg4 : arg4.IsWhole)
  (arg5 : Memref sig .scVector .hbm S524288x128 .f32) (harg5 : arg5.IsWhole)
  (arg6 : Memref sig .scVector .vmem S3072 .f32) (harg6 : arg6.IsWhole)
  (arg7 : Memref sig .scVector .vmem S1024 .f32) (harg7 : arg7.IsWhole)
  (arg8 : Memref sig .scVector .vmem S2432 .f32) (harg8 : arg8.IsWhole)
  (arg9 : Memref sig .scVector .vmem S256x128 .f32) (harg9 : arg9.IsWhole)
  (arg10 : Memref sig .scVector .vmem S256x128 .f32) (harg10 : arg10.IsWhole)
  (arg11 arg12 v28_r0 v28_r1 v28_r2 : DmaSems sig S_)

set_option maxRecDepth 65536 in
set_option maxHeartbeats 4000000 in
/-- The first inner loop's body is a group. -/
theorem t2_eq (v2 : BitVec 32) (t1 : Fin k0_t1_loop.trips) (v29 v52 v79 v90 v92 v93 v94 v95 : BitVec 32)
    (cx cy cz cm : Vec F S16 .f32) (t : Fin k0_t2_loop.trips) :
    k0_t2_body i arg2 harg2 arg3 harg3 arg4 harg4 arg5 harg5 arg6 harg6 arg7 harg7 arg8 harg8 arg9 harg9 arg10 harg10
      arg11 arg12 v28_r0 v28_r1 v28_r2 v2 k0_pay49 k0_pay50 k0_pay51 k0_pay52 k0_pay53 k0_pay54 k0_pay55 k0_pay56 k0_pay57
      k0_pay58 k0_pay59 t1 v29 v52 v79 v90 v92 v93 v94 v95 cx cy cz cm t ⟨⟩
    = groupProg i arg6 arg7 arg8 arg9 (k0_off1 i t1 t) (k0_off2 i t1 t) (k0_off3 i t1 t) (k0_off4 i t1 t)
        (k0_off1_inb i t1 t) (k0_off2_inb i t1 t) (k0_off3_inb i t1 t) (k0_off4_inb i t1 t)
        (offA t) (offA_inb t) cx cy cz cm := rfl

set_option maxRecDepth 65536 in
set_option maxHeartbeats 4000000 in
/-- The second inner loop's body is a group. -/
theorem t3_eq (t1 : Fin k0_t1_loop.trips) (v173 v175 v176 v177 v178 : BitVec 32)
    (cx cy cz cm : Vec F S16 .f32) (t : Fin k0_t3_loop.trips) :
    k0_t3_body i arg2 harg2 arg3 harg3 arg4 harg4 arg5 harg5 arg6 harg6 arg7 harg7 arg8 harg8 arg9 harg9 arg10 harg10
      arg11 arg12 v28_r0 v28_r1 v28_r2 t1 v173 v175 v176 v177 v178 cx cy cz cm t ⟨⟩
    = groupProg i arg6 arg7 arg8 arg10 (k0_off134 i t1 t) (k0_off135 i t1 t) (k0_off136 i t1 t) (k0_off137 i t1 t)
        (k0_off134_inb i t1 t) (k0_off135_inb i t1 t) (k0_off136_inb i t1 t) (k0_off137_inb i t1 t)
        (offB t) (offB_inb t) cx cy cz cm := rfl
end

end Cert.Proof.Body

end
-- ==== Proof.TripEq.lean ====
/-
The bodies of the kernel's loops are the programs of `Body`.

-/
module

public import proofs.«01_k».proof.KernelIdeal
public import proofs.«01_k».proof.Proof.Gen.KernelIdeal
public import proofs.«01_k».proof.Proof.Gen.KernelIdeal.Skeleton
public import proofs.«01_k».proof.Proof.BodyEq

@[expose] public section

noncomputable section

namespace Cert.Proof.Body

open Cert.KernelIdeal Cert.KernelIdeal.Gen
open Idealize.ShloMosaic Idealize.SL.Sem

variable {F : FTy → Type} [FloatOps F] [Named F]

theorem condW_zero : ∀ t : Fin k0_t1_loop.trips, t.val = 0 → condW (tripW t) ≠ 1#1 := by decide +kernel
theorem condW_pos : ∀ t : Fin k0_t1_loop.trips, t.val ≠ 0 → condW (tripW t) = 1#1 := by decide +kernel

section
variable (i : grid0.Coords) (arg2 : Memref sig .scVector .hbm S3072 .f32) (harg2 : arg2.IsWhole)
  (arg3 : Memref sig .scVector .hbm S1024 .f32) (harg3 : arg3.IsWhole)
  (arg4 : Memref sig .scVector .hbm S2432 .f32) (harg4 : arg4.IsWhole)
  (arg5 : Memref sig .scVector .hbm S524288x128 .f32) (harg5 : arg5.IsWhole)
  (arg6 : Memref sig .scVector .vmem S3072 .f32) (harg6 : arg6.IsWhole)
  (arg7 : Memref sig .scVector .vmem S1024 .f32) (harg7 : arg7.IsWhole)
  (arg8 : Memref sig .scVector .vmem S2432 .f32) (harg8 : arg8.IsWhole)
  (arg9 : Memref sig .scVector .vmem S256x128 .f32) (harg9 : arg9.IsWhole)
  (arg10 : Memref sig .scVector .vmem S256x128 .f32) (harg10 : arg10.IsWhole)
  (arg11 arg12 v28_r0 v28_r1 v28_r2 : DmaSems sig S_)

set_option maxRecDepth 65536 in
set_option maxHeartbeats 4000000 in
/-- A trip of the outer loop is two blocks, each after the wait for its buffer. -/
theorem t1_eq (t1 : Fin k0_t1_loop.trips) (v2 : BitVec 32) :
    k0_t1_body (F := F) i arg2 harg2 arg3 harg3 arg4 harg4 arg5 harg5 arg6 harg6 arg7 harg7 arg8 harg8 arg9 harg9 arg10 harg10
      arg11 arg12 v28_r0 v28_r1 v28_r2 v2 t1 ⟨⟩
    = (do
      waitIf i t1 arg5 arg9 harg9 arg11
      blockProg i arg5 arg6 arg7 arg8 arg9 harg9 arg11 (rowW v2 (tripW t1) 0#32) (k0_off1 i t1) (k0_off2 i t1) (k0_off3 i t1)
        (k0_off4 i t1) (k0_off1_inb i t1) (k0_off2_inb i t1) (k0_off3_inb i t1) (k0_off4_inb i t1) offA offA_inb
        (k0_off133 i t1) (k0_off133_inb i t1)
      waitIf i t1 arg5 arg10 harg10 arg12
      blockProg i arg5 arg6 arg7 arg8 arg10 harg10 arg12 (rowW v2 (tripW t1) 1#32) (k0_off134 i t1) (k0_off135 i t1) (k0_off136 i t1)
        (k0_off137 i t1) (k0_off134_inb i t1) (k0_off135_inb i t1) (k0_off136_inb i t1) (k0_off137_inb i t1) offB offB_inb
        (k0_off266 i t1) (k0_off266_inb i t1)) := by
  have h3 := fun (v173 v175 v176 v177 v178 : BitVec 32) (cx cy cz cm : Vec F S16 .f32) =>
    (funext fun t => funext fun _ => t3_eq i arg2 harg2 arg3 harg3 arg4 harg4 arg5 harg5 arg6 harg6 arg7 harg7 arg8 harg8 arg9
      harg9 arg10 harg10 arg11 arg12 v28_r0 v28_r1 v28_r2 t1 v173 v175 v176 v177 v178 cx cy cz cm t :
      k0_t3_body i arg2 harg2 arg3 harg3 arg4 harg4 arg5 harg5 arg6 harg6 arg7 harg7 arg8 harg8 arg9 harg9 arg10 harg10
        arg11 arg12 v28_r0 v28_r1 v28_r2 t1 v173 v175 v176 v177 v178 cx cy cz cm = _)
  have h2 := fun (v29 v52 v79 v90 v92 v93 v94 v95 : BitVec 32) (cx cy cz cm : Vec F S16 .f32) =>
    (funext fun t => funext fun _ => t2_eq i arg2 harg2 arg3 harg3 arg4 harg4 arg5 harg5 arg6 harg6 arg7 harg7 arg8 harg8 arg9
      harg9 arg10 harg10 arg11 arg12 v28_r0 v28_r1 v28_r2 v2 t1 v29 v52 v79 v90 v92 v93 v94 v95 cx cy cz cm t :
      k0_t2_body i arg2 harg2 arg3 harg3 arg4 harg4 arg5 harg5 arg6 harg6 arg7 harg7 arg8 harg8 arg9 harg9 arg10 harg10
        arg11 arg12 v28_r0 v28_r1 v28_r2 v2 k0_pay49 k0_pay50 k0_pay51 k0_pay52 k0_pay53 k0_pay54 k0_pay55 k0_pay56 k0_pay57
        k0_pay58 k0_pay59 t1 v29 v52 v79 v90 v92 v93 v94 v95 cx cy cz cm = _)
  have e43 : k0_part43 (F := F) i arg2 harg2 arg3 harg3 arg4 harg4 arg5 harg5 arg6 harg6 arg7 harg7 arg8 harg8 arg9
        harg9 arg10 harg10 arg11 arg12 v28_r0 v28_r1 v28_r2 v2 0#32 1#32 t1
      = (do
        waitIf i t1 arg5 arg9 harg9 arg11
        pure ⟨tripW t1, blockW (tripW t1) 0#32, rowW v2 (tripW t1) 0#32, Scalar.divsi (rowW v2 (tripW t1) 0#32) 512#32,
          Scalar.cmpi .ne (Scalar.subi (Scalar.extui (Scalar.cmpi .sgt (rowW v2 (tripW t1) 0#32) 0#32) : BitVec 32)
              (Scalar.extui (Scalar.cmpi .slt (rowW v2 (tripW t1) 0#32) 0#32)))
            (Scalar.subi (Scalar.extui (Scalar.cmpi .sgt 512#32 0#32) : BitVec 32) (Scalar.extui (Scalar.cmpi .slt 512#32 0#32))),
          Scalar.cmpi .ne (Scalar.remsi (rowW v2 (tripW t1) 0#32) 512#32) 0#32⟩) := by
    rw [k0_part43_eq_skeleton]
    unfold k0_part43_skel waitIf
    by_cases h : t1.val = 0
    · have hc := condW_zero t1 h
      unfold condW tripW at hc
      simp only [dif_neg hc, if_pos h]
      rfl
    · have hc := condW_pos t1 h
      unfold condW tripW at hc
      simp only [dif_pos hc, if_neg h]
      rfl
  have e45 : ∀ v52 v79 v90 v92 v93 v94 v95 cx cy cz,
      k0_part45 (F := F) i arg2 harg2 arg3 harg3 arg4 harg4 arg5 harg5 arg6 harg6 arg7 harg7 arg8 harg8 arg9
        harg9 arg10 harg10 arg11 arg12 v28_r0 v28_r1 v28_r2 v2 k0_pay49 k0_pay50 k0_pay51 k0_pay52 k0_pay53 k0_pay54 k0_pay55
        k0_pay56 k0_pay57 k0_pay58 k0_pay59 t1 (tripW t1) v52 v79 v90 v92 v93 v94 v95 cx cy cz
      = (do
        let cm ← gatherM i arg7 (broadcast S16 (Scalar.addi v95 v79))
        Scf.Loop.for k0_t2_loop k0_t2_ok ⟨⟩ fun t _ =>
          groupProg i arg6 arg7 arg8 arg9 (k0_off1 i t1 t) (k0_off2 i t1 t) (k0_off3 i t1 t) (k0_off4 i t1 t)
            (k0_off1_inb i t1 t) (k0_off2_inb i t1 t) (k0_off3_inb i t1 t) (k0_off4_inb i t1 t) (offA t) (offA_inb t) cx cy cz cm
        Prog.lift (.enqueueDma arg9 (.here (arg5.slice (Rect.unit (s := S524288x128) (k0_off133 i t1) S256x128.size
          (k0_off133_inb i t1)) (fun _ => rfl))) (.dma arg11.sem) harg9.wordExact (View.wordExact_bits rfl) ⟨Or.inl rfl, trivial⟩)
        waitIf i t1 arg5 arg10 harg10 arg12
        pure ⟨blockW (tripW t1) 1#32, rowW v2 (tripW t1) 1#32, 512#32, Scalar.divsi (rowW v2 (tripW t1) 1#32) 512#32,
          Scalar.extui (Scalar.cmpi .sgt (rowW v2 (tripW t1) 1#32) 0#32), Scalar.cmpi .slt (rowW v2 (tripW t1) 1#32) 0#32⟩) := by
    intro v52 v79 v90 v92 v93 v94 v95 cx cy cz
    rw [k0_part45_eq_skeleton]
    unfold k0_part45_skel waitIf
    by_cases h : t1.val = 0
    · have hc := condW_zero t1 h
      unfold condW at hc
      simp only [h2, dif_neg hc, if_pos h]
      rfl
    · have hc := condW_pos t1 h
      unfold condW at hc
      simp only [h2, dif_pos hc, if_neg h]
      rfl
  unfold k0_t1_body
  rw [e43]
  by_cases h : t1.val = 0
  · simp only [h3, e45, waitIf, if_pos h, blockProg, bind_assoc, pure_bind]
    rfl
  · simp only [h3, e45, waitIf, if_neg h, blockProg, bind_assoc, pure_bind]
    rfl
end

end Cert.Proof.Body

end
-- ==== Proof.Trip.lean ====
/-
The outer loop of a tile: what the output holds, the rows a tile has written, and what a trip keeps.
-/
module

public import proofs.«01_k».proof.Proof.Block
public import proofs.«01_k».proof.Proof.TripEq

@[expose] public section

noncomputable section

namespace Cert.Proof.Kern

open Cert.KernelIdeal Cert.KernelIdeal.Gen Cert.Proof.Body Cert.Proof.Bin
open Idealize.ShloMosaic
open Idealize.ShloMosaic.SparseCore (S V T)
open Idealize.ShloMosaic.SparseCore.Cfg (HIx)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What the output holds at row `R * 512 + j`, column `k`: word `k` of the table's row for the bin of the points `R % 512` and `j` of the
    batch `R / 512`. -/
def outVal (C : S3072.Idx → F .f32) (M : S1024.Idx → F .f32) (T : S2432.Idx → F .f32) (x : S524288x128.Idx) : F .f32 :=
  wordAt T (binW
    (C (atC ((x 0).val / 512 / 512 * 1536 + (x 0).val / 512 % 512)))
    (C (atC ((x 0).val / 512 / 512 * 1536 + 512 + (x 0).val / 512 % 512)))
    (C (atC ((x 0).val / 512 / 512 * 1536 + 512 + 512 + (x 0).val / 512 % 512)))
    (M (atM ((x 0).val / 512 / 512 * 512 + (x 0).val / 512 % 512)))
    (C (atC ((x 0).val / 512 / 512 * 1536 + (x 0).val % 512)))
    (C (atC ((x 0).val / 512 / 512 * 1536 + 512 + (x 0).val % 512)))
    (C (atC ((x 0).val / 512 / 512 * 1536 + 512 + 512 + (x 0).val % 512)))
    (M (atM ((x 0).val / 512 / 512 * 512 + (x 0).val % 512)))) (x 1).val

/-- The output's places from row `lo` up to row `hi`. -/
def rowsSet (lo hi : ℕ) : Finset S524288x128.Idx := Finset.univ.filter fun x => lo ≤ (x 0).val ∧ (x 0).val < hi

theorem mem_rowsSet {lo hi : ℕ} {x : S524288x128.Idx} : x ∈ rowsSet lo hi ↔ lo ≤ (x 0).val ∧ (x 0).val < hi := by
  simp [rowsSet]

theorem rowsSet_union {lo mid hi : ℕ} (h1 : lo ≤ mid) (h2 : mid ≤ hi) : rowsSet lo hi = rowsSet lo mid ∪ rowsSet mid hi := by
  ext x
  rw [Finset.mem_union, mem_rowsSet, mem_rowsSet, mem_rowsSet]
  omega

theorem rowsSet_disjoint {a b c e : ℕ} (h : b ≤ c) : Disjoint (rowsSet a b) (rowsSet c e) := by
  rw [Finset.disjoint_left]
  intro x hx hy
  rw [mem_rowsSet] at hx hy
  omega

/-- The rows of a block. -/
theorem set_outS (oo : Fin 2 → ℕ) (ho : ∀ a, oo a + S256x128.size a ≤ S524288x128.size a) (lo : ℕ) (e : oo = ![lo, 0]) :
    (outS oo ho).view.set = rowsSet lo (lo + 256) := by
  subst e
  ext x
  have h1 : (x 1).val < 128 := (x 1).isLt
  rw [mem_rowsSet, show (outS ![lo, 0] ho).view.set = (Rect.unit (s := S524288x128) ![lo, 0] S256x128.size ho).set
    from View.set_slice_whole _ _, (Rect.unit (s := S524288x128) ![lo, 0] S256x128.size ho).mem_set]
  constructor
  · intro h
    obtain ⟨j, hj, e⟩ := h 0
    have hj' : j < 256 := hj
    have e' : (x 0).val = lo + 1 * j := e
    omega
  · intro h a
    match a with
    | 0 => exact ⟨(x 0).val - lo, by show _ < 256; omega, by show (x 0).val = lo + 1 * _; omega⟩
    | 1 => exact ⟨(x 1).val, h1, by show (x 1).val = 0 + 1 * _; omega⟩

section
variable (d : Dev nD) (i : grid0.Coords)

/-- The rows `lo` to `hi` of the output at `f`. -/
abbrev pt (lo hi : ℕ) (f : Buf (Elt F) (outH.view.loc (thr d i))) : sProp (MM F) :=
  (outH.view.loc (thr d i) ↦[rowsSet lo hi]{fullShare} f)

theorem pt_split {lo mid hi : ℕ} (h1 : lo ≤ mid) (h2 : mid ≤ hi) (f : Buf (Elt F) (outH.view.loc (thr d i))) :
    (pt d i lo hi f : sProp (MM F)) ⊢ iprop(pt d i lo mid f ∗ pt d i mid hi f) := by
  unfold pt; rw [rowsSet_union h1 h2]; exact (pointsTo_union (rowsSet_disjoint le_rfl)).1
theorem pt_join {lo mid hi : ℕ} (h1 : lo ≤ mid) (h2 : mid ≤ hi) (f : Buf (Elt F) (outH.view.loc (thr d i))) :
    iprop(pt d i lo mid f ∗ pt d i mid hi f) ⊢ (pt d i lo hi f : sProp (MM F)) := by
  unfold pt; rw [rowsSet_union h1 h2]; exact (pointsTo_union (rowsSet_disjoint le_rfl)).2
theorem pt_none {lo : ℕ} (f g : Buf (Elt F) (outH.view.loc (thr d i))) :
    (pt d i lo lo f : sProp (MM F)) = pt d i lo lo g :=
  pointsTo_congr fun x hx => absurd (mem_rowsSet.mp hx) (by omega)

theorem pt_outS (oo : Fin 2 → ℕ) (ho : ∀ a, oo a + S256x128.size a ≤ S524288x128.size a) (lo : ℕ) (e : oo = ![lo, 0])
    (f : Buf (Elt F) (outH.view.loc (thr d i))) :
    ((outS oo ho).view.loc (thr d i) ↦[(outS oo ho).view.set]{fullShare} f : sProp (MM F)) = pt d i lo (lo + 256) f := by
  rw [set_outS oo ho lo e]

/-- The first row of the output a tile writes. -/
def tileRow (i : grid0.Coords) : ℕ := (2 * (i 1).val + (i 0).val) * 16384

theorem rowN_tileRow (t : ℕ) : rowN i t * 512 = tileRow i + 512 * t := by
  unfold rowN tileRow; omega

variable (C : Buf (Elt F) (csV.view.loc (thr d i))) (M : Buf (Elt F) (msV.view.loc (thr d i)))
  (T : Buf (Elt F) (tbV.view.loc (thr d i)))

/-- A block's buffer is what the output holds on its rows. -/
theorem blockAt_out (r c0 : ℕ) (hc0 : c0 + 256 ≤ 512) (oo : Fin 2 → ℕ)
    (ho : ∀ a, oo a + S256x128.size a ≤ S524288x128.size a) (e : oo = ![r * 512 + c0, 0]) (y : S256x128.Idx) :
    blockAt d i csV msV tbV C M T (r / 512) (r % 512) c0 y
      = (outS oo ho).view.read (Elt F) (outVal C M T : Buf (Elt F) (outH.view.loc (thr d i))) y := by
  subst e
  have hy : (y 0).val < 256 := (y 0).isLt
  have e0 : ((Rect.unit (s := S524288x128) ![r * 512 + c0, 0] S256x128.size ho).emb y 0).val = r * 512 + (c0 + (y 0).val) := by
    show r * 512 + c0 + 1 * (y 0).val = _
    omega
  have e1 : ((Rect.unit (s := S524288x128) ![r * 512 + c0, 0] S256x128.size ho).emb y 1).val = (y 1).val := by
    show 0 + 1 * (y 1).val = _
    omega
  show blockVal C M T _ _ _ _ _ _ _ _ y = outVal C M T ((Rect.unit (s := S524288x128) ![r * 512 + c0, 0] S256x128.size ho).emb y)
  unfold outVal blockVal
  rw [e0, e1, show (r * 512 + (c0 + (y 0).val)) / 512 = r by omega, show (r * 512 + (c0 + (y 0).val)) % 512 = c0 + (y 0).val by omega]
  simp only [Nat.add_assoc]
  rfl

/-- What the copy of a buffer delivers, by its first row. -/
abbrev deliver (buf : Memref sig .scVector .vmem S256x128 .f32) (lo : ℕ) (OUT : Buf (Elt F) (outH.view.loc (thr d i))) : sProp (MM F) :=
  iprop(pt d i lo (lo + 256) OUT ∗ ∃ f', (buf.view.loc (thr d i) ↦{fullShare} f'))

/-- A buffer before trip `k`: free before the first, in flight to its rows after. -/
def slot (buf : Memref sig .scVector .vmem S256x128 .f32) (sem : DmaSems sig S_) (c0 : ℕ) (OUT : Buf (Elt F) (outH.view.loc (thr d i)))
    (k : ℕ) : sProp (MM F) :=
  if k = 0 then iprop((∃ f, (buf.view.loc (thr d i) ↦{fullShare} f)) ∗ semVal (thr d i, .dma sem.sem) 0)
  else Flight countersEmb (thr d i) (.dma sem.sem) (none : HIx 1) NB (deliver d i buf (tileRow i + 512 * (k - 1) + c0) OUT)

/-- The waits a tile has made beside `W`. -/
abbrev owing (O : CellTallies nD τ sig (HIx 1)) (W : Waits sig (HIx 1)) : sProp (MM F) :=
  iprop(∃ W', ⌜∀ p ∈ W', p ∈ W ∨ p.2 = none⌝ ∗ owes (thr d i) O W')

/-- The wait for a slot's buffer: what it delivers is handed over. -/
theorem wait_spec (buf : Memref sig .scVector .vmem S256x128 .f32) (hbuf : buf.IsWhole) (sem : DmaSems sig S_) (D : sProp (MM F))
    (O : CellTallies nD τ sig (HIx 1)) (W : Waits sig (HIx 1)) (Q : PUnit → sProp (MM F)) :
    iprop(MayWaits (thr d i) none O ∗ Flight countersEmb (thr d i) (.dma sem.sem) (none : HIx 1) NB D ∗ owing d i O W)
      ⊢ iprop(((D ∗ semVal (thr d i, .dma sem.sem) 0 ∗ owing d i O W) -∗ Q ⟨⟩) -∗ twp d i (waitProg i outH buf hbuf sem) Q) := by
  unfold waitProg twp
  simp only [Prog.lift]
  iintro ⟨Hmw, Hf, %W', %hW', HO⟩ HK
  iapply (Transfers.wp_waitLocalO countersEmb 𝒱₀ (thr d i) none (none : HIx 1) (N := NB) rfl) $$ [Hf HO Hmw]
  · isplitl [Hf]; · iexact Hf
    isplitl [HO]; · iexact HO
    iapply (Transfers.MayWaits.elim (SemLoc.dma sem.sem)) $$ Hmw
  iintro ⟨HD, Hv, HO⟩
  rw [wp_ret]
  imodintro
  iapply HK
  isplitl [HD]; · iexact HD
  isplitl [Hv]; · iexact Hv
  iexists _
  isplitr [HO]
  rotate_left
  · iexact HO
  · ipureintro
    intro p hp
    rcases Finset.mem_insert.mp hp with h | h
    · exact .inr (by rw [h])
    · exact hW' p h

/-- The rows a slot has delivered once it is free again: none before the first trip. -/
abbrev back (c0 : ℕ) (OUT : Buf (Elt F) (outH.view.loc (thr d i))) (k : ℕ) : sProp (MM F) :=
  if k = 0 then iprop(emp) else pt d i (tileRow i + 512 * (k - 1) + c0) (tileRow i + 512 * (k - 1) + c0 + 256) OUT

/-- The wait in every trip but the first frees the slot. -/
theorem waitIf_spec (t : Fin k0_t1_loop.trips) (buf : Memref sig .scVector .vmem S256x128 .f32) (hbuf : buf.IsWhole)
    (sem : DmaSems sig S_) (c0 : ℕ) (OUT : Buf (Elt F) (outH.view.loc (thr d i)))
    (O : CellTallies nD τ sig (HIx 1)) (W : Waits sig (HIx 1)) (Q : PUnit → sProp (MM F)) :
    iprop(MayWaits (thr d i) none O ∗ slot d i buf sem c0 OUT t.val ∗ owing d i O W)
      ⊢ iprop(((back d i c0 OUT t.val ∗ (∃ f, (buf.view.loc (thr d i) ↦{fullShare} f)) ∗ semVal (thr d i, .dma sem.sem) 0
          ∗ owing d i O W) -∗ Q ⟨⟩) -∗ twp d i (waitIf i t outH buf hbuf sem) Q) := by
  unfold waitIf slot back
  by_cases h : t.val = 0
  · rw [if_pos h, if_pos h, if_pos h]
    unfold twp
    rw [wp_pure]
    iintro ⟨-, ⟨Hb, Hv⟩, HO⟩ HK
    imodintro
    iapply HK
    isplitr [Hb Hv HO]; · iempintro
    isplitl [Hb]; · iexact Hb
    isplitl [Hv]; · iexact Hv
    iexact HO
  · rw [if_neg h, if_neg h, if_neg h]
    iintro H HK
    iapply (wait_spec d i buf hbuf sem _ O W Q) $$ H
    iintro ⟨⟨Ho, Hb⟩, Hv, HO⟩
    iapply HK
    isplitl [Ho]; · iexact Ho
    isplitl [Hb]; · iexact Hb
    isplitl [Hv]; · iexact Hv
    iexact HO

/-- What the loop keeps before trip `k`. -/
def tripInv (fd : Buf (Elt F) (outH.view.loc (thr d i))) (O : CellTallies nD τ sig (HIx 1)) (W : Waits sig (HIx 1)) (k : ℕ) :
    sProp (MM F) :=
  iprop(MayWaits (thr d i) none O
    ∗ (csV.view.loc (thr d i) ↦{fullShare} C) ∗ (msV.view.loc (thr d i) ↦{fullShare} M) ∗ (tbV.view.loc (thr d i) ↦{fullShare} T)
    ∗ pt d i (tileRow i) (tileRow i + 512 * (k - 1)) (outVal C M T : Buf (Elt F) (outH.view.loc (thr d i)))
    ∗ slot d i bufA cc0_scratch5 0 (outVal C M T : Buf (Elt F) (outH.view.loc (thr d i))) k
    ∗ slot d i bufB cc0_scratch6 256 (outVal C M T : Buf (Elt F) (outH.view.loc (thr d i))) k
    ∗ pt d i (tileRow i + 512 * k) (tileRow i + 16384) fd
    ∗ owing d i O W)

/-- The rows a trip's two waits deliver join the rows delivered before. -/
theorem back_join (OUT : Buf (Elt F) (outH.view.loc (thr d i))) (k : ℕ) :
    iprop(pt d i (tileRow i) (tileRow i + 512 * (k - 1)) OUT ∗ back d i 0 OUT k ∗ back d i 256 OUT k)
      ⊢ (pt d i (tileRow i) (tileRow i + 512 * (k + 1 - 1)) OUT : sProp (MM F)) := by
  unfold back
  rw [Nat.add_sub_cancel]
  by_cases h : k = 0
  · subst h
    rw [if_pos rfl, if_pos rfl]
    iintro ⟨H, -, -⟩
    iexact H
  · rw [if_neg h, if_neg h, Nat.add_zero]
    iintro ⟨H, H1, H2⟩
    ihave H := (pt_join d i (lo := tileRow i) (mid := tileRow i + 512 * (k - 1)) (hi := tileRow i + 512 * (k - 1) + 256)
      (by omega) (by omega) OUT) $$ [H H1]
    · isplitl [H]; · iexact H
      iexact H1
    ihave H := (pt_join d i (lo := tileRow i) (mid := tileRow i + 512 * (k - 1) + 256)
      (hi := tileRow i + 512 * (k - 1) + 256 + 256) (by omega) (by omega) OUT) $$ [H H2]
    · isplitl [H]; · iexact H
      iexact H2
    rw [show tileRow i + 512 * (k - 1) + 256 + 256 = tileRow i + 512 * k by omega]
    iexact H

/-- The block of a trip, by the rows it writes. -/
theorem block_spec (t : Fin k0_t1_loop.trips) (buf : Memref sig .scVector .vmem S256x128 .f32) (hbuf : buf.IsWhole)
    (hset : buf.view.set = Finset.univ) (sem : DmaSems sig S_) (p : BitVec 32) (hp : p = 0#32 ∨ p = 1#32) (c0 : ℕ)
    (hc0 : c0 + 256 ≤ 512)
    (ox oy oz ow : Fin k0_t2_loop.trips → Fin 1 → ℕ)
    (hx : ∀ t a, ox t a + S16.size a ≤ S3072.size a) (hy : ∀ t a, oy t a + S16.size a ≤ S3072.size a)
    (hz : ∀ t a, oz t a + S16.size a ≤ S3072.size a) (hw : ∀ t a, ow t a + S16.size a ≤ S1024.size a)
    (off : Fin k0_t2_loop.trips → Fin 16 → Fin 8 → Fin 2 → ℕ)
    (inb : ∀ t j c a, off t j c a + S1x16.size a ≤ S256x128.size a)
    (oo : Fin 2 → ℕ) (ho : ∀ a, oo a + S256x128.size a ≤ S524288x128.size a)
    (eo : ∀ g, ox g = ![batchN i t.val * 1536 + c0 + 16 * g.val] ∧ oy g = ![batchN i t.val * 1536 + 512 + c0 + 16 * g.val]
      ∧ oz g = ![batchN i t.val * 1536 + 512 + 512 + c0 + 16 * g.val] ∧ ow g = ![batchN i t.val * 512 + c0 + 16 * g.val])
    (hoff : ∀ g j c, off g j c = ![16 * g.val + j.val, 16 * c.val]) (eoo : oo = ![rowN i t.val * 512 + c0, 0])
    (fd : Buf (Elt F) (outH.view.loc (thr d i))) (Q : PUnit → sProp (MM F)) :
    iprop((csV.view.loc (thr d i) ↦{fullShare} C) ∗ (msV.view.loc (thr d i) ↦{fullShare} M) ∗ (tbV.view.loc (thr d i) ↦{fullShare} T)
        ∗ (∃ f, (buf.view.loc (thr d i) ↦{fullShare} f)) ∗ semVal (thr d i, .dma sem.sem) 0
        ∗ pt d i (tileRow i + 512 * t.val + c0) (tileRow i + 512 * t.val + c0 + 256) fd)
      ⊢ iprop((((csV.view.loc (thr d i) ↦{fullShare} C) ∗ (msV.view.loc (thr d i) ↦{fullShare} M)
            ∗ (tbV.view.loc (thr d i) ↦{fullShare} T)
            ∗ slot d i buf sem c0 (outVal C M T : Buf (Elt F) (outH.view.loc (thr d i))) (t.val + 1)) -∗ Q ⟨⟩)
        -∗ twp d i (blockProg i outH csV msV tbV buf hbuf sem (rowW (tileW i) (tripW t) p) ox oy oz ow hx hy hz hw off inb oo ho) Q) := by
  have e : oo = ![tileRow i + 512 * t.val + c0, 0] := by rw [eoo, rowN_tileRow]
  rw [← pt_outS d i oo ho _ e]
  iintro ⟨Hc, Hm, Ht, ⟨%f, Hb⟩, Hv, Ho⟩ HK
  iapply (blockProg_spec d i csV msV tbV buf hbuf C M T hset sem _ (batchN i t.val) (inN i t.val) c0 (batch_lt i t) (in_lt i t)
    (base_eq i t p hp) ox oy oz ow hx hy hz hw off inb oo ho eo hoff f (outVal C M T) fd
    (blockAt_out d i C M T (rowN i t.val) c0 hc0 oo ho eoo) Q) $$ [Hc Hm Ht Hb Hv Ho]
  · isplitl [Hc]; · iexact Hc
    isplitl [Hm]; · iexact Hm
    isplitl [Ht]; · iexact Ht
    isplitl [Hb]; · iexact Hb
    isplitl [Ho]; · iexact Ho
    iexact Hv
  iintro ⟨Hc, Hm, Ht, Hf⟩
  iapply HK
  isplitl [Hc]; · iexact Hc
  isplitl [Hm]; · iexact Hm
  isplitl [Ht]; · iexact Ht
  unfold slot
  rw [if_neg (Nat.succ_ne_zero _), Nat.add_sub_cancel]
  iapply (Flight_mono countersEmb (thr d i) ?hm) $$ Hf
  case hm =>
    exact Entails.of_eq (congrArg (fun P => iprop(P ∗ ∃ f', (buf.view.loc (thr d i) ↦{fullShare} f'))) (pt_outS d i oo ho _ e _))

/-- A trip keeps the invariant. -/
theorem trip_spec (t : Fin k0_t1_loop.trips) (fd : Buf (Elt F) (outH.view.loc (thr d i))) (O : CellTallies nD τ sig (HIx 1))
    (W : Waits sig (HIx 1)) (h2 : csH.IsWhole) (h3 : msH.IsWhole) (h4 : tbH.IsWhole) (h5 : outH.IsWhole) (h6 : csV.IsWhole)
    (h7 : msV.IsWhole) (h8 : tbV.IsWhole) (h9 : bufA.IsWhole) (h10 : bufB.IsWhole) (r0 r1 r2 : DmaSems sig S_) :
    tripInv d i C M T fd O W t.val
      ⊢ twp d i (k0_t1_body (F := F) i csH h2 msH h3 tbH h4 outH h5 csV h6 msV h7 tbV h8 bufA h9 bufB h10 cc0_scratch5 cc0_scratch6
          r0 r1 r2 (tileW i) t ⟨⟩) (fun _ => tripInv d i C M T fd O W (t.val + 1)) := by
  have ht := trip_lt t
  rw [t1_eq]
  unfold tripInv
  iintro ⟨#Hmw, Hc, Hm, Ht, Hd, HA, HB, Hr, HO⟩
  ihave ⟨HrA, Hr⟩ := (pt_split d i (lo := tileRow i + 512 * t.val) (mid := tileRow i + 512 * t.val + 256) (by omega) (by omega) fd) $$ Hr
  ihave ⟨HrB, Hr⟩ := (pt_split d i (mid := tileRow i + 512 * (t.val + 1)) (by omega) (by omega) fd) $$ Hr
  unfold twp
  rw [wp_bind]
  iapply (waitIf_spec d i t bufA h9 cc0_scratch5 0 _ O W _) $$ [HA HO]
  · isplitr; · iexact Hmw
    isplitl [HA]; · iexact HA
    iexact HO
  iintro ⟨HbkA, HA, HvA, HO⟩
  rw [wp_bind]
  iapply (block_spec d i C M T t bufA h9 (View.set_whole _) cc0_scratch5 0#32 (.inl rfl) 0 (by decide) _ _ _ _ _ _ _ _ _ _ _ _
    (fun g => by rw [Nat.add_zero, Nat.add_zero, Nat.add_zero, Nat.add_zero]; exact offsA_eq i t g)
    (fun g j c => offA_eq g j c) (off133_eq i t) fd _) $$ [Hc Hm Ht HA HvA HrA]
  · isplitl [Hc]; · iexact Hc
    isplitl [Hm]; · iexact Hm
    isplitl [Ht]; · iexact Ht
    isplitl [HA]; · iexact HA
    isplitl [HvA]; · iexact HvA
    rw [Nat.add_zero]
    iexact HrA
  iintro ⟨Hc, Hm, Ht, HA⟩
  rw [wp_bind]
  iapply (waitIf_spec d i t bufB h10 cc0_scratch6 256 _ O W _) $$ [HB HO]
  · isplitr; · iexact Hmw
    isplitl [HB]; · iexact HB
    iexact HO
  iintro ⟨HbkB, HB, HvB, HO⟩
  iapply (block_spec d i C M T t bufB h10 (View.set_whole _) cc0_scratch6 1#32 (.inr rfl) 256 (by decide) _ _ _ _ _ _ _ _ _ _ _ _
    (fun g => by simp only [Nat.add_assoc]; simpa only [Nat.add_assoc] using offsB_eq i t g)
    (fun g j c => offB_eq g j c) (off266_eq i t) fd _) $$ [Hc Hm Ht HB HvB HrB]
  · isplitl [Hc]; · iexact Hc
    isplitl [Hm]; · iexact Hm
    isplitl [Ht]; · iexact Ht
    isplitl [HB]; · iexact HB
    isplitl [HvB]; · iexact HvB
    rw [show tileRow i + 512 * t.val + 256 + 256 = tileRow i + 512 * (t.val + 1) by omega]
    iexact HrB
  iintro ⟨Hc, Hm, Ht, HB⟩
  isplitr; · iexact Hmw
  isplitl [Hc]; · iexact Hc
  isplitl [Hm]; · iexact Hm
  isplitl [Ht]; · iexact Ht
  isplitl [Hd HbkA HbkB]
  · iapply (back_join d i _ t.val)
    isplitl [Hd]; · iexact Hd
    isplitl [HbkA]; · iexact HbkA
    iexact HbkB
  isplitl [HA]; · iexact HA
  isplitl [HB]; · iexact HB
  isplitl [Hr]; · iexact Hr
  iexact HO

end

end Cert.Proof.Kern

end
-- ==== Proof.Tile.lean ====
/-
The run of a tile: it copies its inputs in, makes its trips, waits for the last two copies out, and leaves its rows of the
output at their values.
-/
module

public import proofs.«01_k».proof.Proof.Trip

@[expose] public section

noncomputable section

namespace Cert.Proof.Kern

open Cert.KernelIdeal Cert.KernelIdeal.Gen Cert.Proof.Body
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Named F]

section
variable (d : Dev nD) (i : grid0.Coords)

/-- A copy in, started and waited for. -/
def fetchProg {s : Shape} (src : Memref sig .scVector .hbm s .f32) (hsrc : src.IsWhole) (dst : Memref sig .scVector .vmem s .f32)
    (hdst : dst.IsWhole) (sem : DmaSems sig S_) : TileP (F := F) i PUnit := do
  Prog.lift (.enqueueDma src (.here dst) (.dma sem.sem) hsrc.wordExact hdst.wordExact ⟨Or.inl rfl, trivial⟩)
  Prog.lift (.waitDma2 sem.sem src dst hsrc.wordExact hdst.wordExact)

/-- A copy in leaves the source's contents in the destination. -/
theorem fetch_spec {s : Shape} (src : Memref sig .scVector .hbm s .f32) (hsrc : src.IsWhole)
    (dst : Memref sig .scVector .vmem s .f32) (hdst : dst.IsWhole) (sem : DmaSems sig S_) (hset : src.view.set = Finset.univ)
    (hpos : 0 < dst.view.amount (.dma sem.sem)) {q : PosShare TreeShare} (fs : Buf (Elt F) (src.view.loc (thr d i)))
    (fd G : Buf (Elt F) (dst.view.loc (thr d i)))
    (hG : dst.view.write (Elt F) fd (src.view.read (Elt F) fs) Finset.univ = G)
    (O : CellTallies nD τ sig (HIx 1)) (W : Waits sig (HIx 1)) (Q : PUnit → sProp (MM F)) :
    iprop(MayWaits (thr d i) none O ∗ (src.view.loc (thr d i) ↦{q} fs) ∗ (dst.view.loc (thr d i) ↦{fullShare} fd)
        ∗ semVal (thr d i, .dma sem.sem) 0 ∗ owing d i O W)
      ⊢ iprop((((src.view.loc (thr d i) ↦{q} fs) ∗ (dst.view.loc (thr d i) ↦{fullShare} G)
            ∗ semVal (thr d i, .dma sem.sem) 0 ∗ owing d i O W) -∗ Q ⟨⟩)
        -∗ twp d i (fetchProg i src hsrc dst hdst sem) Q) := by
  subst hG
  unfold fetchProg twp
  rw [wp_bind]
  simp only [Prog.lift]
  iintro ⟨Hmw, Hs, Hd, Hv, %W', %hW', HO⟩ HK
  iapply (Transfers.wp_dmaLocal countersEmb 𝒱₀ (thr d i) none (src := src) (dst := dst) (q := q) (fs := fs) (fd := fd)
    (none : HIx 1) (dst.view.amount (.dma sem.sem)) rfl hpos (Finset.subset_univ _)) $$ [Hs Hd Hv]
  · isplitl [Hs]
    · rw [hset]; iexact Hs
    isplitl [Hd]; · iexact Hd
    iexact Hv
  iintro Hf
  rw [wp_ret]
  imodintro
  iapply (Transfers.wp_waitLocalO countersEmb 𝒱₀ (thr d i) none (none : HIx 1) (N := dst.view.amount (.dma sem.sem)) rfl)
    $$ [Hf HO Hmw]
  · isplitl [Hf]; · iexact Hf
    isplitl [HO]; · iexact HO
    iapply (Transfers.MayWaits.elim (SemLoc.dma sem.sem)) $$ Hmw
  iintro ⟨⟨Hd, Hs⟩, Hv, HO⟩
  rw [wp_ret]
  imodintro
  iapply HK
  isplitl [Hs]
  · rw [hset]; iexact Hs
  isplitl [Hd]; · iexact Hd
  isplitl [Hv]; · iexact Hv
  iexists _
  isplitr [HO]
  rotate_left
  · iexact HO
  · ipureintro
    intro p hp
    rcases Finset.mem_insert.mp hp with h | h
    · exact .inr (by rw [h])
    · exact hW' p h

/-- The tile's program, by its parts. -/
theorem kern_eq (arg2 : Memref sig .scVector .hbm S3072 .f32) (h2 : arg2.IsWhole) (arg3 : Memref sig .scVector .hbm S1024 .f32)
    (h3 : arg3.IsWhole) (arg4 : Memref sig .scVector .hbm S2432 .f32) (h4 : arg4.IsWhole)
    (arg5 : Memref sig .scVector .hbm S524288x128 .f32) (h5 : arg5.IsWhole) (arg6 : Memref sig .scVector .vmem S3072 .f32)
    (h6 : arg6.IsWhole) (arg7 : Memref sig .scVector .vmem S1024 .f32) (h7 : arg7.IsWhole)
    (arg8 : Memref sig .scVector .vmem S2432 .f32) (h8 : arg8.IsWhole) (arg9 : Memref sig .scVector .vmem S256x128 .f32)
    (h9 : arg9.IsWhole) (arg10 : Memref sig .scVector .vmem S256x128 .f32) (h10 : arg10.IsWhole) (arg11 arg12 r0 r1 r2 : DmaSems sig S_) :
    cc0_kern (F := F) i arg2 h2 arg3 h3 arg4 h4 arg5 h5 arg6 h6 arg7 h7 arg8 h8 arg9 h9 arg10 h10 arg11 arg12 r0 r1 r2
      = (do
        fetchProg i arg2 h2 arg6 h6 r0
        fetchProg i arg3 h3 arg7 h7 r1
        fetchProg i arg4 h4 arg8 h8 r2
        Scf.Loop.for k0_t1_loop k0_t1_ok ⟨⟩ (k0_t1_body i arg2 h2 arg3 h3 arg4 h4 arg5 h5 arg6 h6 arg7 h7 arg8 h8 arg9 h9 arg10 h10
          arg11 arg12 r0 r1 r2 (tileW i))
        waitProg i arg5 arg9 h9 arg11
        waitProg i arg5 arg10 h10 arg12) := by
  rw [cc0_kern_eq_skeleton]
  unfold cc0_kern_skel
  rw [k0_part47_eq_skeleton]
  unfold k0_part47_skel fetchProg
  simp only [bind_assoc, pure_bind]
  rfl

variable (C : S3072.Idx → F .f32) (M : S1024.Idx → F .f32) (T : S2432.Idx → F .f32)

/-- The loop before its first trip, and after its last. -/
theorem inv_first (fd : Buf (Elt F) (outH.view.loc (thr d i))) (O : CellTallies nD τ sig (HIx 1)) (W : Waits sig (HIx 1)) :
    iprop(MayWaits (thr d i) none O
        ∗ (csV.view.loc (thr d i) ↦{fullShare} C) ∗ (msV.view.loc (thr d i) ↦{fullShare} M) ∗ (tbV.view.loc (thr d i) ↦{fullShare} T)
        ∗ ((∃ f, (bufA.view.loc (thr d i) ↦{fullShare} f)) ∗ semVal (thr d i, .dma cc0_scratch5.sem) 0)
        ∗ ((∃ f, (bufB.view.loc (thr d i) ↦{fullShare} f)) ∗ semVal (thr d i, .dma cc0_scratch6.sem) 0)
        ∗ pt d i (tileRow i) (tileRow i + 16384) fd ∗ owing d i O W)
      ⊢ (tripInv d i C M T fd O W 0 : sProp (MM F)) := by
  unfold tripInv slot
  rw [if_pos rfl, if_pos rfl, Nat.zero_sub, Nat.mul_zero, Nat.add_zero]
  iintro ⟨Hmw, Hc, Hm, Ht, HA, HB, Ho, HO⟩
  ihave ⟨Ho', Ho⟩ := (pt_split d i (lo := tileRow i) (mid := tileRow i) (by omega) (by omega) fd) $$ Ho
  isplitl [Hmw]; · iexact Hmw
  isplitl [Hc]; · iexact Hc
  isplitl [Hm]; · iexact Hm
  isplitl [Ht]; · iexact Ht
  isplitl [Ho']
  · iapply (Entails.of_eq (pt_none d i (lo := tileRow i) fd (outVal C M T : Buf (Elt F) (outH.view.loc (thr d i))))) $$ Ho'
  isplitl [HA]; · iexact HA
  isplitl [HB]; · iexact HB
  isplitl [Ho]; · iexact Ho
  iexact HO

theorem inv_last (fd : Buf (Elt F) (outH.view.loc (thr d i))) (O : CellTallies nD τ sig (HIx 1)) (W : Waits sig (HIx 1)) :
    (tripInv d i C M T fd O W k0_t1_loop.trips : sProp (MM F))
      ⊢ iprop((csV.view.loc (thr d i) ↦{fullShare} C) ∗ (msV.view.loc (thr d i) ↦{fullShare} M)
        ∗ (tbV.view.loc (thr d i) ↦{fullShare} T)
        ∗ pt d i (tileRow i) (tileRow i + 512 * (32 - 1)) (outVal C M T : Buf (Elt F) (outH.view.loc (thr d i)))
        ∗ Flight countersEmb (thr d i) (.dma cc0_scratch5.sem) (none : HIx 1) NB
          (deliver d i bufA (tileRow i + 512 * (32 - 1) + 0) (outVal C M T))
        ∗ Flight countersEmb (thr d i) (.dma cc0_scratch6.sem) (none : HIx 1) NB
          (deliver d i bufB (tileRow i + 512 * (32 - 1) + 256) (outVal C M T))
        ∗ owing d i O W) := by
  rw [trips1]
  unfold tripInv slot
  rw [if_neg (by decide), if_neg (by decide)]
  iintro ⟨-, Hc, Hm, Ht, Hd, HA, HB, -, HO⟩
  isplitl [Hc]; · iexact Hc
  isplitl [Hm]; · iexact Hm
  isplitl [Ht]; · iexact Ht
  isplitl [Hd]; · iexact Hd
  isplitl [HA]; · iexact HA
  isplitl [HB]; · iexact HB
  iexact HO

/-- The rows of the last trip join those of the trips before. -/
theorem all_join (OUT : Buf (Elt F) (outH.view.loc (thr d i))) :
    iprop(pt d i (tileRow i) (tileRow i + 512 * (32 - 1)) OUT
        ∗ pt d i (tileRow i + 512 * (32 - 1) + 0) (tileRow i + 512 * (32 - 1) + 0 + 256) OUT
        ∗ pt d i (tileRow i + 512 * (32 - 1) + 256) (tileRow i + 512 * (32 - 1) + 256 + 256) OUT)
      ⊢ (pt d i (tileRow i) (tileRow i + 16384) OUT : sProp (MM F)) :=
  back_join d i OUT 32

/-- The tile's program: the inputs and the rows it is given come back, the rows at their values. -/
theorem kern_spec {q2 q3 q4 : PosShare TreeShare} (fd : Buf (Elt F) (outH.view.loc (thr d i)))
    (f0 : Buf (Elt F) (csV.view.loc (thr d i))) (f1 : Buf (Elt F) (msV.view.loc (thr d i)))
    (f2 : Buf (Elt F) (tbV.view.loc (thr d i))) (O : CellTallies nD τ sig (HIx 1)) (W : Waits sig (HIx 1))
    (h2 : csH.IsWhole) (h3 : msH.IsWhole) (h4 : tbH.IsWhole) (h5 : outH.IsWhole) (h6 : csV.IsWhole)
    (h7 : msV.IsWhole) (h8 : tbV.IsWhole) (h9 : bufA.IsWhole) (h10 : bufB.IsWhole) (Q : PUnit → sProp (MM F)) :
    iprop(MayWaits (thr d i) none O
        ∗ ((csH.view.loc (thr d i) ↦{q2} C) ∗ (msH.view.loc (thr d i) ↦{q3} M) ∗ (tbH.view.loc (thr d i) ↦{q4} T))
        ∗ ((csV.view.loc (thr d i) ↦{fullShare} f0) ∗ (msV.view.loc (thr d i) ↦{fullShare} f1)
          ∗ (tbV.view.loc (thr d i) ↦{fullShare} f2))
        ∗ (semVal (thr d i, .dma cc0_scoped0.sem) 0 ∗ semVal (thr d i, .dma cc0_scoped1.sem) 0
          ∗ semVal (thr d i, .dma cc0_scoped2.sem) 0)
        ∗ ((∃ f, (bufA.view.loc (thr d i) ↦{fullShare} f)) ∗ semVal (thr d i, .dma cc0_scratch5.sem) 0)
        ∗ ((∃ f, (bufB.view.loc (thr d i) ↦{fullShare} f)) ∗ semVal (thr d i, .dma cc0_scratch6.sem) 0)
        ∗ pt d i (tileRow i) (tileRow i + 16384) fd ∗ owing d i O W)
      ⊢ iprop((((csH.view.loc (thr d i) ↦{q2} C) ∗ (msH.view.loc (thr d i) ↦{q3} M) ∗ (tbH.view.loc (thr d i) ↦{q4} T))
          ∗ ((∃ f, (csV.view.loc (thr d i) ↦{fullShare} f)) ∗ (∃ f, (msV.view.loc (thr d i) ↦{fullShare} f))
            ∗ (∃ f, (tbV.view.loc (thr d i) ↦{fullShare} f)))
          ∗ (semVal (thr d i, .dma cc0_scoped0.sem) 0 ∗ semVal (thr d i, .dma cc0_scoped1.sem) 0
            ∗ semVal (thr d i, .dma cc0_scoped2.sem) 0)
          ∗ ((∃ f, (bufA.view.loc (thr d i) ↦{fullShare} f)) ∗ semVal (thr d i, .dma cc0_scratch5.sem) 0)
          ∗ ((∃ f, (bufB.view.loc (thr d i) ↦{fullShare} f)) ∗ semVal (thr d i, .dma cc0_scratch6.sem) 0)
          ∗ pt d i (tileRow i) (tileRow i + 16384) (outVal C M T : Buf (Elt F) (outH.view.loc (thr d i)))
          ∗ owing d i O W -∗ Q ⟨⟩)
        -∗ twp d i (cc0_kern (F := F) i csH h2 msH h3 tbH h4 outH h5 csV h6 msV h7 tbV h8 bufA h9 bufB h10 cc0_scratch5 cc0_scratch6
          cc0_scoped0 cc0_scoped1 cc0_scoped2) Q) := by
  rw [kern_eq]
  unfold twp
  iintro ⟨#Hmw, ⟨Hc, Hm, Ht⟩, ⟨Hc', Hm', Ht'⟩, ⟨Hv0, Hv1, Hv2⟩, HA, HB, Ho, HO⟩ HK
  rw [wp_bind]
  iapply (fetch_spec d i csH h2 csV h6 cc0_scoped0 (View.set_whole _) (View.dmaCredit_pos _ (by decide)) C f0 C
    (View.write_whole_univ _ _ _) O W _) $$ [Hc Hc' Hv0 HO]
  · isplitr; · iexact Hmw
    isplitl [Hc]; · iexact Hc
    isplitl [Hc']; · iexact Hc'
    isplitl [Hv0]; · iexact Hv0
    iexact HO
  iintro ⟨Hc, Hc', Hv0, HO⟩
  rw [wp_bind]
  iapply (fetch_spec d i msH h3 msV h7 cc0_scoped1 (View.set_whole _) (View.dmaCredit_pos _ (by decide)) M f1 M
    (View.write_whole_univ _ _ _) O W _) $$ [Hm Hm' Hv1 HO]
  · isplitr; · iexact Hmw
    isplitl [Hm]; · iexact Hm
    isplitl [Hm']; · iexact Hm'
    isplitl [Hv1]; · iexact Hv1
    iexact HO
  iintro ⟨Hm, Hm', Hv1, HO⟩
  rw [wp_bind]
  iapply (fetch_spec d i tbH h4 tbV h8 cc0_scoped2 (View.set_whole _) (View.dmaCredit_pos _ (by decide)) T f2 T
    (View.write_whole_univ _ _ _) O W _) $$ [Ht Ht' Hv2 HO]
  · isplitr; · iexact Hmw
    isplitl [Ht]; · iexact Ht
    isplitl [Ht']; · iexact Ht'
    isplitl [Hv2]; · iexact Hv2
    iexact HO
  iintro ⟨Ht, Ht', Hv2, HO⟩
  iapply (Scf.wp_for_bind frame (wpE (defs₀ (F := F)) 𝒱₀ (thr d i) none) Set.univ k0_t1_loop.lb k0_t1_loop.ub k0_t1_loop.st k0_t1_ok
    (PUnit.unit : Unit) _ (fun k _ => tripInv d i C M T fd O W k) ?hbody) $$ [Hc' Hm' Ht' HA HB Ho HO]
  case hbody =>
    intro t acc
    exact trip_spec d i C M T t fd O W h2 h3 h4 h5 h6 h7 h8 h9 h10 _ _ _
  · iapply (inv_first d i C M T fd O W)
    isplitr; · iexact Hmw
    isplitl [Hc']; · iexact Hc'
    isplitl [Hm']; · iexact Hm'
    isplitl [Ht']; · iexact Ht'
    isplitl [HA]; · iexact HA
    isplitl [HB]; · iexact HB
    isplitl [Ho]; · iexact Ho
    iexact HO
  iintro %acc H
  ihave H := (inv_last d i C M T fd O W) $$ H
  icases H with ⟨Hc', Hm', Ht', Hd, HA, HB, HO⟩
  rw [wp_bind]
  iapply (wait_spec d i bufA h9 cc0_scratch5 _ O W _) $$ [HA HO]
  · isplitr; · iexact Hmw
    isplitl [HA]; · iexact HA
    iexact HO
  iintro ⟨⟨HoA, HA⟩, HvA, HO⟩
  iapply (wait_spec d i bufB h10 cc0_scratch6 _ O W _) $$ [HB HO]
  · isplitr; · iexact Hmw
    isplitl [HB]; · iexact HB
    iexact HO
  iintro ⟨⟨HoB, HB⟩, HvB, HO⟩
  iapply HK
  isplitl [Hc Hm Ht]
  · isplitl [Hc]; · iexact Hc
    isplitl [Hm]; · iexact Hm
    iexact Ht
  isplitl [Hc' Hm' Ht']
  · isplitl [Hc']; · iexists _; iexact Hc'
    isplitl [Hm']; · iexists _; iexact Hm'
    iexists _; iexact Ht'
  isplitl [Hv0 Hv1 Hv2]
  · isplitl [Hv0]; · iexact Hv0
    isplitl [Hv1]; · iexact Hv1
    iexact Hv2
  isplitl [HA HvA]
  · isplitl [HA]; · iexact HA
    iexact HvA
  isplitl [HB HvB]
  · isplitl [HB]; · iexact HB
    iexact HvB
  isplitr [HO]
  · iapply (all_join d i (outVal C M T : Buf (Elt F) (outH.view.loc (thr d i))))
    isplitl [Hd]; · iexact Hd
    isplitl [HoA]; · iexact HoA
    iexact HoB
  iexact HO

end

/-! ### The tile's own arrays and cells -/

/-- The arrays of a tile. -/
def tileArrs : Finset (Ref sig .scVector) := {cc0_scratch0, cc0_scratch1, cc0_scratch2, cc0_scratch3, cc0_scratch4}
/-- The cells of a tile. -/
def tileSems : Finset (SemLoc sig) :=
  {.dma cc0_scoped0.sem, .dma cc0_scoped1.sem, .dma cc0_scoped2.sem, .dma cc0_scratch5.sem, .dma cc0_scratch6.sem}

section
variable (d : Dev nD) (c : Fin τ.nSC) (j : Fin τ.nSub)

/-- The rest of a tile's arrays, and of its cells. -/
def restArrs : Finset (DevRef τ sig) := ownRefs (τ := τ) (sig := sig) (Proc.scVector c j) \ tileArrs.image (Proc.scVector c j).devRef
def restSems : Finset (GSem nD τ sig) := ownCells (nD := nD) (sig := sig) (V d c j) \ tileSems.image fun s => (V d c j, s)

theorem bigSep_tileArrs (Φ : Ref sig .scVector → sProp (MM F)) :
    bigSep tileArrs Φ = iprop(Φ cc0_scratch0 ∗ Φ cc0_scratch1 ∗ Φ cc0_scratch2 ∗ Φ cc0_scratch3 ∗ Φ cc0_scratch4) := by
  unfold tileArrs
  rw [SparseCore.bigSep_insert' (by decide), SparseCore.bigSep_insert' (by decide), SparseCore.bigSep_insert' (by decide),
    SparseCore.bigSep_insert' (by decide), bigSep_singleton]

theorem ownBufs_V : (ownBufs (Val := Elt F) (Name := ℕ) (Ix := HIx 1) (U := UU)  (V d c j) : sProp (MM F))
    = iprop(((∃ f, (V d c j).loc cc0_scratch0 ↦{fullShare} f) ∗ (∃ f, (V d c j).loc cc0_scratch1 ↦{fullShare} f)
        ∗ (∃ f, (V d c j).loc cc0_scratch2 ↦{fullShare} f) ∗ (∃ f, (V d c j).loc cc0_scratch3 ↦{fullShare} f)
        ∗ (∃ f, (V d c j).loc cc0_scratch4 ↦{fullShare} f))
      ∗ (bigSep (restArrs c j) fun b => iprop(∃ f, (d, b) ↦{fullShare} f))) := by
  unfold ownBufs
  have hsub : tileArrs.image (Proc.scVector c j).devRef ⊆ ownRefs (τ := τ) (sig := sig) (Proc.scVector c j) := by
    intro b hb
    obtain ⟨r, hr, rfl⟩ := Finset.mem_image.mp hb
    simp only [tileArrs, Finset.mem_insert, Finset.mem_singleton] at hr
    rcases hr with rfl | rfl | rfl | rfl | rfl <;> exact SparseCore.Cfg.mem_ownRefs_of_owner rfl
  refine (SparseCore.bigSep_sdiff_split' hsub).trans ?_
  rw [SparseCore.bigSep_image_of_injOn (Proc.devRef_injective _).injOn]
  exact congrArg (fun X : sProp (MM F) => iprop(X ∗ _)) (bigSep_tileArrs _)

theorem ownSems0_V : (ownSems0 (Val := Elt F) (Name := ℕ) (Ix := HIx 1) (U := UU)  (V d c j) : sProp (MM F))
    = iprop((semVal (V d c j, .dma cc0_scoped0.sem) 0 ∗ semVal (V d c j, .dma cc0_scoped1.sem) 0
        ∗ semVal (V d c j, .dma cc0_scoped2.sem) 0 ∗ semVal (V d c j, .dma cc0_scratch5.sem) 0
        ∗ semVal (V d c j, .dma cc0_scratch6.sem) 0)
      ∗ (bigSep (restSems d c j) fun g => semVal g 0)) := by
  unfold ownSems0
  have hsub : (tileSems.image fun s => (V d c j, s)) ⊆ ownCells (nD := nD) (sig := sig) (V d c j) := by
    intro g hg
    obtain ⟨s, hs, rfl⟩ := Finset.mem_image.mp hg
    refine mem_ownCells.mpr ⟨rfl, ?_⟩
    simp only [tileSems, Finset.mem_insert, Finset.mem_singleton] at hs
    rcases hs with rfl | rfl | rfl | rfl | rfl
    · exact (show (SemLoc.dma cc0_scoped0.sem : SemLoc sig).isScoped .scVector = true by decide)
    · exact (show (SemLoc.dma cc0_scoped1.sem : SemLoc sig).isScoped .scVector = true by decide)
    · exact (show (SemLoc.dma cc0_scoped2.sem : SemLoc sig).isScoped .scVector = true by decide)
    · exact (show (SemLoc.dma cc0_scratch5.sem : SemLoc sig).isScoped .scVector = true by decide)
    · exact (show (SemLoc.dma cc0_scratch6.sem : SemLoc sig).isScoped .scVector = true by decide)
  refine (SparseCore.bigSep_sdiff_split' hsub).trans ?_
  rw [SparseCore.bigSep_image_of_injOn (fun a _ b _ h => congrArg Prod.snd h)]
  unfold tileSems
  rw [SparseCore.bigSep_insert' (by decide), SparseCore.bigSep_insert' (by decide), SparseCore.bigSep_insert' (by decide),
    SparseCore.bigSep_insert' (by decide), bigSep_singleton]
  rfl

end

end Cert.Proof.Kern

end
-- ==== Proof.Launch.lean ====
/-
The launch: what each tile is handed and hands back, how the arrays split among the tiles, the host operations before and
after the call, and the run of the whole program.
-/
module

public import proofs.«01_k».proof.Proof.Tile

@[expose] public section

noncomputable section

namespace Cert.Proof.Kern

open Cert.KernelIdeal Cert.KernelIdeal.Gen Cert.Proof.Body
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds
open Idealize.ShloMosaic.StableHlo (held seq after tcRefs)

variable {F : FTy → Type} [FloatOps F] [Named F]

/-! ### The host operations -/

/-- The operations before the call. -/
def preOps : List (HloOp τ sig (Elt F)) :=
  [StableHlo.unary main_arg0 main_v0 ((extractStridedSlice S2x512x1x3 ![0, 0, 1, 0] · slices_S2x512x14x3_S2x512x1x3_0_0_1_0) :
      (⟨S2x512x14x3, .f32⟩ : BufTy).Contents (Elt F) → (⟨S2x512x1x3, .f32⟩ : BufTy).Contents (Elt F)),
    StableHlo.reshape main_v0 main_v1 (rfl : (.f32 : EltTy) = .f32) shapeCasts_S2x512x1x3_S2x512x3,
    StableHlo.unary main_arg1 main_v2 ((extractStridedSlice S2x512x1 ![0, 0, 1] · slices_S2x512x14_S2x512x1_0_0_1) :
      (⟨S2x512x14, .f32⟩ : BufTy).Contents (Elt F) → (⟨S2x512x1, .f32⟩ : BufTy).Contents (Elt F)),
    StableHlo.reshape main_v2 main_v3 (rfl : (.f32 : EltTy) = .f32) shapeCasts_S2x512x1_S2x512,
    StableHlo.unary main_v1 main_v4 ((transpose S2x3x512 [0, 2, 1] · transposes_S2x512x3_S2x3x512_0_2_1) :
      (⟨S2x512x3, .f32⟩ : BufTy).Contents (Elt F) → (⟨S2x3x512, .f32⟩ : BufTy).Contents (Elt F)),
    StableHlo.reshape main_v4 main_v5 (rfl : (.f32 : EltTy) = .f32) shapeCasts_S2x3x512_S3072,
    StableHlo.reshape main_v3 main_v6 (rfl : (.f32 : EltTy) = .f32) shapeCasts_S2x512_S1024,
    StableHlo.nullary main_cst (constant S_ .f32 0x00000000#32),
    StableHlo.unary main_cst main_v7 (broadcastInDim S1x128 ![] bcast_S_S1x128 :
      (⟨S_, .f32⟩ : BufTy).Contents (Elt F) → (⟨S1x128, .f32⟩ : BufTy).Contents (Elt F)),
    StableHlo.binary main_arg2 main_v7 main_v8
      ((fun a b => concatenate S19x128 0 [⟨S18x128, a⟩, ⟨S1x128, b⟩] concatenates_S18x128_S1x128_S19x128_d0) :
      (⟨S18x128, .f32⟩ : BufTy).Contents (Elt F) → (⟨S1x128, .f32⟩ : BufTy).Contents (Elt F) →
        (⟨S19x128, .f32⟩ : BufTy).Contents (Elt F)),
    StableHlo.reshape main_v8 main_v9 (rfl : (.f32 : EltTy) = .f32) shapeCasts_S19x128_S2432]

/-- The operation after it. -/
def postOps : List (HloOp τ sig (Elt F)) :=
  [StableHlo.reshape main_v10 main_v11 (rfl : (.f32 : EltTy) = .f32) shapeCasts_S524288x128_S2x512x512x128]

theorem main_eq (d : Dev nD) : main (F := F) d
    = (seq preOps >>= fun _ => sc.run d 0 >>= fun _ => seq postOps >>= fun _ => pure ⟨⟩) := by
  simp only [main, preOps, postOps, seq, bind_assoc, pure_bind]

theorem pre_bufs : ∀ op ∈ preOps (F := F), op.bufs ⊆ tcRefs τ sig := by
  unfold preOps
  simp only [List.forall_mem_cons, List.not_mem_nil, false_imp_iff, implies_true, and_true]
  exact ⟨StableHlo.unary_bufs_sub .., StableHlo.reshape_bufs_sub .., StableHlo.unary_bufs_sub .., StableHlo.reshape_bufs_sub ..,
    StableHlo.unary_bufs_sub .., StableHlo.reshape_bufs_sub .., StableHlo.reshape_bufs_sub .., StableHlo.nullary_bufs_sub ..,
    StableHlo.unary_bufs_sub .., StableHlo.binary_bufs_sub .., StableHlo.reshape_bufs_sub ..⟩

theorem post_bufs : ∀ op ∈ postOps (F := F), op.bufs ⊆ tcRefs τ sig := by
  unfold postOps
  simp only [List.forall_mem_cons, List.not_mem_nil, false_imp_iff, implies_true, and_true]
  exact StableHlo.reshape_bufs_sub ..

theorem pre_fresh : ∀ op ∈ preOps (F := F), op.fresh = ∅ := by
  unfold preOps
  simp only [List.forall_mem_cons, List.not_mem_nil, false_imp_iff, implies_true, and_true]
  exact ⟨rfl, rfl, rfl, rfl, rfl, rfl, rfl, rfl, rfl, rfl, rfl⟩
theorem post_fresh : ∀ op ∈ postOps (F := F), op.fresh = ∅ := by
  unfold postOps
  simp only [List.forall_mem_cons, List.not_mem_nil, false_imp_iff, implies_true, and_true]
  rfl

abbrev tcB (b : Ref sig .tc) : DevRef τ sig := Proc.devRef .tc b

variable (m : (ℓ : Loc nD τ sig) → Buf (Elt F) ℓ) (ρ : Dev nD → PrngReg)

/-- The arrays at the start, and at the call. -/
def atStart (d : Dev nD) : Valuation τ sig (Elt F) := fun b => m (d, b)
def atCall (d : Dev nD) : Valuation τ sig (Elt F) := after preOps (atStart m d)

/-- What the call reads: the coordinates, the mask, the table. -/
def coords (d : Dev nD) : S3072.Idx → F .f32 := atCall m d (tcB main_v5)
def cmask (d : Dev nD) : S1024.Idx → F .f32 := atCall m d (tcB main_v6)
def table (d : Dev nD) : S2432.Idx → F .f32 := atCall m d (tcB main_v9)
/-- What the call writes. -/
def result (d : Dev nD) : S524288x128.Idx → F .f32 := outVal (coords m d) (cmask m d) (table m d)

/-- The arrays after the call, and at the end. -/
def afterCall (d : Dev nD) : Valuation τ sig (Elt F) := Function.update (atCall m d) (tcB main_v10) (result m d)
def atEnd (d : Dev nD) : Valuation τ sig (Elt F) := after postOps (afterCall m d)

/-! ### What a tile is handed -/

def coordsV (c : Fin 2) (s : Fin 16) : grid0.Coords :=
  fun | 0 => c | 1 => s | ⟨_ + 2, h⟩ => absurd h (Nat.not_lt.2 (Nat.le_add_left _ _))

/-- The share of an array every tile reads that a tile holds. -/
def tileShare (c : Fin 2) (s : Fin 16) : PosShare TreeShare := dealOf (dealOf fullShare Finset.univ c) Finset.univ s

/-- The rows of a tile, and those of a core. -/
def tileRows (c : Fin 2) (s : Fin 16) : Finset S524288x128.Idx :=
  rowsSet ((2 * s.val + c.val) * 16384) ((2 * s.val + c.val) * 16384 + 16384)
def coreRows (c : Fin 2) : Finset S524288x128.Idx := Finset.univ.biUnion (tileRows c)

/-- What a tile is handed, and hands back: its shares of the three inputs, and its rows of the output, at `f`. -/
def tilePts (d : Dev nD) (f : S524288x128.Idx → F .f32) (c : Fin 2) (s : Fin 16) : sProp (MM F) :=
  iprop(((SparseCore.T d).loc main_v5 ↦{tileShare c s} coords m d) ∗ ((SparseCore.T d).loc main_v6 ↦{tileShare c s} cmask m d)
    ∗ ((SparseCore.T d).loc main_v9 ↦{tileShare c s} table m d) ∗ ((SparseCore.T d).loc main_v10 ↦[tileRows c s]{fullShare} f))

/-- The output as the call finds it. -/
def found (d : Dev nD) : S524288x128.Idx → F .f32 := atCall m d (tcB main_v10)

theorem nCore_zero : (K (F := F)).nCore 0 = 2 := rfl
theorem nSub_zero : (K (F := F)).nSub 0 = 16 := rfl

/-- What the call's threads hand each other. -/
def P : (K (F := F)).Pay (nD := nD) (Val := Elt F) (Name := ℕ) (U := UU) where
  st := fun q d c => match q with | 0 => bigSep Finset.univ fun s => tilePts m d (found m d) (Fin.cast nCore_zero c) s
  dn := fun q d c => match q with | 0 => bigSep Finset.univ fun s => tilePts m d (result m d) (Fin.cast nCore_zero c) s
  go := fun q d c i => match q with | 0 => tilePts m d (found m d) (Fin.cast nCore_zero c) (Fin.cast nSub_zero i)
  td := fun q d c i => match q with | 0 => tilePts m d (result m d) (Fin.cast nCore_zero c) (Fin.cast nSub_zero i)
  x := fun _ _ => iprop(emp)

instance tilePts_storable (d : Dev nD) (f : S524288x128.Idx → F .f32) (c : Fin 2) (s : Fin 16) :
    BI.Storable (upEmb : UEmb _ (MM F)) (tilePts m d f c s) := by unfold tilePts; infer_instance

instance P_storable : (P (F := F) m).IsStorable where
  st q d c := match q with | 0 => (inferInstance : BI.Storable (upEmb : UEmb _ (MM F)) (bigSep Finset.univ fun s => tilePts m d (found m d) (Fin.cast nCore_zero c) s))
  dn q d c := match q with | 0 => (inferInstance : BI.Storable (upEmb : UEmb _ (MM F)) (bigSep Finset.univ fun s => tilePts m d (result m d) (Fin.cast nCore_zero c) s))
  go q d c i := match q with | 0 => tilePts_storable m d _ _ _
  td q d c i := match q with | 0 => tilePts_storable m d _ _ _

/-! ### The tile -/

/-- The tile's run, from what the launch hands it. -/
theorem tile_body (d : Dev nD) (c : Fin 2) (s : Fin 16) (O : CellTallies nD τ sig (HIx 1)) (W : Waits sig (HIx 1))
    (hO : ∀ g, O g none = 0) :
    iprop(levAts (K (F := F)).L (K (F := F)).lev ∗ emp ∗ tilePts m d (found m d) c s
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ
          (cc0_kern (F := F) (coordsV c s) csH (Memref.isWhole_whole _) msH (Memref.isWhole_whole _) tbH (Memref.isWhole_whole _)
            outH (Memref.isWhole_whole _) csV (Memref.isWhole_whole _) msV (Memref.isWhole_whole _) tbV (Memref.isWhole_whole _)
            bufA (Memref.isWhole_whole _) bufB (Memref.isWhole_whole _) cc0_scratch5 cc0_scratch6 cc0_scoped0 cc0_scoped1 cc0_scoped2)
          fun _ => iprop(tilePts m d (result m d) c s ∗ scopedBufs (thr d (coordsV c s)) ∗ scopedSems0 (thr d (coordsV c s))
            ∗ ∃ W', ⌜∀ p ∈ W', p ∈ W ∨ p.2 = none⌝ ∗ owes (thr d (coordsV c s)) O W') := by
  rw [(K (F := F)).scopedBufs_V facts d (cV (coordsV c s)) (jV (coordsV c s)),
    SparseCore.Cfg.scopedSems0_V (Val := Elt F) d (cV (coordsV c s)) (jV (coordsV c s)), ownSems0_V, ownBufs_V]
  unfold tilePts
  iintro ⟨#Hlv, -, ⟨Hc, Hm, Ht, Ho⟩, ⟨⟨⟨%f0, H0⟩, ⟨%f1, H1⟩, ⟨%f2, H2⟩, HA, HB⟩, Hbufs⟩, ⟨⟨Hv0, Hv1, Hv2, HvA, HvB⟩, Hsems⟩, HO⟩
  ihave #Hmw := ((K (F := F)).mayWaits_none (thr := thr d (coordsV c s)) hO) $$ Hlv
  iapply (kern_spec d (coordsV c s) (coords m d) (cmask m d) (table m d) (found m d) f0 f1 f2 O W _ _ _ _ _ _ _ _ _ _)
    $$ [Hc Hm Ht Ho H0 H1 H2 HA HB Hv0 Hv1 Hv2 HvA HvB HO]
  · isplitr; · iexact Hmw
    isplitl [Hc Hm Ht]
    · isplitl [Hc]; · iexact Hc
      isplitl [Hm]; · iexact Hm
      iexact Ht
    isplitl [H0 H1 H2]
    · isplitl [H0]; · iexact H0
      isplitl [H1]; · iexact H1
      iexact H2
    isplitl [Hv0 Hv1 Hv2]
    · isplitl [Hv0]; · iexact Hv0
      isplitl [Hv1]; · iexact Hv1
      iexact Hv2
    isplitl [HA HvA]
    · isplitl [HA]; · iexact HA
      iexact HvA
    isplitl [HB HvB]
    · isplitl [HB]; · iexact HB
      iexact HvB
    isplitl [Ho]; · iexact Ho
    iexists W
    isplitr [HO]
    · ipureintro; exact fun p hp => .inl hp
    · iexact HO
  iintro ⟨⟨Hc, Hm, Ht⟩, ⟨H0, H1, H2⟩, ⟨Hv0, Hv1, Hv2⟩, ⟨HA, HvA⟩, ⟨HB, HvB⟩, Ho, HO⟩
  isplitl [Hc Hm Ht Ho]
  · isplitl [Hc]; · iexact Hc
    isplitl [Hm]; · iexact Hm
    isplitl [Ht]; · iexact Ht
    iexact Ho
  isplitl [H0 H1 H2 HA HB Hbufs]
  · isplitr [Hbufs]
    · isplitl [H0]; · iexact H0
      isplitl [H1]; · iexact H1
      isplitl [H2]; · iexact H2
      isplitl [HA]; · iexact HA
      iexact HB
    · iexact Hbufs
  isplitl [Hv0 Hv1 Hv2 HvA HvB Hsems]
  · isplitr [Hsems]
    · isplitl [Hv0]; · iexact Hv0
      isplitl [Hv1]; · iexact Hv1
      isplitl [Hv2]; · iexact Hv2
      isplitl [HvA]; · iexact HvA
      iexact HvB
    · iexact Hsems
  iexact HO

theorem defs₀_vector (c : Fin τ.nSC) (j : Fin τ.nSub) :
    defs₀ (F := F) (.scVector c j) 0 ()
      = SparseCore.onTile hcore0 hsub0 (fun c s =>
          cc0_kern (F := F) (coordsV c s) csH (Memref.isWhole_whole _) msH (Memref.isWhole_whole _) tbH (Memref.isWhole_whole _)
            outH (Memref.isWhole_whole _) csV (Memref.isWhole_whole _) msV (Memref.isWhole_whole _) tbV (Memref.isWhole_whole _)
            bufA (Memref.isWhole_whole _) bufB (Memref.isWhole_whole _) cc0_scratch5 cc0_scratch6 cc0_scoped0 cc0_scoped1 cc0_scoped2)
          ⟨⟩ c j := rfl

/-- A wait beside those recorded may also be one of the call's. -/
theorem tile_post {t : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body m d (Fin.cast nCore_zero c) (Fin.cast nSub_zero i) O W hO).trans (wp_mono frame _ _ fun _ => tile_post)

/-- A core's tiles share what the core is handed. -/
theorem vecSplit : (K (F := F)).VecSplit' (P m) 0 := by
  intro d c
  show (bigSep Finset.univ fun s : Fin 16 => tilePts m d (found m d) (Fin.cast nCore_zero c) s) ⊢ |={Set.univ}=> iprop(
    (bigSep Finset.univ fun s : Fin 16 => tilePts m d (found m d) (Fin.cast nCore_zero c) s)
    ∗ ((bigSep Finset.univ fun s : Fin 16 => tilePts m d (result m d) (Fin.cast nCore_zero c) s)
      -∗ (bigSep Finset.univ fun s : Fin 16 => tilePts m d (result m d) (Fin.cast nCore_zero c) s)))
  iintro H
  imodintro
  isplitl [H]; · iexact H
  iintro H
  iexact H

/-! ### The arrays split among the tiles -/

theorem share_split {ℓ : Loc nD τ sig} (f : Buf (Elt F) ℓ) :
    (ℓ ↦{fullShare} f : sProp (MM F))
      = bigSep Finset.univ fun c : Fin 2 => bigSep Finset.univ fun s : Fin 16 => ℓ ↦{tileShare c s} f := by
  rw [pointsTo_deal (Finset.univ : Finset (Fin 2)) Finset.univ_nonempty fullShare]
  exact bigSep_congr fun c _ => pointsTo_deal (Finset.univ : Finset (Fin 16)) Finset.univ_nonempty _

theorem tileRows_disjoint (c : Fin 2) : ∀ s ∈ (Finset.univ : Finset (Fin 16)), ∀ s' ∈ (Finset.univ : Finset (Fin 16)), s ≠ s' →
    Disjoint (tileRows c s) (tileRows c s') := by
  intro s _ s' _ h
  refine Finset.disjoint_left.mpr fun x hx hx' => h (Fin.ext ?_)
  unfold tileRows at hx hx'
  rw [mem_rowsSet] at hx hx'
  omega

theorem mem_coreRows {c : Fin 2} {x : S524288x128.Idx} : x ∈ coreRows c ↔ ((x 0).val / 16384) % 2 = c.val := by
  have hx : (x 0).val < 524288 := (x 0).isLt
  unfold coreRows tileRows
  rw [Finset.mem_biUnion]
  constructor
  · rintro ⟨s, -, h⟩
    rw [mem_rowsSet] at h
    omega
  · intro h
    refine ⟨⟨(x 0).val / 32768, by omega⟩, Finset.mem_univ _, ?_⟩
    rw [mem_rowsSet]
    show (2 * ((x 0).val / 32768) + c.val) * 16384 ≤ (x 0).val ∧ (x 0).val < (2 * ((x 0).val / 32768) + c.val) * 16384 + 16384
    omega

theorem coreRows_disjoint : ∀ c ∈ (Finset.univ : Finset (Fin 2)), ∀ c' ∈ (Finset.univ : Finset (Fin 2)), c ≠ c' →
    Disjoint (coreRows c) (coreRows c') := by
  intro c _ c' _ h
  refine Finset.disjoint_left.mpr fun x hx hx' => h (Fin.ext ?_)
  rw [mem_coreRows] at hx hx'
  omega

theorem coreRows_cover : (Finset.univ : Finset (Fin 2)).biUnion coreRows = Finset.univ := by
  ext x
  simp only [Finset.mem_biUnion, Finset.mem_univ, true_and, iff_true]
  exact ⟨⟨((x 0).val / 16384) % 2, by omega⟩, mem_coreRows.mpr rfl⟩

theorem rows_split (d : Dev nD) (f : Buf (Elt F) ((SparseCore.T d).loc main_v10)) :
    ((SparseCore.T d).loc main_v10 ↦{fullShare} f : sProp (MM F))
      = bigSep Finset.univ fun c : Fin 2 => bigSep Finset.univ fun s : Fin 16 =>
          ((SparseCore.T d).loc main_v10 ↦[tileRows c s]{fullShare} f) := by
  have h : ((SparseCore.T d).loc main_v10 ↦{fullShare} f : sProp (MM F))
      = ((SparseCore.T d).loc main_v10 ↦[(Finset.univ : Finset (Fin 2)).biUnion coreRows]{fullShare} f) := by
    rw [coreRows_cover]
  rw [h, pointsTo_biUnion Finset.univ (ℓ := (SparseCore.T d).loc main_v10) coreRows coreRows_disjoint]
  refine bigSep_congr fun c _ => ?_
  unfold coreRows
  exact pointsTo_biUnion Finset.univ (ℓ := (SparseCore.T d).loc main_v10) (tileRows c) (tileRows_disjoint c)

/-- The arrays of the call, whole, are what its tiles are handed. -/
theorem all_tiles (d : Dev nD) (f : S524288x128.Idx → F .f32) :
    (bigSep Finset.univ fun c : Fin 2 => bigSep Finset.univ fun s : Fin 16 => tilePts m d f c s)
      = iprop(((SparseCore.T d).loc main_v5 ↦{fullShare} coords m d) ∗ ((SparseCore.T d).loc main_v6 ↦{fullShare} cmask m d)
        ∗ ((SparseCore.T d).loc main_v9 ↦{fullShare} table m d) ∗ ((SparseCore.T d).loc main_v10 ↦{fullShare} f)) := by
  unfold tilePts
  rw [share_split (ℓ := (SparseCore.T d).loc main_v5), share_split (ℓ := (SparseCore.T d).loc main_v6),
    share_split (ℓ := (SparseCore.T d).loc main_v9), rows_split]
  simp only [bigSep_sep']

theorem st0_eq (d : Dev nD) : (bigSep Finset.univ fun c : Fin ((K (F := F)).nCore 0) => (P m).st 0 d c)
    = bigSep Finset.univ fun c : Fin 2 => bigSep Finset.univ fun s : Fin 16 => tilePts m d (found m d) c s := rfl
theorem dn0_eq (d : Dev nD) : (bigSep Finset.univ fun c : Fin ((K (F := F)).nCore 0) => (P m).dn 0 d c)
    = bigSep Finset.univ fun c : Fin 2 => bigSep Finset.univ fun s : Fin 16 => tilePts m d (result m d) c s := rfl

/-! ### The launch element -/

def u₀ : UU := (initOf (K (F := F)).hsCells (K (F := F)).hsToks, 1)

theorem bigSep_nothing {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave ⟨HH, -⟩ := (ownU_pair _ _) $$ Hu
  imodintro
  isplitl [HH]; · iexact HH
  isplitr; · rw [bigSep_nothing]; iempintro
  unfold P
  dsimp only
  rw [show (bigSep Finset.univ fun _ : Thread nD τ => bigSep Finset.univ fun _ : Fin 1 => (iprop(emp) : sProp (MM F))) = iprop(emp) from by
    rw [bigSep_congr fun _ _ => bigSep_nothing _, bigSep_nothing]]
  iempintro

/-! ### The host program -/

theorem unscoped_held (d : Dev nD) :
    (unscopedBufs d (fun b => m ((SparseCore.T d).loc b)) : sProp (MM F)) = held (SparseCore.T d) (tcRefs τ sig) (atStart m d) := by
  unfold unscopedBufs held StableHlo.tcRefs
  rw [show (Finset.univ.filter fun b : Ref sig .tc => ¬ b.isScoped) = Finset.univ by decide, bigSep_map]
  rfl

/-- The arrays of the call. -/
abbrev callRefs : Finset (DevRef τ sig) := {tcB main_v5, tcB main_v6, tcB main_v9, tcB main_v10}

theorem callRefs_sub : callRefs ⊆ tcRefs τ sig :=
  Finset.insert_subset (StableHlo.devRef_mem_tcRefs _) (Finset.insert_subset (StableHlo.devRef_mem_tcRefs _)
    (Finset.insert_subset (StableHlo.devRef_mem_tcRefs _) (Finset.singleton_subset_iff.mpr (StableHlo.devRef_mem_tcRefs _))))

/-- Some of the arrays held, and the rest. -/
theorem held_part {A B : Finset (DevRef τ sig)} (h : A ⊆ B) (d : Dev nD) (W : Valuation τ sig (Elt F)) :
    (held (SparseCore.T d) B W : sProp (MM F)) = iprop(held (SparseCore.T d) A W ∗ held (SparseCore.T d) (B \ A) W) :=
  SparseCore.bigSep_sdiff_split' h

theorem held_callRefs (d : Dev nD) (W : Valuation τ sig (Elt F)) :
    (held (SparseCore.T d) callRefs W : sProp (MM F))
      = iprop(((SparseCore.T d).loc main_v5 ↦{fullShare} W (tcB main_v5)) ∗ ((SparseCore.T d).loc main_v6 ↦{fullShare} W (tcB main_v6))
        ∗ ((SparseCore.T d).loc main_v9 ↦{fullShare} W (tcB main_v9)) ∗ ((SparseCore.T d).loc main_v10 ↦{fullShare} W (tcB main_v10))) := by
  unfold held callRefs
  rw [SparseCore.bigSep_insert' (by decide), SparseCore.bigSep_insert' (by decide), SparseCore.bigSep_insert' (by decide),
    bigSep_singleton]

theorem held_atCall (d : Dev nD) :
    (held (SparseCore.T d) (tcRefs τ sig) (atCall m d) : sProp (MM F))
      = iprop((bigSep Finset.univ fun c : Fin 2 => bigSep Finset.univ fun s : Fin 16 => tilePts m d (found m d) c s)
        ∗ held (SparseCore.T d) (tcRefs τ sig \ callRefs) (atCall m d)) := by
  rw [held_part callRefs_sub, held_callRefs, all_tiles]
  rfl

theorem held_afterCall (d : Dev nD) :
    (held (SparseCore.T d) (tcRefs τ sig) (afterCall m d) : sProp (MM F))
      = iprop((bigSep Finset.univ fun c : Fin 2 => bigSep Finset.univ fun s : Fin 16 => tilePts m d (result m d) c s)
        ∗ held (SparseCore.T d) (tcRefs τ sig \ callRefs) (atCall m d)) := by
  rw [held_part callRefs_sub, held_callRefs, all_tiles]
  unfold afterCall
  rw [Function.update_of_ne (show tcB main_v5 ≠ tcB main_v10 by decide), Function.update_of_ne (show tcB main_v6 ≠ tcB main_v10 by decide),
    Function.update_of_ne (show tcB main_v9 ≠ tcB main_v10 by decide), Function.update_self]
  have h : (held (SparseCore.T d) (tcRefs τ sig \ callRefs) (Function.update (atCall m d) (tcB main_v10) (result m d)) : sProp (MM F))
      = held (SparseCore.T d) (tcRefs τ sig \ callRefs) (atCall m d) := by
    unfold held
    refine bigSep_congr fun b hb => ?_
    rw [Function.update_of_ne]
    rintro rfl
    exact (Finset.mem_sdiff.mp hb).2 (by decide)
  rw [h]
  rfl

/-- The arrays the claim speaks of. -/
abbrev endRefs : Finset (DevRef τ sig) := {tcB main_arg0, tcB main_arg1, tcB main_arg2, tcB main_v11}

theorem endRefs_sub : endRefs ⊆ tcRefs τ sig :=
  Finset.insert_subset (StableHlo.devRef_mem_tcRefs _) (Finset.insert_subset (StableHlo.devRef_mem_tcRefs _)
    (Finset.insert_subset (StableHlo.devRef_mem_tcRefs _) (Finset.singleton_subset_iff.mpr (StableHlo.devRef_mem_tcRefs _))))

/-- What the host program leaves. -/
abbrev FIN (d : Dev nD) : sProp (MM F) := held (SparseCore.T d) endRefs (atEnd m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d (tcRefs τ sig) _ preOps pre_bufs pre_fresh (atStart m d)) $$ [Hb Hheld]
  · isplitl [Hb]; · iexact Hb
    iexact Hheld
  iintro ⟨Hb, Hheld⟩
  ihave Hheld := (Entails.of_eq (show (held d.tc (tcRefs τ sig) (after preOps (atStart m d)) : sProp (MM F))
    = held (SparseCore.T d) (tcRefs τ sig) (atCall m d) from rfl)) $$ Hheld
  ihave ⟨Hcall, Hrest⟩ := (Entails.of_eq (held_atCall m d)) $$ Hheld
  rw [wp_bind]
  iapply ((K (F := F)).wp_run (D (F := F)) 𝒱 (EH := EH) (P := P m) κ d 0) $$ [Hst Hcall Hb Hrest Hts]
  isplitr; · iexact Hctx
  isplitl [Hst]; · iexact Hst
  isplitl [Hcall]
  · rw [st0_eq]; iexact Hcall
  iintro ⟨Hst, Hdn⟩
  ihave Hdn := (Entails.of_eq (dn0_eq m d)) $$ Hdn
  iapply (StableHlo.wp_seq 𝒱 none Set.univ d (tcRefs τ sig) _ postOps post_bufs post_fresh (afterCall m d)) $$ [Hb Hdn Hrest]
  · isplitl [Hb]; · iexact Hb
    iapply (Entails.of_eq (held_afterCall m d).symm)
    isplitl [Hdn]; · iexact Hdn
    iexact Hrest
  iintro ⟨Hb, Hheld⟩
  ihave Hheld := (Entails.of_eq (show (held d.tc (tcRefs τ sig) (after postOps (afterCall m d)) : sProp (MM F))
    = held (SparseCore.T d) (tcRefs τ sig) (atEnd m d) from rfl)) $$ Hheld
  ihave ⟨Hend, -⟩ := (Entails.of_eq (held_part endRefs_sub d (atEnd m d))) $$ Hheld
  rw [wp_pure]
  imodintro
  isplitl [Hst]; · iexact Hst
  isplitl [Hend]; · iexact Hend
  isplitl [Hb] <;> iassumption

/-- What the end of the run shows. -/
def fq (d : Dev nD) (s' : Phys nD τ sig (Elt F)) : Prop := ∀ b ∈ endRefs, s'.mem.mem (d, b) = atEnd m d b

theorem hfin_at (d : Dev nD) (s' : Phys nD τ sig (Elt F)) (b : DevRef τ sig) (hb : b ∈ endRefs) :
    iprop(FIN m d ∗ SI s') ⊢ (⌜s'.mem.mem (d, b) = atEnd m d b⌝ : sProp (MM F)) := by
  unfold FIN held
  rw [SparseCore.bigSep_erase' hb]
  iintro ⟨⟨Hx, -⟩, HSI⟩
  ihave H := (SI_pointsTo_agree (st := s') (ℓ := (d, b)) (I := Finset.univ) (q := fullShare) (f := atEnd m d b)) $$ [HSI Hx]
  · isplitl [HSI] <;> iassumption
  icases H with %hx
  ipureintro
  exact funext fun i => hx i (Finset.mem_univ i)

theorem hfin (d : Dev nD) (s' : Phys nD τ sig (Elt F)) : iprop(FIN m d ∗ SI s') ⊢ (⌜fq m d s'⌝ : sProp (MM F)) := by
  refine (forall_intro (Φ := fun b => iprop(⌜b ∈ endRefs → s'.mem.mem (d, b) = atEnd m d b⌝)) fun b => ?_).trans pure_forall.2
  by_cases hb : b ∈ endRefs
  · exact (hfin_at m d s' b hb).trans (Laws.pure_mono fun h _ => h)
  · exact BIClass.pure_intro fun h => absurd h hb

/-- The program's run. -/
def QC : PUnit × MemSt nD τ sig (Elt F) → Prop :=
  fun r => (∀ c : Dev nD, ∀ b ∈ endRefs, r.2.mem (c, b) = atEnd m c b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨h, hz⟩)

end Cert.Proof.Kern

end
-- ==== Proof.Frames.lean ====
/-
The programs run to the end, leave their arguments as they found them, and leave every semaphore at zero.
-/
module

public import proofs.«01_k».proof.Defs
public import proofs.«01_k».proof.Proof.Launch
public import proofs.«01_k».proof.Proof.Gen.Kernel

@[expose] public section

noncomputable section

namespace Cert.Proof.Kern

open Cert.KernelIdeal Cert.KernelIdeal.Gen
open Idealize.ShloMosaic
open Idealize.ShloMosaic.StableHlo (seq after)

section
variable {F : FTy → Type} [FloatOps F] [Named F]
variable (m : (ℓ : Loc nD τ sig) → Buf (Elt F) ℓ)

/-- The references the host operations write. -/
theorem pre_writes : (preOps (F := F)).Forall fun op => op.writes ⊆ (([main_v0, main_v1, main_v2, main_v3, main_v4, main_v5, main_v6,
    main_cst, main_v7, main_v8, main_v9] : List (Ref sig .tc)).map (Proc.devRef (τ := τ) .tc)).toFinset :=
  StableHlo.forall_writes_sub_of_map rfl
theorem post_writes : (postOps (F := F)).Forall fun op => op.writes ⊆ (([main_v11] : List (Ref sig .tc)).map (Proc.devRef (τ := τ) .tc)).toFinset :=
  StableHlo.forall_writes_sub_of_map rfl

/-- An array no operation writes ends as it started. -/
theorem atEnd_kept (d : Dev nD) (r : Ref sig .tc) (h1 : r ∉ ([main_v0, main_v1, main_v2, main_v3, main_v4, main_v5, main_v6,
    main_cst, main_v7, main_v8, main_v9] : List (Ref sig .tc))) (h2 : r ∉ ([main_v11] : List (Ref sig .tc))) (h3 : r ≠ main_v10) :
    atEnd m d (tcB r) = m (d, tcB r) := by
  unfold atEnd
  rw [StableHlo.after_of_writes_sub postOps _ post_writes h2]
  unfold afterCall
  rw [Function.update_of_ne (StableHlo.devRef_ne_of_ne h3)]
  unfold atCall
  rw [StableHlo.after_of_writes_sub preOps _ pre_writes h1]
  rfl

theorem kept_of_QC {r : PUnit × MemSt nD τ sig (Elt F)} (h : QC m r) :
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  ⟨fun c => ⟨(h.1 c (tcB main_arg0) (by decide)).trans (atEnd_kept m c main_arg0 (by decide) (by decide) (by decide)),
    (h.1 c (tcB main_arg1) (by decide)).trans (atEnd_kept m c main_arg1 (by decide) (by decide) (by decide)),
    (h.1 c (tcB main_arg2) (by decide)).trans (atEnd_kept m c main_arg2 (by decide) (by decide) (by decide))⟩, h.2⟩

end

theorem frame_kernelIdeal : Cert.quiescent_KernelIdeal := fun m g _ =>
  (θ_run Cert.KernelIdeal.defs _ _).mono (fun _ h => kept_of_QC m h) (run_main (F := Ideal) m g)

/-- On the machine's numbers a named constant is its word. -/
instance namedBits : Named Bits where
  named _ _ {φ} b := FloatOps.ofBits φ b

end Cert.Proof.Kern

end
-- ==== Proof.FrameKernel.lean ====
/-
The kernel on the machine's numbers: the same text as the kernel with named constants, each constant its word.
-/
module

public import proofs.«01_k».proof.Proof.Frames

@[expose] public section

set_option maxRecDepth 65536
set_option maxHeartbeats 40000000

noncomputable section

namespace Cert.Proof.Kern

open Idealize.ShloMosaic

theorem frame_kernel : Cert.quiescent_Kernel := fun m g _ =>
  (θ_run Cert.KernelIdeal.defs _ _).mono (fun _ h => kept_of_QC m h) (run_main (F := Bits) m g)

end Cert.Proof.Kern

end
-- ==== Proof.Others.lean ====
/-
The other claims that need no value: the reference's frame, and the seventeen named constants.
-/
module

public import proofs.«01_k».proof.Defs
public import proofs.«01_k».proof.Proof.Gen.ReferenceIdeal.Run
public import Idealize.ShloMosaic.Lib.Quiescent

@[expose] public section

noncomputable section

namespace Cert.Proof

open Idealize.ShloMosaic

/-- The reference keeps its arguments; it has no counters. -/
theorem frame_referenceIdeal : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

open IdealRules.named_const (statement) in
/-- Each named threshold has its value. -/
theorem preserves_kernel : Cert.preserves_Kernel_KernelIdeal :=
  ⟨statement _ _ _ _ _ rfl, statement _ _ _ _ _ rfl, statement _ _ _ _ _ rfl, statement _ _ _ _ _ rfl, statement _ _ _ _ _ rfl,
    statement _ _ _ _ _ rfl, statement _ _ _ _ _ rfl, statement _ _ _ _ _ rfl, statement _ _ _ _ _ rfl, statement _ _ _ _ _ rfl,
    statement _ _ _ _ _ rfl, statement _ _ _ _ _ rfl, statement _ _ _ _ _ rfl, statement _ _ _ _ _ rfl, statement _ _ _ _ _ rfl,
    statement _ _ _ _ _ rfl, statement _ _ _ _ _ rfl⟩

end Cert.Proof

end
-- ==== Proof.PreFrames.lean ====
/-
The frames under the precondition: those without it.
-/
module

public import proofs.«01_k».proof.Proof.Frames
public import proofs.«01_k».proof.Proof.Others

@[expose] public section

noncomputable section

namespace Cert.Proof

open Idealize.ShloMosaic

theorem frame_kernelIdeal_pre [Cert.Pre_mask_is_binary.Facts] : Cert.quiescent_KernelIdeal_pre_mask_is_binary := fun m g _ =>
  Kern.frame_kernelIdeal m g trivial
theorem frame_referenceIdeal_pre [Cert.Pre_mask_is_binary.Facts] : Cert.quiescent_ReferenceIdeal_pre_mask_is_binary := fun m g _ =>
  frame_referenceIdeal m g trivial

end Cert.Proof

end
-- ==== Proof.KernVal.lean ====
/-
What the kernel reads and writes, at an index, in terms of the program's three arguments.
-/
module

public import proofs.«01_k».proof.Proof.Launch
public import Idealize.ShloMosaic.Lib.Pointwise
public import Idealize.ShloMosaic.Lib.Pipeline.Value

@[expose] public section

noncomputable section

namespace Cert.Proof.Kern

open Cert.KernelIdeal Cert.KernelIdeal.Gen Cert.Proof.Body Cert.Proof.Bin
open Idealize.ShloMosaic
open Idealize.ShloMosaic.StableHlo (after)

variable {F : FTy → Type} [FloatOps F] [Named F] (m : (ℓ : Loc nD τ sig) → Buf (Elt F) ℓ) (d : Dev nD)

/-- The program's arguments. -/
abbrev arg0 : FVec F S2x512x14x3 .f32 := m (d, tcB main_arg0)
abbrev arg1 : FVec F S2x512x14 .f32 := m (d, tcB main_arg1)
abbrev arg2 : FVec F S18x128 .f32 := m (d, tcB main_arg2)

/-! ### What the host operations compute -/

theorem coords_eq : coords m d = shapeCast S3072 (transpose S2x3x512 [0, 2, 1] (shapeCast S2x512x3
    (extractStridedSlice S2x512x1x3 ![0, 0, 1, 0] (arg0 m d) slices_S2x512x14x3_S2x512x1x3_0_0_1_0) shapeCasts_S2x512x1x3_S2x512x3)
    transposes_S2x512x3_S2x3x512_0_2_1) shapeCasts_S2x3x512_S3072 := by
  unfold coords atCall
  simp only [preOps]
  after_results_simp <;> rfl

theorem cmask_eq : cmask m d = shapeCast S1024 (shapeCast S2x512
    (extractStridedSlice S2x512x1 ![0, 0, 1] (arg1 m d) slices_S2x512x14_S2x512x1_0_0_1) shapeCasts_S2x512x1_S2x512)
    shapeCasts_S2x512_S1024 := by
  unfold cmask atCall
  simp only [preOps]
  after_results_simp <;> rfl

theorem table_eq : table m d = shapeCast S2432 (concatenate S19x128 0 [⟨S18x128, arg2 m d⟩,
    ⟨S1x128, broadcastInDim S1x128 ![] bcast_S_S1x128 (constant S_ .f32 0x00000000#32)⟩] concatenates_S18x128_S1x128_S19x128_d0)
    shapeCasts_S19x128_S2432 := by
  unfold table atCall
  simp only [preOps]
  after_results_simp <;> rfl

theorem atEnd_eq : atEnd m d (tcB main_v11) = shapeCast S2x512x512x128 (result m d) shapeCasts_S524288x128_S2x512x512x128 := by
  unfold atEnd
  simp only [postOps]
  after_results_simp
  unfold afterCall
  rw [Function.update_self]
  rfl

/-! ### At an index -/

theorem coords_at (b : Fin 2) (r : Fin 512) (k : Fin 3) :
    coords m d (atC (b.val * 1536 + k.val * 512 + r.val)) = arg0 m d (ix4 b r 1 k) := by
  have hlt : b.val * 1536 + k.val * 512 + r.val < 3072 := by omega
  rw [coords_eq]
  rw [shapeCast_apply _ _ _ (ix3 b k r) (by
    rw [Shape.rowMajor_val_one, Shape.rowMajor_val_three, at1_val _ _ _ _ hlt]
    show (b.val * 3 + k.val) * 512 + r.val = _
    omega)]
  pointwise
  done

theorem cmask_at (b : Fin 2) (r : Fin 512) : cmask m d (atM (b.val * 512 + r.val)) = arg1 m d (ix3 b r 1) := by
  have hlt : b.val * 512 + r.val < 1024 := by omega
  rw [cmask_eq]
  rw [shapeCast_apply _ _ _ (ix2 b r) (by
    rw [Shape.rowMajor_val_one, Shape.rowMajor_val_two, at1_val _ _ _ _ hlt]
    rfl)]
  pointwise
  done

theorem table_at (n : Fin 19) (e : Fin 128) : table m d (atT (128 * n.val + e.val))
    = if h : n.val < 18 then arg2 m d (ix2 ⟨n.val, h⟩ e) else FloatOps.ofBits .f32 0x00000000#32 := by
  have hlt : 128 * n.val + e.val < 2432 := by omega
  rw [table_eq]
  rw [shapeCast_apply _ _ _ (ix2 n e) (by
    rw [Shape.rowMajor_val_one, Shape.rowMajor_val_two, at1_val _ _ _ _ hlt]
    show n.val * 128 + e.val = _
    omega)]
  pointwise
  done

theorem atEnd_at (b : Fin 2) (i j : Fin 512) (e : Fin 128) : (atEnd m d (tcB main_v11) : FVec F S2x512x512x128 .f32) (ix4 b i j e)
    = wordAt (table m d) (binW (arg0 m d (ix4 b i 1 0)) (arg0 m d (ix4 b i 1 1)) (arg0 m d (ix4 b i 1 2)) (arg1 m d (ix3 b i 1))
        (arg0 m d (ix4 b j 1 0)) (arg0 m d (ix4 b j 1 1)) (arg0 m d (ix4 b j 1 2)) (arg1 m d (ix3 b j 1))) e.val := by
  have hlt : (b.val * 512 + i.val) * 512 + j.val < 524288 := by omega
  rw [atEnd_eq]
  rw [shapeCast_apply _ _ _ (ix2 (⟨(b.val * 512 + i.val) * 512 + j.val, hlt⟩ : Fin 524288) e) (by
    rw [Shape.rowMajor_val_four, Shape.rowMajor_val_two]
    rfl)]
  have h1 : ((b.val * 512 + i.val) * 512 + j.val) / 512 = b.val * 512 + i.val := by omega
  have h2 : (b.val * 512 + i.val) / 512 = b.val := by omega
  have h3 : (b.val * 512 + i.val) % 512 = i.val := by omega
  have h4 : ((b.val * 512 + i.val) * 512 + j.val) % 512 = j.val := by omega
  unfold result outVal
  show wordAt _ (binW
    (coords m d (atC (((b.val * 512 + i.val) * 512 + j.val) / 512 / 512 * 1536 + ((b.val * 512 + i.val) * 512 + j.val) / 512 % 512)))
    (coords m d (atC (((b.val * 512 + i.val) * 512 + j.val) / 512 / 512 * 1536 + 512 + ((b.val * 512 + i.val) * 512 + j.val) / 512 % 512)))
    (coords m d (atC (((b.val * 512 + i.val) * 512 + j.val) / 512 / 512 * 1536 + 512 + 512
      + ((b.val * 512 + i.val) * 512 + j.val) / 512 % 512)))
    (cmask m d (atM (((b.val * 512 + i.val) * 512 + j.val) / 512 / 512 * 512 + ((b.val * 512 + i.val) * 512 + j.val) / 512 % 512)))
    (coords m d (atC (((b.val * 512 + i.val) * 512 + j.val) / 512 / 512 * 1536 + ((b.val * 512 + i.val) * 512 + j.val) % 512)))
    (coords m d (atC (((b.val * 512 + i.val) * 512 + j.val) / 512 / 512 * 1536 + 512 + ((b.val * 512 + i.val) * 512 + j.val) % 512)))
    (coords m d (atC (((b.val * 512 + i.val) * 512 + j.val) / 512 / 512 * 1536 + 512 + 512 + ((b.val * 512 + i.val) * 512 + j.val) % 512)))
    (cmask m d (atM (((b.val * 512 + i.val) * 512 + j.val) / 512 / 512 * 512 + ((b.val * 512 + i.val) * 512 + j.val) % 512)))) e.val = _
  rw [h1, h2, h3, h4]
  have c0 := fun r => coords_at m d b r 0
  have c1 := fun r => coords_at m d b r 1
  have c2 := fun r => coords_at m d b r 2
  simp only [Fin.val_zero, Fin.val_one, Fin.val_two, Nat.zero_mul, Nat.add_zero, Nat.one_mul] at c0 c1 c2
  rw [c0, c0, c1, c1, Nat.add_assoc (b.val * 1536) 512 512, c2, c2, cmask_at, cmask_at]

end Cert.Proof.Kern

end
-- ==== Proof.Reach.lean ====
/-
The bin of a squared distance, two ways, over the extended reals.

The kernel counts how many of seventeen thresholds a squared distance reaches; the reference takes the root, subtracts 3.375,
rounds down and clips to 0 … 17. The thresholds named are the squares of 3.375 + b less the number the reference adds under its
root, so the two agree at every squared distance (`count_eq_clip`).
-/
module

public import proofs.«01_k».proof.Proof.Bin
public import Idealize.ShloMosaic.PureOps.IdealRules

@[expose] public section

noncomputable section

namespace Cert.Proof.Reach

open Cert.KernelIdeal Cert.Proof.Bin
open Idealize.ShloMosaic

/-! ### Extended reals -/

/-- The square of a difference does not depend on its order. -/
theorem sq_sub_comm (a b : EReal) : (a - b) * (a - b) = (b - a) * (b - a) := by
  by_cases hab : a = b
  · rw [hab]
  · by_cases h1 : a ≠ ⊥ ∨ b ≠ ⊥
    · by_cases h2 : a ≠ ⊤ ∨ b ≠ ⊤
      · have h : -(a - b) = b - a := by rw [EReal.neg_sub h1 h2, sub_eq_add_neg, add_comm]
        rw [← h, neg_mul_neg]
      · push Not at h2
        exact absurd (h2.1.trans h2.2.symm) hab
    · push Not at h1
      exact absurd (h1.1.trans h1.2.symm) hab

theorem sq_nonneg' (a : EReal) : 0 ≤ a * a := by
  induction a with
  | bot => rw [EReal.bot_mul_bot]; exact le_top
  | top => rw [EReal.top_mul_top]; exact le_top
  | coe r => rw [← EReal.coe_mul]; exact EReal.coe_nonneg.mpr (mul_self_nonneg r)

/-! ### The constants -/

/-- The number the reference adds under its root. -/
def eps : ℝ := 2305843 / 2305843009213693952

theorem eps_bits : Ideal.ofBits .f32 0x2B8CBCCC#32 = ((eps : ℝ) : EReal) := by
  simp [Ideal.ofBits, Ideal.ieee, eps, -EReal.coe_mul]
  norm_num
theorem min_bits : Ideal.ofBits .f32 0x40580000#32 = ((3.375 : ℝ) : EReal) := by
  simp [Ideal.ofBits, Ideal.ieee, -EReal.coe_mul]
  norm_num
theorem one_bits : Ideal.ofBits .f32 0x3F800000#32 = 1 := by
  simp [Ideal.ofBits, Ideal.ieee, -EReal.coe_mul]
  norm_num
theorem zero_bits : Ideal.ofBits .f32 0x00000000#32 = 0 := by
  simp [Ideal.ofBits, Ideal.ieee, -EReal.coe_mul]

/-- Threshold `b`. -/
def thrR (b : ℕ) : ℝ := (3.375 + b) ^ 2 - eps

/-- The named thresholds are those. -/
theorem thrs_eq : (thrs : List (Ideal .f32)) = (List.range' 1 17).map fun b => ((thrR b : ℝ) : EReal) := by
  have h : ∀ {name : String} {w : BitVec 32} {n : ℝ} (b : ℕ), κ name = some ((n / 2305843009213693952 : ℝ) : EReal) →
      n / 2305843009213693952 = thrR b → (Named.named κ name w : Ideal .f32) = ((thrR b : ℝ) : EReal) :=
    fun b e en => by rw [← en]; exact IdealRules.named_const.ideal_named_scalar _ _ _ _ e
  have c : ∀ {a a' : EReal} {l l' : List EReal}, a = a' → l = l' → a :: l = a' :: l' := fun e e' => by rw [e, e']
  show _ = [_, _, _, _, _, _, _, _, _, _, _, _, _, _, _, _, _]
  unfold thrs
  refine c (h 1 rfl ?_) (c (h 2 rfl ?_) (c (h 3 rfl ?_) (c (h 4 rfl ?_) (c (h 5 rfl ?_) (c (h 6 rfl ?_) (c (h 7 rfl ?_)
    (c (h 8 rfl ?_) (c (h 9 rfl ?_) (c (h 10 rfl ?_) (c (h 11 rfl ?_) (c (h 12 rfl ?_) (c (h 13 rfl ?_) (c (h 14 rfl ?_)
    (c (h 15 rfl ?_) (c (h 16 rfl ?_) (c (h 17 rfl ?_) rfl)))))))))))))))) <;>
  · unfold thrR eps
    norm_num

/-! ### The bins -/

/-- How many of 1 … 17 a whole number reaches. -/
def countZ (k : ℤ) : BitVec 32 :=
  (List.range' 1 17).foldl (fun acc (b : ℕ) => IntOp.addi acc (Scalar.select (BitVec.ofBool (decide ((b : ℤ) ≤ k))) 1#32 0#32)) 0#32

/-- A count over the thresholds by what each comparison says. -/
theorem countW_of (D : EReal) (k : ℤ) (h : ∀ b : ℕ, 1 ≤ b → b ≤ 17 → (((thrR b : ℝ) : EReal) ≤ D ↔ (b : ℤ) ≤ k)) :
    countW (thrs : List (Ideal .f32)) D = countZ k := by
  unfold countW countZ
  rw [thrs_eq, List.foldl_map]
  refine List.foldl_ext _ _ _ fun acc b hb => ?_
  rw [List.mem_range'_1] at hb
  show IntOp.addi acc (Scalar.select (BitVec.ofBool (decide (((thrR b : ℝ) : EReal) ≤ D))) 1#32 0#32) = _
  rw [decide_eq_decide.mpr (h b hb.1 (by omega))]

/-- The row the reference takes for a squared distance: the root less 3.375, rounded down, clipped. -/
def refBin (D : EReal) : BitVec 32 :=
  IntOp.minsi 17#32 (IntOp.maxsi 0#32 (Ideal.fptosi 32 (Ideal.liftRound Int.floor
    (Ideal.div (Ideal.sqrt (D + Ideal.ofBits .f32 0x2B8CBCCC#32) - Ideal.ofBits .f32 0x40580000#32) (Ideal.ofBits .f32 0x3F800000#32)))))

theorem div_one' (x : EReal) : Ideal.div x 1 = x := by
  unfold Ideal.div
  rw [if_neg one_ne_zero, inv_one, mul_one]

/-- The clip of a word is the clip of its number. -/
theorem clip_word (x : BitVec 32) : IntOp.minsi 17#32 (IntOp.maxsi 0#32 x) = BitVec.ofInt 32 (max 0 (min 17 x.toInt)) := by
  have h0 : (0#32 : BitVec 32).toInt = 0 := rfl
  have h17 : (17#32 : BitVec 32).toInt = 17 := rfl
  have hm : ∀ y : BitVec 32, IntOp.minsi 17#32 y = if 17 < y.toInt then 17#32 else y := fun y => by
    unfold IntOp.minsi BitVec.slt
    rw [h17]
    simp only [decide_eq_true_eq]
  have hM : IntOp.maxsi 0#32 x = if x.toInt < 0 then 0#32 else x := by
    unfold IntOp.maxsi BitVec.slt
    rw [h0]
    simp only [decide_eq_true_eq]
  rw [hM]
  by_cases hx : x.toInt < 0
  · rw [if_pos hx, max_eq_left (by omega)]
    rfl
  · rw [if_neg hx, hm]
    by_cases h1 : 17 < x.toInt
    · rw [if_pos h1, min_eq_left (by omega)]
      rfl
    · rw [if_neg h1, min_eq_right (by omega), max_eq_right (by omega), BitVec.ofInt_toInt]

/-- The clip of a whole number held in a word. -/
theorem clip_eq (k : ℤ) :
    IntOp.minsi 17#32 (IntOp.maxsi 0#32 (BitVec.ofInt 32 (max (-2147483648) (min 2147483647 k)))) = countZ k := by
  have hj : (BitVec.ofInt 32 (max (-2147483648) (min 2147483647 k))).toInt = max (-2147483648) (min 2147483647 k) := by
    rw [BitVec.toInt_ofInt]
    exact Int.bmod_eq_of_le (by norm_num) (by norm_num)
  have lo : k ≤ 0 → countZ k = 0#32 := fun hk => by
    unfold countZ
    have e : ∀ b ∈ List.range' 1 17, ∀ acc : BitVec 32,
        IntOp.addi acc (Scalar.select (BitVec.ofBool (decide ((b : ℤ) ≤ k))) 1#32 0#32) = acc := fun b hb acc => by
      rw [List.mem_range'_1] at hb
      rw [decide_eq_false (by omega)]
      exact BitVec.add_zero acc
    rw [List.foldl_ext _ (fun acc _ => acc) _ fun acc b hb => e b hb acc]
    rfl
  have hi : 17 ≤ k → countZ k = 17#32 := fun hk => by
    unfold countZ
    rw [List.foldl_ext _ (fun acc _ => acc + 1#32) _ fun acc b hb => ?_]
    · rfl
    · rw [List.mem_range'_1] at hb
      rw [decide_eq_true (by omega)]
      rfl
  rw [clip_word, hj]
  by_cases h0 : k ≤ 0
  · rw [lo h0, max_eq_left (by omega)]
    rfl
  · by_cases h1 : 17 ≤ k
    · rw [hi h1, min_eq_left (by omega)]
      rfl
    · rw [show max 0 (min 17 (max (-2147483648) (min 2147483647 k))) = k by omega]
      push Not at h0 h1
      interval_cases k <;> decide

/-- The two ways agree. -/
theorem count_eq_clip (D : EReal) (hD : 0 ≤ D) : countW (thrs : List (Ideal .f32)) D = refBin D := by
  unfold refBin
  rw [eps_bits, min_bits, one_bits, div_one']
  induction D with
  | bot => exact absurd hD (by simp)
  | top =>
    rw [countW_of ⊤ 17 fun b _ hb => ⟨fun _ => by omega, fun _ => le_top⟩]
    rw [EReal.top_add_coe, Ideal.sqrt_top, EReal.top_sub_coe]
    show _ = IntOp.minsi 17#32 (IntOp.maxsi 0#32 (BitVec.ofInt 32 (2147483647)))
    decide
  | coe d =>
    have hd : 0 ≤ d := EReal.coe_nonneg.mp hD
    have he : 0 ≤ d + eps := by unfold eps; positivity
    have hk : ∀ b : ℕ, 1 ≤ b → b ≤ 17 → (((thrR b : ℝ) : EReal) ≤ (d : EReal) ↔ (b : ℤ) ≤ ⌊Real.sqrt (d + eps) - 3.375⌋) := by
      intro b _ _
      rw [EReal.coe_le_coe_iff, Int.le_floor, Int.cast_natCast, le_sub_iff_add_le, Real.le_sqrt' (by positivity), thrR,
        sub_le_iff_le_add, add_comm (b : ℝ)]
    rw [countW_of _ _ hk, ← clip_eq, ← EReal.coe_add, Ideal.sqrt_coe, if_neg (not_lt.mpr he), ← EReal.coe_sub]
    show _ = IntOp.minsi 17#32 (IntOp.maxsi 0#32 (BitVec.ofInt 32 (max (-2147483648) (min 2147483647 (if (0:ℝ) ≤ _ then _ else _)))))
    rw [Int.floor_intCast, Int.ceil_intCast, ite_self]

/-- The row is one of the first eighteen. -/
theorem refBin_lt (D : EReal) : 0 ≤ (refBin D).toInt ∧ (refBin D).toInt < 18 := by
  unfold refBin
  rw [clip_word, BitVec.toInt_ofInt, Int.bmod_eq_of_le (by omega) (by omega)]
  omega

end Cert.Proof.Reach

end
-- ==== Proof.RefVal.lean ====
/-
What the reference computes, at an index: the mask product times the embedding of the clipped bin.
-/
module

public import proofs.«01_k».proof.Proof.Reach
public import proofs.«01_k».proof.Proof.Gen.ReferenceIdeal.Run
public import Idealize.ShloMosaic.Lib.Pointwise
public import Idealize.ShloMosaic.Lib.ReduceAll

@[expose] public section

noncomputable section

namespace Cert.Proof.Ref

open Cert.ReferenceIdeal Cert.Proof.Reach
open Cert.ReferenceIdeal.Facts₀
open Idealize.ShloMosaic

variable (a0 : FVec Ideal S2x512x14x3 .f32) (a1 : FVec Ideal S2x512x14 .f32) (a2 : FVec Ideal S18x128 .f32)

/-- The coordinates of the points, and their mask. -/
def cordA : FVec Ideal S2x512x3 .f32 :=
  shapeCast _ (extractStridedSlice S2x512x1x3 ![0, 0, 1, 0] a0 slices_S2x512x14x3_S2x512x1x3_0_0_1_0) shapeCasts_S2x512x1x3_S2x512x3
def cmskA : FVec Ideal S2x512 .f32 :=
  shapeCast _ (extractStridedSlice S2x512x1 ![0, 0, 1] a1 slices_S2x512x14_S2x512x1_0_0_1) shapeCasts_S2x512x1_S2x512

/-- The difference of every two points. -/
def diffA : FVec Ideal S2x512x512x3 .f32 :=
  subf (broadcastInDim S2x512x512x3 ![0, 1, 2, 3] bcast_S2x512x1x3_S2x512x512x3_0_1_2_3
      (broadcastInDim S2x512x1x3 ![0, 1, 3] bcast_S2x512x3_S2x512x1x3_0_1_3 (cordA a0)))
    (broadcastInDim S2x512x512x3 ![0, 1, 2, 3] bcast_S2x1x512x3_S2x512x512x3_0_1_2_3
      (broadcastInDim S2x1x512x3 ![0, 2, 3] bcast_S2x512x3_S2x1x512x3_0_2_3 (cordA a0)))

/-- Their squared distance. -/
def sqA : FVec Ideal S2x512x512 .f32 :=
  Host.reduceAdd (mulf (diffA a0) (diffA a0)) (constant S_ .f32 0x00000000#32) reducesTo_S2x512x512x3_S2x512x512_d3 h_S_

/-- Their bin. -/
def binA : IVec S2x512x512 32 :=
  minsi (broadcastInDim S2x512x512 ![] bcast_S_S2x512x512 (id (constantI S_ 32 17#32)))
    (maxsi (broadcastInDim S2x512x512 ![] bcast_S_S2x512x512 (id (constantI S_ 32 0#32)))
      (fptosi 32 (Host.floor (Host.divf (subf (Host.sqrt (addf (sqA a0) (broadcastInDim S2x512x512 ![] bcast_S_S2x512x512
        (constant S_ .f32 0x2B8CBCCC#32)))) (broadcastInDim S2x512x512 ![] bcast_S_S2x512x512 (constant S_ .f32 0x40580000#32)))
        (broadcastInDim S2x512x512 ![] bcast_S_S2x512x512 (constant S_ .f32 0x3F800000#32))))))

/-- The product of the two mask values. -/
def dmskA : FVec Ideal S2x512x512 .f32 :=
  mulf (broadcastInDim S2x512x512 ![0, 1, 2] bcast_S2x512x1_S2x512x512_0_1_2
      (broadcastInDim S2x512x1 ![0, 1] bcast_S2x512_S2x512x1_0_1 (cmskA a1)))
    (broadcastInDim S2x512x512 ![0, 1, 2] bcast_S2x1x512_S2x512x512_0_1_2
      (broadcastInDim S2x1x512 ![0, 2] bcast_S2x512_S2x1x512_0_2 (cmskA a1)))

/-- The row a lookup reads: a negative one from the end. -/
def rowA (b : IVec S2x512x512 32) : IVec S2x512x512x1 32 :=
  broadcastInDim S2x512x512x1 ![0, 1, 2] bcast_S2x512x512_S2x512x512x1_0_1_2
    (select (cmpi .slt b (broadcastInDim S2x512x512 ![] bcast_S_S2x512x512 (constantI S_ 32 0#32)))
      (addi b (broadcastInDim S2x512x512 ![] bcast_S_S2x512x512 (constantI S_ 32 18#32))) b)

/-- Whether the row is one of the table's. -/
def insideA (r : IVec S2x512x512x1 32) : IVec S2x512x512 1 :=
  Host.reduce IntOp.andi
    (andi (cmpi .sge r (broadcastInDim S2x512x512x1 ![] bcast_S_S2x512x512x1 (constantI S_ 32 0#32)))
      (cmpi .sle r (broadcastInDim S2x512x512x1 ![0, 1, 2, 3] bcast_S1x1x1x1_S2x512x512x1_0_1_2_3
        (broadcastInDim S1x1x1x1 ![3] bcast_S1_S1x1x1x1_3 (constantI S1 32 17#32)))))
    (constantI S_ 1 1#1) reducesTo_S2x512x512x1_S2x512x512_d3 h_S_

/-- The lookup. -/
def takeA (r : IVec S2x512x512x1 32) : FVec Ideal S2x512x512x128 .f32 :=
  select (broadcastInDim S2x512x512x128 ![0, 1, 2] bcast_S2x512x512_S2x512x512x128_0_1_2 (insideA r))
    (Host.gather gather_S18x128_S2x512x512x1_S2x512x512x128_3_0_n_n_0_3_1128 a2 r)
    (broadcastInDim S2x512x512x128 ![] bcast_S_S2x512x512x128 (constant S_ .f32 0x7FC00000#32))

/-- The result. -/
def outA : FVec Ideal S2x512x512x128 .f32 :=
  mulf (broadcastInDim S2x512x512x128 ![0, 1, 2, 3] bcast_S2x512x512x1_S2x512x512x128_0_1_2_3
      (broadcastInDim S2x512x512x1 ![0, 1, 2] bcast_S2x512x512_S2x512x512x1_0_1_2 (dmskA a1)))
    (takeA a2 (rowA (binA a0)))

set_option maxRecDepth 8192 in
set_option maxHeartbeats 4000000 in
theorem res_eq (m : (ℓ : Loc nD τ sig) → Buf (Elt Ideal) ℓ) (c : Dev nD) :
    Value.res_main_v29 m c = outA (m ((c.tc : Thread nD τ).loc main_arg0)) (m ((c.tc : Thread nD τ).loc main_arg1))
      (m ((c.tc : Thread nD τ).loc main_arg2)) := rfl

theorem cordA_apply (b : Fin 2) (i : Fin 512) (k : Fin 3) : cordA a0 (ix3 b i k) = a0 (ix4 b i 1 k) := by
  unfold cordA
  pointwise
  done
theorem cmskA_apply (b : Fin 2) (i : Fin 512) : cmskA a1 (ix2 b i) = a1 (ix3 b i 1) := by
  unfold cmskA
  pointwise
  done
theorem dmskA_apply (b : Fin 2) (i j : Fin 512) : dmskA a1 (ix3 b i j) = a1 (ix3 b i 1) * a1 (ix3 b j 1) := by
  unfold dmskA
  pointwise
  rw [cmskA_apply, cmskA_apply]
theorem sqA_apply (b : Fin 2) (i j : Fin 512) : sqA a0 (ix3 b i j)
    = ∑ k : Fin 3, (a0 (ix4 b i 1 k) - a0 (ix4 b j 1 k)) * (a0 (ix4 b i 1 k) - a0 (ix4 b j 1 k)) := by
  unfold sqA diffA
  pointwise
  simp only [cordA_apply]
theorem binA_apply (b : Fin 2) (i j : Fin 512) : binA a0 (ix3 b i j) = refBin (sqA a0 (ix3 b i j)) := rfl

/-! ### The lookup -/

/-- The three comparisons of a lookup, at a row of the table. -/
theorem notNeg {w : BitVec 32} (h : 0 ≤ w.toInt) : IntOp.cmpi .slt w 0#32 = 0#1 := by
  have e : w.slt 0#32 = false := decide_eq_false (not_lt.2 h)
  exact congrArg BitVec.ofBool e
theorem geZero {w : BitVec 32} (h : 0 ≤ w.toInt) : IntOp.cmpi .sge w 0#32 = 1#1 := by
  have e : (0#32).sle w = true := decide_eq_true h
  exact congrArg BitVec.ofBool e
theorem leLast {w : BitVec 32} (h : w.toInt < 18) : IntOp.cmpi .sle w 17#32 = 1#1 := by
  have e : w.sle 17#32 = true := decide_eq_true (Int.lt_add_one_iff.1 h)
  exact congrArg BitVec.ofBool e

/-- A lookup of rows that are all the table's reads where it is told. -/
theorem rowA_apply (B : IVec S2x512x512 32) (hB : ∀ y, 0 ≤ (B y).toInt ∧ (B y).toInt < 18) (b : Fin 2) (i j : Fin 512) (z : Fin 1) :
    rowA B (ix4 b i j z) = B (ix3 b i j) := by
  unfold rowA
  pointwise
  rw [notNeg (hB _).1]
  rfl

theorem insideA_apply (r : IVec S2x512x512x1 32) (hr : ∀ y, 0 ≤ (r y).toInt ∧ (r y).toInt < 18) (y : S2x512x512.Idx) :
    insideA r y = 1#1 := by
  unfold insideA
  refine Host.reduce_andi_one _ _ _ _ _ rfl fun z => ?_
  show IntOp.andi (IntOp.cmpi .sge (r z) 0#32) (IntOp.cmpi .sle (r z) 17#32) = 1#1
  rw [geZero (hr z).1, leLast (hr z).2]
  rfl

/-- The dimensions of the lookup. -/
abbrev lookDims := gather_S18x128_S2x512x512x1_S2x512x512x128_3_0_n_n_0_3_1128

/-- The rows of a table by their numbers: at `(b, i, j, e)`, column `e` of the row the number at `(b, i, j)` names. -/
theorem gather_apply (r : IVec S2x512x512x1 32) (b : Fin 2) (i j : Fin 512)
    (e : Fin 128) (n : Fin 18) (hn : (r (ix4 b i j 0)).toInt = n.val) :
    Host.gather lookDims a2 r (ix4 b i j e) = a2 (ix2 n e) := by
  unfold Host.gather
  congr 1
  funext a
  refine Fin.ext ?_
  show lookDims.start (ix4 b i j e) r a + lookDims.batchCoord (ix4 b i j e) a + lookDims.offCoord (ix4 b i j e) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ lookDims.startIndexMap from List.mem_singleton.mpr rfl)]
    have hs : lookDims.siIdx (ix4 b i j e) ⟨List.idxOf (0 : Fin 2) lookDims.startIndexMap,
        List.idxOf_lt_length_iff.2 (List.mem_singleton.mpr rfl)⟩ = ix4 b i j 0 := by
      funext k
      refine Fin.ext ?_
      match k with
      | ⟨0, _⟩ => rfl
      | ⟨1, _⟩ => rfl
      | ⟨2, _⟩ => rfl
      | ⟨3, _⟩ => rfl
    rw [hs, hn]
    exact min_eq_left (Nat.le_of_lt_succ n.isLt)
  · have h0 : lookDims.start (ix4 b i j e) r 1 = 0 := by
      unfold GatherDims.start
      rw [dif_neg (show ¬(1 : Fin 2) ∈ lookDims.startIndexMap by decide)]
    rw [h0, Nat.zero_add]
    unfold GatherDims.offCoord
    rw [dif_pos (show (1 : Fin 2) ∈ lookDims.sKept by decide)]
    rfl

/-- The result at an index. -/
theorem outA_apply (b : Fin 2) (i j : Fin 512) (e : Fin 128) (n : Fin 18) (hn : (refBin (sqA a0 (ix3 b i j))).toInt = n.val) :
    outA a0 a1 a2 (ix4 b i j e) = a1 (ix3 b i 1) * a1 (ix3 b j 1) * a2 (ix2 n e) := by
  have hB : ∀ y, 0 ≤ (binA a0 y).toInt ∧ (binA a0 y).toInt < 18 := fun y => refBin_lt (sqA a0 y)
  have hr : ∀ y, 0 ≤ (rowA (binA a0) y).toInt ∧ (rowA (binA a0) y).toInt < 18 := fun y => by
    have hy : y = ix4 (y 0) (y 1) (y 2) (y 3) := by
      funext k
      match k with
      | ⟨0, _⟩ => rfl
      | ⟨1, _⟩ => rfl
      | ⟨2, _⟩ => rfl
      | ⟨3, _⟩ => rfl
    have e := (congrArg (rowA (binA a0)) hy).trans (rowA_apply _ hB (y 0) (y 1) (y 2) (y 3))
    rw [e]; exact hB _
  have hg := gather_apply a2 (rowA (binA a0)) b i j e n (by rw [rowA_apply _ hB]; exact hn)
  have ht : takeA a2 (rowA (binA a0)) (ix4 b i j e) = a2 (ix2 n e) := by
    rw [← hg]
    unfold takeA
    generalize hI : insideA (rowA (binA a0)) = I
    have hI' : ∀ y, I y = 1#1 := fun y => by rw [← hI]; exact insideA_apply _ hr y
    exact if_pos (hI' _)
  have hm : broadcastInDim S2x512x512x128 ![0, 1, 2, 3] bcast_S2x512x512x1_S2x512x512x128_0_1_2_3
      (broadcastInDim S2x512x512x1 ![0, 1, 2] bcast_S2x512x512_S2x512x512x1_0_1_2 (dmskA a1)) (ix4 b i j e)
      = a1 (ix3 b i 1) * a1 (ix3 b j 1) := by
    rw [← dmskA_apply]
    pointwise
  unfold outA
  generalize hT : takeA a2 (rowA (binA a0)) = T at ht ⊢
  rw [← ht, ← hm]
  rfl

end Cert.Proof.Ref

end
-- ==== Proof.Equal.lean ====
/-
The kernel's result is the reference's when the mask's words are 0 and 1.

A pair of unmasked atoms takes the row of the table its bin names in both programs. For any other pair the kernel takes the
nineteenth row, which is zero, and the reference multiplies a row by zero.
-/
module

public import proofs.«01_k».proof.Defs
public import proofs.«01_k».proof.Proof.Frames
public import proofs.«01_k».proof.Proof.KernVal
public import proofs.«01_k».proof.Proof.RefVal
public import proofs.«01_k».proof.Proof.Reach
public import Idealize.ShloMosaic.Lib.ReduceAll

@[expose] public section

noncomputable section

namespace Cert.Proof.Equal

open Cert.KernelIdeal Cert.KernelIdeal.Gen Cert.Proof.Bin Cert.Proof.Reach Cert.Proof.Kern
open Idealize.ShloMosaic

/-! ### The mask -/

/-- A comparison for equality that says yes. -/
theorem eq_of_cmp {x y : EReal} (h : FloatOps.cmpf (F := Ideal) (φ := .f32) .oeq x y = 1#1) : x = y := by
  by_contra hn
  have e : FloatOps.cmpf (F := Ideal) (φ := .f32) .oeq x y = 0#1 := congrArg BitVec.ofBool (decide_eq_false hn)
  rw [e] at h
  exact absurd h (by decide)

/-- A bit that is one of two is one of them. -/
theorem or_one : ∀ p q : BitVec 1, IntOp.ori p q = 1#1 → p = 1#1 ∨ q = 1#1 := by decide

/-- Under the precondition the mask of the second atom is 0 or 1 in every row. -/
theorem mask_binary [Cert.Pre_mask_is_binary.Facts] (a0 : FVec Ideal S2x512x14x3 .f32) (a1 : FVec Ideal S2x512x14 .f32)
    (a2 : FVec Ideal S18x128 .f32) (h : Cert.Pre_mask_is_binary.fn (F := Ideal) a0 a1 a2 = fun _ => 1#1) (b : Fin 2) (i : Fin 512) :
    a1 (ix3 b i 1) = 0 ∨ a1 (ix3 b i 1) = 1 := by
  haveI : Subsingleton Cert.Pre_mask_is_binary.S_.Idx := ⟨fun x y => funext fun a => a.elim0⟩
  have hx := Host.reduce_andi_all _ _ _ _ (fun a => a.elim0) (congrFun h fun a => a.elim0) (ix2 b i)
  have hw : shapeCast Cert.Pre_mask_is_binary.S2x512 (extractStridedSlice Cert.Pre_mask_is_binary.S2x512x1 ![0, 0, 1] a1
      Cert.Pre_mask_is_binary.Facts.slices_S2x512x14_S2x512x1_0_0_1) Cert.Pre_mask_is_binary.Facts.shapeCasts_S2x512x1_S2x512 (ix2 b i)
      = a1 (ix3 b i 1) := by
    pointwise
  rcases or_one _ _ hx with h0 | h1
  · exact .inl (hw.symm.trans ((eq_of_cmp h0).trans zero_bits))
  · exact .inr (hw.symm.trans ((eq_of_cmp h1).trans one_bits))

/-! ### A pair -/

/-- The kernel's squared distance is the reference's: the differences are taken the other way round. -/
theorem dist_eq (p q : Fin 3 → EReal) : distW (F := Ideal) (p 0) (p 1) (p 2) (q 0) (q 1) (q 2) = ∑ k : Fin 3, (p k - q k) * (p k - q k) := by
  rw [Fin.sum_univ_three, sq_sub_comm (p 0), sq_sub_comm (p 1), sq_sub_comm (p 2)]
  rfl

theorem dist_nonneg (p q : Fin 3 → EReal) : 0 ≤ ∑ k : Fin 3, (p k - q k) * (p k - q k) :=
  Finset.sum_nonneg fun k _ => sq_nonneg' _

/-- The row the kernel takes: the bin of two unmasked atoms, else the last. -/
theorem binW_one (p q : Fin 3 → EReal) : binW (F := Ideal) (p 0) (p 1) (p 2) (1 : EReal) (q 0) (q 1) (q 2) (1 : EReal)
    = refBin (∑ k : Fin 3, (p k - q k) * (p k - q k)) := by
  rw [← count_eq_clip _ (dist_nonneg p q), ← dist_eq]
  unfold binW
  have e : FloatOps.cmpf (F := Ideal) (φ := .f32) .ogt ((1 : EReal) * 1) (Ideal.ofBits .f32 0x00000000#32) = 1#1 := by
    rw [zero_bits, one_mul]
    exact congrArg BitVec.ofBool (decide_eq_true zero_lt_one)
  exact if_pos e

theorem binW_zero (p q : Fin 3 → EReal) (u w : EReal) (h : w * u = 0) :
    binW (F := Ideal) (p 0) (p 1) (p 2) u (q 0) (q 1) (q 2) w = 18#32 := by
  unfold binW
  have e : FloatOps.cmpf (F := Ideal) (φ := .f32) .ogt (w * u) (Ideal.ofBits .f32 0x00000000#32) = 0#1 := by
    rw [zero_bits, h]
    exact congrArg BitVec.ofBool (decide_eq_false (lt_irrefl _))
  exact if_neg (by rw [show FloatOps.cmpf (F := Ideal) (φ := .f32) .ogt (FloatOps.mulf (F := Ideal) (φ := .f32) w u)
    (Scalar.ofBits .f32 0x00000000#32) = 0#1 from e]; decide)

/-! ### The result -/

/-- A word that is not negative as a signed number has one value. -/
theorem toNat_of_toInt {w : BitVec 32} {n : ℕ} (h : w.toInt = n) (hn : n < 18) : w.toNat = n := by
  rw [BitVec.toInt_eq_toNat_cond] at h
  have := w.isLt
  split at h <;> omega

variable (m : (ℓ : Loc nD τ sig) → Buf (Elt Ideal) ℓ) (d : Dev nD)

/-- The two results at an index. -/
theorem equal_at (hM : ∀ b i, arg1 m d (ix3 b i 1) = (0 : EReal) ∨ arg1 m d (ix3 b i 1) = (1 : EReal)) (b : Fin 2) (i j : Fin 512)
    (e : Fin 128) : (atEnd m d (tcB main_v11) : FVec Ideal S2x512x512x128 .f32) (ix4 b i j e)
      = Cert.Proof.Ref.outA (arg0 m d) (arg1 m d) (arg2 m d) (ix4 b i j e) := by
  have hs := Cert.Proof.Ref.sqA_apply (arg0 m d) b i j
  obtain ⟨hl, hu⟩ := refBin_lt (Cert.Proof.Ref.sqA (arg0 m d) (ix3 b i j))
  obtain ⟨n, hn⟩ : ∃ n : Fin 18, (refBin (Cert.Proof.Ref.sqA (arg0 m d) (ix3 b i j))).toInt = (n.val : ℤ) :=
    ⟨⟨(refBin (Cert.Proof.Ref.sqA (arg0 m d) (ix3 b i j))).toInt.toNat, by omega⟩, (Int.toNat_of_nonneg hl).symm⟩
  rw [Cert.Proof.Ref.outA_apply _ _ _ b i j e n hn, atEnd_at]
  have hz : ∀ u w : EReal, w * u = 0 → wordAt (table m d) (binW (F := Ideal) (arg0 m d (ix4 b i 1 0)) (arg0 m d (ix4 b i 1 1))
      (arg0 m d (ix4 b i 1 2)) u (arg0 m d (ix4 b j 1 0)) (arg0 m d (ix4 b j 1 1)) (arg0 m d (ix4 b j 1 2)) w) e.val = (0 : EReal) := by
    intro u w h
    rw [binW_zero (fun k => arg0 m d (ix4 b i 1 k)) (fun k => arg0 m d (ix4 b j 1 k)) u w h]
    exact (table_at m d 18 e).trans ((dif_neg (by decide)).trans zero_bits)
  rcases hM b i with hi | hi
  · rw [hi]
    refine (hz _ _ (mul_zero _)).trans ?_
    show _ = (0 : EReal) * _ * _
    rw [zero_mul, zero_mul]
  · rcases hM b j with hj | hj
    · rw [hj]
      refine (hz _ _ (zero_mul _)).trans ?_
      show _ = (_ : EReal) * 0 * _
      rw [mul_zero, zero_mul]
    · rw [hi, hj, binW_one (fun k => arg0 m d (ix4 b i 1 k)) (fun k => arg0 m d (ix4 b j 1 k)), ← hs]
      unfold wordAt
      rw [toNat_of_toInt hn n.isLt]
      refine (table_at m d ⟨n.val, by omega⟩ e).trans ((dif_pos n.isLt).trans ?_)
      show _ = (1 : EReal) * 1 * _
      rw [one_mul, one_mul]

/-- The two results. -/
theorem equal (hM : ∀ b i, arg1 m d (ix3 b i 1) = (0 : EReal) ∨ arg1 m d (ix3 b i 1) = (1 : EReal)) :
    atEnd m d (tcB main_v11) = Cert.Proof.Ref.outA (arg0 m d) (arg1 m d) (arg2 m d) := by
  funext (y : S2x512x512x128.Idx)
  have hy : y = ix4 (y 0) (y 1) (y 2) (y 3) := by
    funext k
    match k with
    | ⟨0, _⟩ => rfl
    | ⟨1, _⟩ => rfl
    | ⟨2, _⟩ => rfl
    | ⟨3, _⟩ => rfl
  exact (congrArg (atEnd m d (tcB main_v11)) hy).trans ((equal_at m d hM (y 0) (y 1) (y 2) (y 3)).trans
    (congrArg (Cert.Proof.Ref.outA (arg0 m d) (arg1 m d) (arg2 m d)) hy).symm)

end Cert.Proof.Equal

namespace Cert.Proof

open Idealize.ShloMosaic Cert.Proof.Kern Cert.Proof.Equal

/-- From the same arguments, with a mask of zeros and ones, the two programs end with the same result. -/
theorem algebraic_kernel [hp : Cert.Pre_mask_is_binary.Facts] : Cert.algebraic_KernelIdeal_ReferenceIdeal_pre_mask_is_binary :=
    fun m g m' g' hpre hargs =>
  ⟨fun c => atEnd m c (tcB Cert.KernelIdeal.main_v11),
    (θ_run Cert.KernelIdeal.defs _ _).mono
      (fun _ h c => ⟨h.1 c (tcB Cert.KernelIdeal.main_v11) (by decide), (kept_of_QC m h).1 c⟩) (run_main (F := Ideal) m g),
    (θ_run Cert.ReferenceIdeal.defs _ _).mono
      (fun _ h c => ⟨(h c).1.trans (by
        rw [Ref.res_eq, (hargs c).1, (hargs c).2.1, (hargs c).2.2]
        exact (equal m c (mask_binary _ _ _ (hpre c))).symm), (h c).2⟩)
      (Cert.ReferenceIdeal.Value.run m' g')⟩

end Cert.Proof

end
-- ==== Proof.lean ====
/-
The proof of the claim: the frames of the three programs, the named constants, and the equality of the two ideal programs' results
when the mask's words are 0 and 1.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.FrameKernel
public import proofs.«01_k».proof.Proof.Others
public import proofs.«01_k».proof.Proof.PreFrames
public import proofs.«01_k».proof.Proof.Equal

@[expose] public section

noncomputable section

namespace Cert.Proof

open Idealize.ShloMosaic Idealize.SL.Sem

/-- The shapes the precondition's operations take fit. -/
theorem preFacts : Cert.Pre_mask_is_binary.Facts where
  slices_S2x512x14_S2x512x1_0_0_1 := by decide
  shapeCasts_S2x512x1_S2x512 := by decide
  bcast_S_S2x512 := by decide
  reducesTo_S2x512_S_d0_1 := by decide
  h_S_ := by decide

theorem claim : Cert.Claim :=
  haveI := preFacts
  ⟨Cert.Kernel.Gen.facts, Cert.KernelIdeal.Gen.facts, Cert.ReferenceIdeal.Gen.facts, preFacts, Kern.frame_kernel,
    Kern.frame_kernelIdeal, frame_kernelIdeal_pre, frame_referenceIdeal, frame_referenceIdeal_pre, preserves_kernel, algebraic_kernel⟩

end Cert.Proof

end
